-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjAB (m : (ℓ : Loc Cert.ProjAB.nD Cert.ProjAB.τ Cert.ProjAB.sig) → Buf (Elt Bits) ℓ) : Prop :=
  True

def Pre_ProjABIdeal (m : (ℓ : Loc Cert.ProjABIdeal.nD Cert.ProjABIdeal.τ Cert.ProjABIdeal.sig) → Buf (Elt Ideal) ℓ) : Prop :=
  True

def Pre_ProjABRefIdeal (m : (ℓ : Loc Cert.ProjABRefIdeal.nD Cert.ProjABRefIdeal.τ Cert.ProjABRefIdeal.sig) → Buf (Elt Ideal) ℓ) : Prop :=
  True

def Pre_OutAB (m : (ℓ : Loc Cert.OutAB.nD Cert.OutAB.τ Cert.OutAB.sig) → Buf (Elt Bits) ℓ) : Prop :=
  True

def Pre_OutABIdeal (m : (ℓ : Loc Cert.OutABIdeal.nD Cert.OutABIdeal.τ Cert.OutABIdeal.sig) → Buf (Elt Ideal) ℓ) : Prop :=
  True

def Pre_OutABRefIdeal (m : (ℓ : Loc Cert.OutABRefIdeal.nD Cert.OutABRefIdeal.τ Cert.OutABRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_numbers [hPre_numbers : Cert.Pre_numbers.Facts] (m : (ℓ : Loc Cert.RouterIdeal.nD Cert.RouterIdeal.τ Cert.RouterIdeal.sig) → Buf (Elt Ideal) ℓ) : Prop :=
  ∀ c : Dev Cert.RouterIdeal.nD,
    (Cert.Pre_numbers.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_numbers [hPre_numbers : Cert.Pre_numbers.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_numbers.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5))) = (fun _ => 1#1)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_ProjAB [hProjAB : Cert.ProjAB.Facts] : Prop :=
  ∀ (m : (ℓ : Loc Cert.ProjAB.nD Cert.ProjAB.τ Cert.ProjAB.sig) → Buf (Elt Bits) ℓ) (g : Dev Cert.ProjAB.nD → PrngReg), Pre_ProjAB m →
    θ_run (Cert.ProjAB.defs (F := Bits)) (onTc (τ := Cert.ProjAB.τ) (Cert.ProjAB.main (F := Bits))) ⟨m, fun _ => 0, g⟩ (fun r => (∀ c : Dev Cert.ProjAB.nD,
      r.2.mem ((c.tc : Thread Cert.ProjAB.nD Cert.ProjAB.τ).loc Cert.ProjAB.main_arg0) = m ((c.tc : Thread Cert.ProjAB.nD Cert.ProjAB.τ).loc Cert.ProjAB.main_arg0)
      ∧ r.2.mem ((c.tc : Thread Cert.ProjAB.nD Cert.ProjAB.τ).loc Cert.ProjAB.main_arg1) = m ((c.tc : Thread Cert.ProjAB.nD Cert.ProjAB.τ).loc Cert.ProjAB.main_arg1)
      ∧ r.2.mem ((c.tc : Thread Cert.ProjAB.nD Cert.ProjAB.τ).loc Cert.ProjAB.main_arg2) = m ((c.tc : Thread Cert.ProjAB.nD Cert.ProjAB.τ).loc Cert.ProjAB.main_arg2))
      ∧ r.2.sem = fun _ => 0)

def quiescent_ProjABIdeal [hProjABIdeal : Cert.ProjABIdeal.Facts] : Prop :=
  ∀ (m : (ℓ : Loc Cert.ProjABIdeal.nD Cert.ProjABIdeal.τ Cert.ProjABIdeal.sig) → Buf (Elt Ideal) ℓ) (g : Dev Cert.ProjABIdeal.nD → PrngReg), Pre_ProjABIdeal m →
    θ_run (Cert.ProjABIdeal.defs (F := Ideal)) (onTc (τ := Cert.ProjABIdeal.τ) (Cert.ProjABIdeal.main (F := Ideal))) ⟨m, fun _ => 0, g⟩ (fun r => (∀ c : Dev Cert.ProjABIdeal.nD,
      r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
      ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1)
      ∧ r.2.mem ((c.tc : Thread Cert.ProjABIdeal.nD Cert.ProjABIdeal.τ).loc Cert.ProjABIdeal.main_arg2) = m ((c.tc : Thread Cert.ProjABIdeal.nD Cert.ProjABIdeal.τ).loc Cert.ProjABIdeal.main_arg2))
      ∧ r.2.sem = fun _ => 0)

def quiescent_ProjABRefIdeal [hProjABRefIdeal : Cert.ProjABRefIdeal.Facts] : Prop :=
  ∀ (m : (ℓ : Loc Cert.ProjABRefIdeal.nD Cert.ProjABRefIdeal.τ Cert.ProjABRefIdeal.sig) → Buf (Elt Ideal) ℓ) (g : Dev Cert.ProjABRefIdeal.nD → PrngReg), Pre_ProjABRefIdeal m →
    θ_run (Cert.ProjABRefIdeal.defs (F := Ideal)) (onTc (τ := Cert.ProjABRefIdeal.τ) (Cert.ProjABRefIdeal.main (F := Ideal))) ⟨m, fun _ => 0, g⟩ (fun r => (∀ c : Dev Cert.ProjABRefIdeal.nD,
      r.2.mem ((c.tc : Thread Cert.ProjABRefIdeal.nD Cert.ProjABRefIdeal.τ).loc Cert.ProjABRefIdeal.main_arg0) = m ((c.tc : Thread Cert.ProjABRefIdeal.nD Cert.ProjABRefIdeal.τ).loc Cert.ProjABRefIdeal.main_arg0)
      ∧ r.2.mem ((c.tc : Thread Cert.ProjABRefIdeal.nD Cert.ProjABRefIdeal.τ).loc Cert.ProjABRefIdeal.main_arg1) = m ((c.tc : Thread Cert.ProjABRefIdeal.nD Cert.ProjABRefIdeal.τ).loc Cert.ProjABRefIdeal.main_arg1)
      ∧ r.2.mem ((c.tc : Thread Cert.ProjABRefIdeal.nD Cert.ProjABRefIdeal.τ).loc Cert.ProjABRefIdeal.main_arg2) = m ((c.tc : Thread Cert.ProjABRefIdeal.nD Cert.ProjABRefIdeal.τ).loc Cert.ProjABRefIdeal.main_arg2))
      ∧ r.2.sem = fun _ => 0)

def quiescent_OutAB [hOutAB : Cert.OutAB.Facts] : Prop :=
  ∀ (m : (ℓ : Loc Cert.OutAB.nD Cert.OutAB.τ Cert.OutAB.sig) → Buf (Elt Bits) ℓ) (g : Dev Cert.OutAB.nD → PrngReg), Pre_OutAB m →
    θ_run (Cert.OutAB.defs (F := Bits)) (onTc (τ := Cert.OutAB.τ) (Cert.OutAB.main (F := Bits))) ⟨m, fun _ => 0, g⟩ (fun r => (∀ c : Dev Cert.OutAB.nD,
      r.2.mem ((c.tc : Thread Cert.OutAB.nD Cert.OutAB.τ).loc Cert.OutAB.main_arg0) = m ((c.tc : Thread Cert.OutAB.nD Cert.OutAB.τ).loc Cert.OutAB.main_arg0)
      ∧ r.2.mem ((c.tc : Thread Cert.OutAB.nD Cert.OutAB.τ).loc Cert.OutAB.main_arg1) = m ((c.tc : Thread Cert.OutAB.nD Cert.OutAB.τ).loc Cert.OutAB.main_arg1)
      ∧ r.2.mem ((c.tc : Thread Cert.OutAB.nD Cert.OutAB.τ).loc Cert.OutAB.main_arg2) = m ((c.tc : Thread Cert.OutAB.nD Cert.OutAB.τ).loc Cert.OutAB.main_arg2)
      ∧ r.2.mem ((c.tc : Thread Cert.OutAB.nD Cert.OutAB.τ).loc Cert.OutAB.main_arg3) = m ((c.tc : Thread Cert.OutAB.nD Cert.OutAB.τ).loc Cert.OutAB.main_arg3))
      ∧ r.2.sem = fun _ => 0)

def quiescent_OutABIdeal [hOutABIdeal : Cert.OutABIdeal.Facts] : Prop :=
  ∀ (m : (ℓ : Loc Cert.OutABIdeal.nD Cert.OutABIdeal.τ Cert.OutABIdeal.sig) → Buf (Elt Ideal) ℓ) (g : Dev Cert.OutABIdeal.nD → PrngReg), Pre_OutABIdeal m →
    θ_run (Cert.OutABIdeal.defs (F := Ideal)) (onTc (τ := Cert.OutABIdeal.τ) (Cert.OutABIdeal.main (F := Ideal))) ⟨m, fun _ => 0, g⟩ (fun r => (∀ c : Dev Cert.OutABIdeal.nD,
      r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
      ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
      ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
      ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3))
      ∧ r.2.sem = fun _ => 0)

def quiescent_OutABRefIdeal [hOutABRefIdeal : Cert.OutABRefIdeal.Facts] : Prop :=
  ∀ (m : (ℓ : Loc Cert.OutABRefIdeal.nD Cert.OutABRefIdeal.τ Cert.OutABRefIdeal.sig) → Buf (Elt Ideal) ℓ) (g : Dev Cert.OutABRefIdeal.nD → PrngReg), Pre_OutABRefIdeal m →
    θ_run (Cert.OutABRefIdeal.defs (F := Ideal)) (onTc (τ := Cert.OutABRefIdeal.τ) (Cert.OutABRefIdeal.main (F := Ideal))) ⟨m, fun _ => 0, g⟩ (fun r => (∀ c : Dev Cert.OutABRefIdeal.nD,
      r.2.mem ((c.tc : Thread Cert.OutABRefIdeal.nD Cert.OutABRefIdeal.τ).loc Cert.OutABRefIdeal.main_arg0) = m ((c.tc : Thread Cert.OutABRefIdeal.nD Cert.OutABRefIdeal.τ).loc Cert.OutABRefIdeal.main_arg0)
      ∧ r.2.mem ((c.tc : Thread Cert.OutABRefIdeal.nD Cert.OutABRefIdeal.τ).loc Cert.OutABRefIdeal.main_arg1) = m ((c.tc : Thread Cert.OutABRefIdeal.nD Cert.OutABRefIdeal.τ).loc Cert.OutABRefIdeal.main_arg1)
      ∧ r.2.mem ((c.tc : Thread Cert.OutABRefIdeal.nD Cert.OutABRefIdeal.τ).loc Cert.OutABRefIdeal.main_arg2) = m ((c.tc : Thread Cert.OutABRefIdeal.nD Cert.OutABRefIdeal.τ).loc Cert.OutABRefIdeal.main_arg2)
      ∧ r.2.mem ((c.tc : Thread Cert.OutABRefIdeal.nD Cert.OutABRefIdeal.τ).loc Cert.OutABRefIdeal.main_arg3) = m ((c.tc : Thread Cert.OutABRefIdeal.nD Cert.OutABRefIdeal.τ).loc Cert.OutABRefIdeal.main_arg3))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_numbers [hRouterIdeal : Cert.RouterIdeal.Facts] [hPre_numbers : Cert.Pre_numbers.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_numbers m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_RouterRefIdeal_pre_numbers [hRouterRefIdeal : Cert.RouterRefIdeal.Facts] [hPre_numbers : Cert.Pre_numbers.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_numbers m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def preserves_Band_BandIdeal : Prop :=
  True

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v54)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v54) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v75) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v34) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v7)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v7) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v20) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_ProjAB_ProjABIdeal : Prop :=
  True

def algebraic_ProjABIdeal_ProjABRefIdeal [hProjABIdeal : Cert.ProjABIdeal.Facts] [hProjABRefIdeal : Cert.ProjABRefIdeal.Facts] : Prop :=
  ∀ (m : (ℓ : Loc Cert.ProjABIdeal.nD Cert.ProjABIdeal.τ Cert.ProjABIdeal.sig) → Buf (Elt Ideal) ℓ) (g : Dev Cert.ProjABIdeal.nD → PrngReg)
    (m' : (ℓ : Loc Cert.ProjABRefIdeal.nD Cert.ProjABRefIdeal.τ Cert.ProjABRefIdeal.sig) → Buf (Elt Ideal) ℓ) (g' : Dev Cert.ProjABRefIdeal.nD → PrngReg), Pre_ProjABIdeal m →
    (∀ c : Dev Cert.ProjABIdeal.nD,
      m' ((c.tc : Thread Cert.ProjABRefIdeal.nD Cert.ProjABRefIdeal.τ).loc Cert.ProjABRefIdeal.main_arg0) = m ((c.tc : Thread Cert.ProjABIdeal.nD Cert.ProjABIdeal.τ).loc Cert.ProjABIdeal.main_arg0)
      ∧ m' ((c.tc : Thread Cert.ProjABRefIdeal.nD Cert.ProjABRefIdeal.τ).loc Cert.ProjABRefIdeal.main_arg1) = m ((c.tc : Thread Cert.ProjABIdeal.nD Cert.ProjABIdeal.τ).loc Cert.ProjABIdeal.main_arg1)
      ∧ m' ((c.tc : Thread Cert.ProjABRefIdeal.nD Cert.ProjABRefIdeal.τ).loc Cert.ProjABRefIdeal.main_arg2) = m ((c.tc : Thread Cert.ProjABIdeal.nD Cert.ProjABIdeal.τ).loc Cert.ProjABIdeal.main_arg2)) →
    ∃ (v0 : (c : Dev Cert.ProjABIdeal.nD) → Buf (Elt Ideal) ((c.tc : Thread Cert.ProjABIdeal.nD Cert.ProjABIdeal.τ).loc Cert.ProjABIdeal.main_v18_0)) (v1 : (c : Dev Cert.ProjABIdeal.nD) → Buf (Elt Ideal) ((c.tc : Thread Cert.ProjABIdeal.nD Cert.ProjABIdeal.τ).loc Cert.ProjABIdeal.main_v18_1)),
      θ_run (Cert.ProjABIdeal.defs (F := Ideal)) (onTc (τ := Cert.ProjABIdeal.τ) (Cert.ProjABIdeal.main (F := Ideal))) ⟨m, fun _ => 0, g⟩ (fun r => ∀ c : Dev Cert.ProjABIdeal.nD,
          r.2.mem ((c.tc : Thread Cert.ProjABIdeal.nD Cert.ProjABIdeal.τ).loc Cert.ProjABIdeal.main_v18_0) = v0 c
          ∧ r.2.mem ((c.tc : Thread Cert.ProjABIdeal.nD Cert.ProjABIdeal.τ).loc Cert.ProjABIdeal.main_v18_1) = v1 c
          ∧ r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
          ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1)
          ∧ r.2.mem ((c.tc : Thread Cert.ProjABIdeal.nD Cert.ProjABIdeal.τ).loc Cert.ProjABIdeal.main_arg2) = m ((c.tc : Thread Cert.ProjABIdeal.nD Cert.ProjABIdeal.τ).loc Cert.ProjABIdeal.main_arg2))
      ∧ θ_run (Cert.ProjABRefIdeal.defs (F := Ideal)) (onTc (τ := Cert.ProjABRefIdeal.τ) (Cert.ProjABRefIdeal.main (F := Ideal))) ⟨m', fun _ => 0, g'⟩ (fun r => ∀ c : Dev Cert.ProjABRefIdeal.nD,
          r.2.mem ((c.tc : Thread Cert.ProjABRefIdeal.nD Cert.ProjABRefIdeal.τ).loc Cert.ProjABRefIdeal.main_v28) = v0 c
          ∧ r.2.mem ((c.tc : Thread Cert.ProjABRefIdeal.nD Cert.ProjABRefIdeal.τ).loc Cert.ProjABRefIdeal.main_v29) = v1 c
          ∧ r.2.mem ((c.tc : Thread Cert.ProjABRefIdeal.nD Cert.ProjABRefIdeal.τ).loc Cert.ProjABRefIdeal.main_arg0) = m' ((c.tc : Thread Cert.ProjABRefIdeal.nD Cert.ProjABRefIdeal.τ).loc Cert.ProjABRefIdeal.main_arg0)
          ∧ r.2.mem ((c.tc : Thread Cert.ProjABRefIdeal.nD Cert.ProjABRefIdeal.τ).loc Cert.ProjABRefIdeal.main_arg1) = m' ((c.tc : Thread Cert.ProjABRefIdeal.nD Cert.ProjABRefIdeal.τ).loc Cert.ProjABRefIdeal.main_arg1)
          ∧ r.2.mem ((c.tc : Thread Cert.ProjABRefIdeal.nD Cert.ProjABRefIdeal.τ).loc Cert.ProjABRefIdeal.main_arg2) = m' ((c.tc : Thread Cert.ProjABRefIdeal.nD Cert.ProjABRefIdeal.τ).loc Cert.ProjABRefIdeal.main_arg2))

def preserves_OutAB_OutABIdeal : Prop :=
  True

def algebraic_OutABIdeal_OutABRefIdeal [hOutABIdeal : Cert.OutABIdeal.Facts] [hOutABRefIdeal : Cert.OutABRefIdeal.Facts] : Prop :=
  ∀ (m : (ℓ : Loc Cert.OutABIdeal.nD Cert.OutABIdeal.τ Cert.OutABIdeal.sig) → Buf (Elt Ideal) ℓ) (g : Dev Cert.OutABIdeal.nD → PrngReg)
    (m' : (ℓ : Loc Cert.OutABRefIdeal.nD Cert.OutABRefIdeal.τ Cert.OutABRefIdeal.sig) → Buf (Elt Ideal) ℓ) (g' : Dev Cert.OutABRefIdeal.nD → PrngReg), Pre_OutABIdeal m →
    (∀ c : Dev Cert.OutABIdeal.nD,
      m' ((c.tc : Thread Cert.OutABRefIdeal.nD Cert.OutABRefIdeal.τ).loc Cert.OutABRefIdeal.main_arg0) = m ((c.tc : Thread Cert.OutABIdeal.nD Cert.OutABIdeal.τ).loc Cert.OutABIdeal.main_arg0)
      ∧ m' ((c.tc : Thread Cert.OutABRefIdeal.nD Cert.OutABRefIdeal.τ).loc Cert.OutABRefIdeal.main_arg1) = m ((c.tc : Thread Cert.OutABIdeal.nD Cert.OutABIdeal.τ).loc Cert.OutABIdeal.main_arg1)
      ∧ m' ((c.tc : Thread Cert.OutABRefIdeal.nD Cert.OutABRefIdeal.τ).loc Cert.OutABRefIdeal.main_arg2) = m ((c.tc : Thread Cert.OutABIdeal.nD Cert.OutABIdeal.τ).loc Cert.OutABIdeal.main_arg2)
      ∧ m' ((c.tc : Thread Cert.OutABRefIdeal.nD Cert.OutABRefIdeal.τ).loc Cert.OutABRefIdeal.main_arg3) = m ((c.tc : Thread Cert.OutABIdeal.nD Cert.OutABIdeal.τ).loc Cert.OutABIdeal.main_arg3)) →
    ∃ (v0 : (c : Dev Cert.OutABIdeal.nD) → Buf (Elt Ideal) ((c.tc : Thread Cert.OutABIdeal.nD Cert.OutABIdeal.τ).loc Cert.OutABIdeal.main_v1)),
      θ_run (Cert.OutABIdeal.defs (F := Ideal)) (onTc (τ := Cert.OutABIdeal.τ) (Cert.OutABIdeal.main (F := Ideal))) ⟨m, fun _ => 0, g⟩ (fun r => ∀ c : Dev Cert.OutABIdeal.nD,
          r.2.mem ((c.tc : Thread Cert.OutABIdeal.nD Cert.OutABIdeal.τ).loc Cert.OutABIdeal.main_v1) = v0 c
          ∧ r.2.mem ((c.tc : Thread Cert.OutABIdeal.nD Cert.OutABIdeal.τ).loc Cert.OutABIdeal.main_arg0) = m ((c.tc : Thread Cert.OutABIdeal.nD Cert.OutABIdeal.τ).loc Cert.OutABIdeal.main_arg0)
          ∧ r.2.mem ((c.tc : Thread Cert.OutABIdeal.nD Cert.OutABIdeal.τ).loc Cert.OutABIdeal.main_arg1) = m ((c.tc : Thread Cert.OutABIdeal.nD Cert.OutABIdeal.τ).loc Cert.OutABIdeal.main_arg1)
          ∧ r.2.mem ((c.tc : Thread Cert.OutABIdeal.nD Cert.OutABIdeal.τ).loc Cert.OutABIdeal.main_arg2) = m ((c.tc : Thread Cert.OutABIdeal.nD Cert.OutABIdeal.τ).loc Cert.OutABIdeal.main_arg2)
          ∧ r.2.mem ((c.tc : Thread Cert.OutABIdeal.nD Cert.OutABIdeal.τ).loc Cert.OutABIdeal.main_arg3) = m ((c.tc : Thread Cert.OutABIdeal.nD Cert.OutABIdeal.τ).loc Cert.OutABIdeal.main_arg3))
      ∧ θ_run (Cert.OutABRefIdeal.defs (F := Ideal)) (onTc (τ := Cert.OutABRefIdeal.τ) (Cert.OutABRefIdeal.main (F := Ideal))) ⟨m', fun _ => 0, g'⟩ (fun r => ∀ c : Dev Cert.OutABRefIdeal.nD,
          r.2.mem ((c.tc : Thread Cert.OutABRefIdeal.nD Cert.OutABRefIdeal.τ).loc Cert.OutABRefIdeal.main_v3) = v0 c
          ∧ r.2.mem ((c.tc : Thread Cert.OutABRefIdeal.nD Cert.OutABRefIdeal.τ).loc Cert.OutABRefIdeal.main_arg0) = m' ((c.tc : Thread Cert.OutABRefIdeal.nD Cert.OutABRefIdeal.τ).loc Cert.OutABRefIdeal.main_arg0)
          ∧ r.2.mem ((c.tc : Thread Cert.OutABRefIdeal.nD Cert.OutABRefIdeal.τ).loc Cert.OutABRefIdeal.main_arg1) = m' ((c.tc : Thread Cert.OutABRefIdeal.nD Cert.OutABRefIdeal.τ).loc Cert.OutABRefIdeal.main_arg1)
          ∧ r.2.mem ((c.tc : Thread Cert.OutABRefIdeal.nD Cert.OutABRefIdeal.τ).loc Cert.OutABRefIdeal.main_arg2) = m' ((c.tc : Thread Cert.OutABRefIdeal.nD Cert.OutABRefIdeal.τ).loc Cert.OutABRefIdeal.main_arg2)
          ∧ r.2.mem ((c.tc : Thread Cert.OutABRefIdeal.nD Cert.OutABRefIdeal.τ).loc Cert.OutABRefIdeal.main_arg3) = m' ((c.tc : Thread Cert.OutABRefIdeal.nD Cert.OutABRefIdeal.τ).loc Cert.OutABRefIdeal.main_arg3))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)) →
    ∃ (v0 : (c : Dev Cert.OutCIdeal.nD) → Buf (Elt Ideal) ((c.tc : Thread Cert.OutCIdeal.nD Cert.OutCIdeal.τ).loc Cert.OutCIdeal.main_v1)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v1) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v2) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2))

def preserves_Router_RouterIdeal : Prop :=
  True

def algebraic_RouterIdeal_RouterRefIdeal_pre_numbers [hRouterIdeal : Cert.RouterIdeal.Facts] [hRouterRefIdeal : Cert.RouterRefIdeal.Facts] [hPre_numbers : Cert.Pre_numbers.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_numbers m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v6_0)) (v1 : (c : Dev Cert.RouterIdeal.nD) → Buf (Elt Ideal) ((c.tc : Thread Cert.RouterIdeal.nD Cert.RouterIdeal.τ).loc Cert.RouterIdeal.main_v6_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v6_0) = v0 c
          ∧ r.2.mem ((c.tc : Thread Cert.RouterIdeal.nD Cert.RouterIdeal.τ).loc Cert.RouterIdeal.main_v6_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v122) = v0 c
          ∧ r.2.mem ((c.tc : Thread Cert.RouterRefIdeal.nD Cert.RouterRefIdeal.τ).loc Cert.RouterRefIdeal.main_v127) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def Claim : Prop :=
  ∃ (hBand : Cert.Band.Facts) (hBandIdeal : Cert.BandIdeal.Facts) (hBandRefIdeal : Cert.BandRefIdeal.Facts) (hExperts : Cert.Experts.Facts) (hExpertsIdeal : Cert.ExpertsIdeal.Facts) (hExpertsRefIdeal : Cert.ExpertsRefIdeal.Facts) (hProjC : Cert.ProjC.Facts) (hProjCIdeal : Cert.ProjCIdeal.Facts) (hProjCRefIdeal : Cert.ProjCRefIdeal.Facts) (hProjAB : Cert.ProjAB.Facts) (hProjABIdeal : Cert.ProjABIdeal.Facts) (hProjABRefIdeal : Cert.ProjABRefIdeal.Facts) (hOutAB : Cert.OutAB.Facts) (hOutABIdeal : Cert.OutABIdeal.Facts) (hOutABRefIdeal : Cert.OutABRefIdeal.Facts) (hOutC : Cert.OutC.Facts) (hOutCIdeal : Cert.OutCIdeal.Facts) (hOutCRefIdeal : Cert.OutCRefIdeal.Facts) (hRouter : Cert.Router.Facts) (hRouterIdeal : Cert.RouterIdeal.Facts) (hRouterRefIdeal : Cert.RouterRefIdeal.Facts) (hPre_finite : Cert.Pre_finite.Facts) (hPre_experts_in_range : Cert.Pre_experts_in_range.Facts) (hPre_numbers : Cert.Pre_numbers.Facts),
    quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_ProjC (hProjC := hProjC)
    ∧ quiescent_ProjCIdeal (hProjCIdeal := hProjCIdeal)
    ∧ quiescent_ProjCRefIdeal (hProjCRefIdeal := hProjCRefIdeal)
    ∧ quiescent_ProjAB (hProjAB := hProjAB)
    ∧ quiescent_ProjABIdeal (hProjABIdeal := hProjABIdeal)
    ∧ quiescent_ProjABRefIdeal (hProjABRefIdeal := hProjABRefIdeal)
    ∧ quiescent_OutAB (hOutAB := hOutAB)
    ∧ quiescent_OutABIdeal (hOutABIdeal := hOutABIdeal)
    ∧ quiescent_OutABRefIdeal (hOutABRefIdeal := hOutABRefIdeal)
    ∧ quiescent_OutC (hOutC := hOutC)
    ∧ quiescent_OutCIdeal (hOutCIdeal := hOutCIdeal)
    ∧ quiescent_OutCRefIdeal (hOutCRefIdeal := hOutCRefIdeal)
    ∧ quiescent_Router (hRouter := hRouter)
    ∧ quiescent_RouterIdeal (hRouterIdeal := hRouterIdeal)
    ∧ quiescent_RouterIdeal_pre_numbers (hRouterIdeal := hRouterIdeal) (hPre_numbers := hPre_numbers)
    ∧ quiescent_RouterRefIdeal (hRouterRefIdeal := hRouterRefIdeal)
    ∧ quiescent_RouterRefIdeal_pre_numbers (hRouterRefIdeal := hRouterRefIdeal) (hPre_numbers := hPre_numbers)
    ∧ preserves_Band_BandIdeal
    ∧ algebraic_BandIdeal_BandRefIdeal_pre_finite (hBandIdeal := hBandIdeal) (hBandRefIdeal := hBandRefIdeal) (hPre_finite := hPre_finite)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_ProjC_ProjCIdeal
    ∧ algebraic_ProjCIdeal_ProjCRefIdeal (hProjCIdeal := hProjCIdeal) (hProjCRefIdeal := hProjCRefIdeal)
    ∧ preserves_ProjAB_ProjABIdeal
    ∧ algebraic_ProjABIdeal_ProjABRefIdeal (hProjABIdeal := hProjABIdeal) (hProjABRefIdeal := hProjABRefIdeal)
    ∧ preserves_OutAB_OutABIdeal
    ∧ algebraic_OutABIdeal_OutABRefIdeal (hOutABIdeal := hOutABIdeal) (hOutABRefIdeal := hOutABRefIdeal)
    ∧ preserves_OutC_OutCIdeal
    ∧ algebraic_OutCIdeal_OutCRefIdeal (hOutCIdeal := hOutCIdeal) (hOutCRefIdeal := hOutCRefIdeal)
    ∧ preserves_Router_RouterIdeal
    ∧ algebraic_RouterIdeal_RouterRefIdeal_pre_numbers (hRouterIdeal := hRouterIdeal) (hRouterRefIdeal := hRouterRefIdeal) (hPre_numbers := hPre_numbers)
-- ==== Pre_experts_in_range.lean ====
abbrev S491520x128 : Shape := ⟨2, ![491520, 128]⟩
abbrev S240 : Shape := ⟨1, ![240]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S240 : S_.BroadcastsInDim S240 (![] : Fin 0 → Fin S240.rank)
  reducesTo_S240_S_d0 : S240.ReducesTo [0] S_
  h_S_ : 0 < S_.numel

variable [Facts]

def fn {F : FTy → Type} [FloatOps F] (main_arg0 : FVec F S491520x128 .f32) (main_arg1 : IVec S240 32) (main_arg2 : IVec S240 32) (main_arg3 : IVec S240 32) (main_arg4 : FVec F S2x32x1024x512 .bf16) (main_arg5 : FVec F S2x32x1024x512 .bf16) (main_arg6 : FVec F S2x32x512x1024 .bf16) : IVec S_ 1 :=
  let main_c : IVec S_ 32 := constantI S_ 32 0#32
  let main_v0 : IVec S240 32 := broadcastInDim S240 ![] bcast_S_S240 main_c
  let main_v1 : IVec S240 1 := cmpi .sge main_arg1 main_v0
  let main_c_0 : IVec S_ 32 := constantI S_ 32 32#32
  let main_v2 : IVec S240 32 := broadcastInDim S240 ![] bcast_S_S240 main_c_0
  let main_v3 : IVec S240 1 := cmpi .slt main_arg1 main_v2
  let main_v4 : IVec S240 1 := andi main_v1 main_v3
  let main_c_1 : IVec S_ 32 := constantI S_ 32 0#32
  let main_v5 : IVec S240 32 := broadcastInDim S240 ![] bcast_S_S240 main_c_1
  let main_v6 : IVec S240 1 := cmpi .sge main_arg2 main_v5
  let main_v7 : IVec S240 1 := andi main_v4 main_v6
  let main_c_2 : IVec S_ 32 := constantI S_ 32 32#32
  let main_v8 : IVec S240 32 := broadcastInDim S240 ![] bcast_S_S240 main_c_2
  let main_v9 : IVec S240 1 := cmpi .slt main_arg2 main_v8
  let main_v10 : IVec S240 1 := andi main_v7 main_v9
  let main_c_3 : IVec S_ 32 := constantI S_ 32 0#32
  let main_v11 : IVec S240 32 := broadcastInDim S240 ![] bcast_S_S240 main_c_3
  let main_v12 : IVec S240 1 := cmpi .sge main_arg3 main_v11
  let main_v13 : IVec S240 1 := andi main_v10 main_v12
  let main_c_4 : IVec S_ 1 := constantI S_ 1 1#1
  let main_v14 : IVec S_ 1 := (fun x v => Host.reduce IntOp.andi x v reducesTo_S240_S_d0 h_S_) main_v13 main_c_4
  main_v14
-- ==== Pre_finite.lean ====
abbrev S8x4096x3072 : Shape := ⟨3, ![8, 4096, 3072]⟩
abbrev S257x16 : Shape := ⟨2, ![257, 16]⟩
abbrev S_ : Shape := ⟨0, ![]⟩

class Facts : Prop where
  bitsLt_bf16_f32 : FTy.bits .bf16 < FTy.bits .f32
  bcast_S_S8x4096x3072 : S_.BroadcastsInDim S8x4096x3072 (![] : Fin 0 → Fin S8x4096x3072.rank)
  reducesTo_S8x4096x3072_S_d0_1_2 : S8x4096x3072.ReducesTo [0, 1, 2] S_
  h_S_ : 0 < S_.numel
  bcast_S_S257x16 : S_.BroadcastsInDim S257x16 (![] : Fin 0 → Fin S257x16.rank)
  reducesTo_S257x16_S_d0_1 : S257x16.ReducesTo [0, 1] S_

variable [Facts]

def fn {F : FTy → Type} [FloatOps F] (main_arg0 : FVec F S8x4096x3072 .bf16) (main_arg1 : FVec F S257x16 .f32) : IVec S_ 1 :=
  let main_v0 : FVec F S8x4096x3072 .f32 := (extf .f32 · bitsLt_bf16_f32) main_arg0
  let main_v1 : FVec F S8x4096x3072 .f32 := Host.absf main_v0
  let main_cst : FVec F S_ .f32 := constant S_ .f32 0x7F800000#32
  let main_v2 : FVec F S8x4096x3072 .f32 := broadcastInDim S8x4096x3072 ![] bcast_S_S8x4096x3072 main_cst
  let main_v3 : IVec S8x4096x3072 1 := cmpf .olt main_v1 main_v2
  let main_c : IVec S_ 1 := constantI S_ 1 1#1
  let main_v4 : IVec S_ 1 := (fun x v => Host.reduce IntOp.andi x v reducesTo_S8x4096x3072_S_d0_1_2 h_S_) main_v3 main_c
  let main_v5 : FVec F S257x16 .f32 := Host.absf main_arg1
  let main_cst_0 : FVec F S_ .f32 := constant S_ .f32 0x7F800000#32
  let main_v6 : FVec F S257x16 .f32 := broadcastInDim S257x16 ![] bcast_S_S257x16 main_cst_0
  let main_v7 : IVec S257x16 1 := cmpf .olt main_v5 main_v6
  let main_c_1 : IVec S_ 1 := constantI S_ 1 1#1
  let main_v8 : IVec S_ 1 := (fun x v => Host.reduce IntOp.andi x v reducesTo_S257x16_S_d0_1 h_S_) main_v7 main_c_1
  let main_v9 : IVec S_ 1 := andi main_v4 main_v8
  main_v9
-- ==== Pre_numbers.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S1024x32 .f32) (main_arg5 : FVec F S32 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S1024x32 .f32 := Host.absf main_arg4
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S32768x1024 .f32) (main_arg1 : FVec F S1024 .f32) (main_arg2 : FVec F S1024x4 .f32) (main_arg3 : FVec F S4 .f32) (main_arg4 : FVec F S1024x32 .f32) (main_arg5 : FVec F S32 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Band.lean ====
abbrev S8x4096x3072 : Shape := ⟨3, ![8, 4096, 3072]⟩
abbrev S257x16 : Shape := ⟨2, ![257, 16]⟩
abbrev S768 : Shape := ⟨1, ![768]⟩
abbrev S_ : Shape := ⟨0, ![]⟩
abbrev S5 : Shape := ⟨1, ![5]⟩
abbrev S5x1 : Shape := ⟨2, ![5, 1]⟩
abbrev S1x768 : Shape := ⟨2, ![1, 768]⟩
abbrev S5x768 : Shape := ⟨2, ![5, 768]⟩
abbrev S5x768x1 : Shape := ⟨3, ![5, 768, 1]⟩
abbrev S5x768x16 : Shape := ⟨3, ![5, 768, 16]⟩
abbrev S16x5x768 : Shape := ⟨3, ![16, 5, 768]⟩
abbrev S1x16x1x5x1x768 : Shape := ⟨6, ![1, 16, 1, 5, 1, 768]⟩
abbrev S1x16x1x5x128x768 : Shape := ⟨6, ![1, 16, 1, 5, 128, 768]⟩
abbrev S16x5x98304 : Shape := ⟨3, ![16, 5, 98304]⟩
abbrev S16x5x98176 : Shape := ⟨3, ![16, 5, 98176]⟩
abbrev S16x5x128x767 : Shape := ⟨4, ![16, 5, 128, 767]⟩
abbrev S16x5x128x640 : Shape := ⟨4, ![16, 5, 128, 640]⟩
abbrev S128 : Shape := ⟨1, ![128]⟩
abbrev S1x128x1 : Shape := ⟨3, ![1, 128, 1]⟩
abbrev S640 : Shape := ⟨1, ![640]⟩
abbrev S1x1x640 : Shape := ⟨3, ![1, 1, 640]⟩
abbrev S5x1x1 : Shape := ⟨3, ![5, 1, 1]⟩
abbrev S5x1x640 : Shape := ⟨3, ![5, 1, 640]⟩
abbrev S5x128x640 : Shape := ⟨3, ![5, 128, 640]⟩
abbrev S1x5x128x640 : Shape := ⟨4, ![1, 5, 128, 640]⟩
abbrev S2x8x5x128x640 : Shape := ⟨5, ![2, 8, 5, 128, 640]⟩
abbrev S8x4096x1024 : Shape := ⟨3, ![8, 4096, 1024]⟩
abbrev S1x128x512 : Shape := ⟨3, ![1, 128, 512]⟩
abbrev S1x4096x512 : Shape := ⟨3, ![1, 4096, 512]⟩
abbrev S1x8x5x128x640 : Shape := ⟨5, ![1, 8, 5, 128, 640]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S1x640x128 : Shape := ⟨3, ![1, 640, 128]⟩
abbrev S640x128 : Shape := ⟨2, ![640, 128]⟩
abbrev S256x640 : Shape := ⟨2, ![256, 640]⟩
abbrev S1x1x1x128x640 : Shape := ⟨5, ![1, 1, 1, 128, 640]⟩
abbrev S128x640 : Shape := ⟨2, ![128, 640]⟩
abbrev S256 : Shape := ⟨1, ![256]⟩
abbrev S256x1 : Shape := ⟨2, ![256, 1]⟩

abbrev nBuf : Space → Nat
  | .hbm => 126
  | .vmem => 9
  | .smem => 0
  | _ => 0

abbrev bufTy : (tb : Table) → Fin (tcTables nBuf tb) → BufTy
  | .hbm, ⟨0, _⟩ => ⟨S8x4096x3072, .bf16⟩
  | .hbm, ⟨1, _⟩ => ⟨S257x16, .f32⟩
  | .hbm, ⟨2, _⟩ => ⟨S768, .i32⟩
  | .hbm, ⟨3, _⟩ => ⟨S_, .i32⟩
  | .hbm, ⟨4, _⟩ => ⟨S768, .i32⟩
  | .hbm, ⟨5, _⟩ => ⟨S768, .i1⟩
  | .hbm, ⟨6, _⟩ => ⟨S_, .i32⟩
  | .hbm, ⟨7, _⟩ => ⟨S768, .i32⟩
  | .hbm, ⟨8, _⟩ => ⟨S768, .i32⟩
  | .hbm, ⟨9, _⟩ => ⟨S768, .i32⟩
  | .hbm, ⟨10, _⟩ => ⟨S5, .i32⟩
  | .hbm, ⟨11, _⟩ => ⟨S_, .i32⟩
  | .hbm, ⟨12, _⟩ => ⟨S5, .i32⟩
  | .hbm, ⟨13, _⟩ => ⟨S5, .i32⟩
  | .hbm, ⟨14, _⟩ => ⟨S5x1, .i32⟩
  | .hbm, ⟨15, _⟩ => ⟨S1x768, .i32⟩
  | .hbm, ⟨16, _⟩ => ⟨S5x768, .i32⟩
  | .hbm, ⟨17, _⟩ => ⟨S5x768, .i32⟩
  | .hbm, ⟨18, _⟩ => ⟨S5x768, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S5x768, .i32⟩
  | .hbm, ⟨23, _⟩ => ⟨S5x768, .i32⟩
  | .hbm, ⟨24, _⟩ => ⟨S_, .i32⟩
  | .hbm, ⟨25, _⟩ => ⟨S5x768, .i32⟩
  | .hbm, ⟨26, _⟩ => ⟨S5x768, .i32⟩
  | .hbm, ⟨27, _⟩ => ⟨S_, .i32⟩
  | .hbm, ⟨28, _⟩ => ⟨S5x768, .i32⟩
  | .hbm, ⟨29, _⟩ => ⟨S5x768, .i32⟩
  | .hbm, ⟨30, _⟩ => ⟨S_, .i32⟩
  | .hbm, ⟨31, _⟩ => ⟨S5x768, .i32⟩
  | .hbm, ⟨32, _⟩ => ⟨S5x768, .i1⟩
  | .hbm, ⟨33, _⟩ => ⟨S_, .i32⟩
  | .hbm, ⟨34, _⟩ => ⟨S5x768, .i32⟩
  | .hbm, ⟨35, _⟩ => ⟨S5x768, .i32⟩
  | .hbm, ⟨36, _⟩ => ⟨S5x768, .i32⟩
  | .hbm, ⟨37, _⟩ => ⟨S5x768x1, .i32⟩
  | .hbm, ⟨38, _⟩ => ⟨S5x768x16, .f32⟩
  | .hbm, ⟨39, _⟩ => ⟨S16x5x768, .f32⟩
  | .hbm, ⟨40, _⟩ => ⟨S1x16x1x5x1x768, .f32⟩
  | .hbm, ⟨41, _⟩ => ⟨S1x16x1x5x128x768, .f32⟩
  | .hbm, ⟨42, _⟩ => ⟨S16x5x98304, .f32⟩
  | .hbm, ⟨43, _⟩ => ⟨S16x5x98176, .f32⟩
  | .hbm, ⟨44, _⟩ => ⟨S16x5x128x767, .f32⟩
  | .hbm, ⟨45, _⟩ => ⟨S16x5x128x640, .f32⟩
  | .hbm, ⟨46, _⟩ => ⟨S128, .i32⟩
  | .hbm, ⟨47, _⟩ => ⟨S1x128x1, .i32⟩
  | .hbm, ⟨48, _⟩ => ⟨S640, .i32⟩
  | .hbm, ⟨49, _⟩ => ⟨S1x1x640, .i32⟩
  | .hbm, ⟨50, _⟩ => ⟨S5x1x1, .i32⟩
  | .hbm, ⟨51, _⟩ => ⟨S5x1x640, .i32⟩
  | .hbm, ⟨52, _⟩ => ⟨S5x1x640, .i32⟩
  | .hbm, ⟨53, _⟩ => ⟨S5x1x640, .i32⟩
  | .hbm, ⟨54, _⟩ => ⟨S_, .i32⟩
  | .hbm, ⟨55, _⟩ => ⟨S_, .i32⟩
  | .hbm, ⟨56, _⟩ => ⟨S5x1x640, .i32⟩
  | .hbm, ⟨57, _⟩ => ⟨S5x1x640, .i32⟩
  | .hbm, ⟨58, _⟩ => ⟨S5x1x640, .i32⟩
  | .hbm, ⟨59, _⟩ => ⟨S_, .i32⟩
  | .hbm, ⟨60, _⟩ => ⟨S5x1x640, .i32⟩
  | .hbm, ⟨61, _⟩ => ⟨S5x1x640, .i1⟩
  | .hbm, ⟨62, _⟩ => ⟨S5x1x640, .i32⟩
  | .hbm, ⟨63, _⟩ => ⟨S5x1x640, .i32⟩
  | .hbm, ⟨64, _⟩ => ⟨S_, .i32⟩
  | .hbm, ⟨65, _⟩ => ⟨S5x1x640, .i32⟩
  | .hbm, ⟨66, _⟩ => ⟨S5x1x640, .i1⟩
  | .hbm, ⟨67, _⟩ => ⟨S5x1x640, .i1⟩
  | .hbm, ⟨68, _⟩ => ⟨S_, .i32⟩
  | .hbm, ⟨69, _⟩ => ⟨S5x1x640, .i32⟩
  | .hbm, ⟨70, _⟩ => ⟨S5x1x640, .i32⟩
  | .hbm, ⟨71, _⟩ => ⟨S5x1x640, .i32⟩
  | .hbm, ⟨72, _⟩ => ⟨S_, .i32⟩
  | .hbm, ⟨73, _⟩ => ⟨S_, .i32⟩
  | .hbm, ⟨74, _⟩ => ⟨S1x128x1, .i32⟩
  | .hbm, ⟨75, _⟩ => ⟨S1x128x1, .i32⟩
  | .hbm, ⟨76, _⟩ => ⟨S1x128x1, .i32⟩
  | .hbm, ⟨77, _⟩ => ⟨S_, .i32⟩
  | .hbm, ⟨78, _⟩ => ⟨S1x128x1, .i32⟩
  | .hbm, ⟨79, _⟩ => ⟨S1x128x1, .i1⟩
  | .hbm, ⟨80, _⟩ => ⟨S1x128x1, .i32⟩
  | .hbm, ⟨81, _⟩ => ⟨S1x128x1, .i32⟩
  | .hbm, ⟨82, _⟩ => ⟨S_, .i32⟩
  | .hbm, ⟨83, _⟩ => ⟨S1x128x1, .i32⟩
  | .hbm, ⟨84, _⟩ => ⟨S1x128x1, .i1⟩
  | .hbm, ⟨85, _⟩ => ⟨S1x128x1, .i1⟩
  | .hbm, ⟨86, _⟩ => ⟨S_, .i32⟩
  | .hbm, ⟨87, _⟩ => ⟨S1x128x1, .i32⟩
  | .hbm, ⟨88, _⟩ => ⟨S1x128x1, .i32⟩
  | .hbm, ⟨89, _⟩ => ⟨S1x128x1, .i32⟩
  | .hbm, ⟨90, _⟩ => ⟨S5x128x640, .i32⟩
  | .hbm, ⟨91, _⟩ => ⟨S5x128x640, .i32⟩
  | .hbm, ⟨92, _⟩ => ⟨S5x128x640, .i1⟩
  | .hbm, ⟨93, _⟩ => ⟨S_, .i32⟩
  | .hbm, ⟨94, _⟩ => ⟨S_, .i32⟩
  | .hbm, ⟨95, _⟩ => ⟨S1x128x1, .i32⟩
  | .hbm, ⟨96, _⟩ => ⟨S1x128x1, .i32⟩
  | .hbm, ⟨97, _⟩ => ⟨S1x128x1, .i32⟩
  | .hbm, ⟨98, _⟩ => ⟨S_, .i32⟩
  | .hbm, ⟨99, _⟩ => ⟨S1x128x1, .i32⟩
  | .hbm, ⟨100, _⟩ => ⟨S1x128x1, .i1⟩
  | .hbm, ⟨101, _⟩ => ⟨S1x128x1, .i32⟩
  | .hbm, ⟨102, _⟩ => ⟨S1x128x1, .i32⟩
  | .hbm, ⟨103, _⟩ => ⟨S_, .i32⟩
  | .hbm, ⟨104, _⟩ => ⟨S1x128x1, .i32⟩
  | .hbm, ⟨105, _⟩ => ⟨S1x128x1, .i1⟩
  | .hbm, ⟨106, _⟩ => ⟨S1x128x1, .i1⟩
  | .hbm, ⟨107, _⟩ => ⟨S_, .i32⟩
  | .hbm, ⟨108, _⟩ => ⟨S1x128x1, .i32⟩
  | .hbm, ⟨109, _⟩ => ⟨S1x128x1, .i32⟩
  | .hbm, ⟨110, _⟩ => ⟨S1x128x1, .i32⟩
  | .hbm, ⟨111, _⟩ => ⟨S_, .i32⟩
  | .hbm, ⟨112, _⟩ => ⟨S1x128x1, .i32⟩
  | .hbm, ⟨113, _⟩ => ⟨S1x128x1, .i32⟩
  | .hbm, ⟨114, _⟩ => ⟨S5x128x640, .i32⟩
  | .hbm, ⟨115, _⟩ => ⟨S5x128x640, .i32⟩
  | .hbm, ⟨116, _⟩ => ⟨S5x128x640, .i1⟩
  | .hbm, ⟨117, _⟩ => ⟨S5x128x640, .i1⟩
  | .hbm, ⟨118, _⟩ => ⟨S1x5x128x640, .i1⟩
  | .hbm, ⟨119, _⟩ => ⟨S_, .f32⟩
  | .hbm, ⟨120, _⟩ => ⟨S_, .f32⟩
  | .hbm, ⟨121, _⟩ => ⟨S16x5x128x640, .i1⟩
  | .hbm, ⟨122, _⟩ => ⟨S16x5x128x640, .f32⟩
  | .hbm, ⟨123, _⟩ => ⟨S16x5x128x640, .f32⟩
  | .hbm, ⟨124, _⟩ => ⟨S2x8x5x128x640, .f32⟩
  | .hbm, ⟨125, _⟩ => ⟨S8x4096x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x8x5x128x640, .f32⟩
  | .local _ .vmem, ⟨7, _⟩ => ⟨S1x128x512, .bf16⟩
  | .local _ .vmem, ⟨8, _⟩ => ⟨S1x128x512, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_c_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v39 : Ref sig .tc := ⟨.hbm, 71, rfl⟩
abbrev main_c_8 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_c_9 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_c : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_c_0 : Ref sig .tc := ⟨.hbm, 107, rfl⟩
abbrev main_call4_v12 : Ref sig .tc := ⟨.hbm, 108, rfl⟩
abbrev main_call4_v13 : Ref sig .tc := ⟨.hbm, 109, rfl⟩
abbrev main_v44 : Ref sig .tc := ⟨.hbm, 110, rfl⟩
abbrev main_c_10 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 32], ![false, false, false]⟩

def k0_mult1 (i : grid0.Coords) : BitVec 32 :=
  let arg2 : BitVec 32 := BitVec.ofNat 32 (i 2).val
  let c4_i32_0 : BitVec 32 := 4#32
  let v4 : BitVec 32 := Scalar.subi arg2 c4_i32_0
  let c0_i32 : BitVec 32 := 0#32
  let v5 : BitVec 32 := Scalar.maxsi v4 c0_i32
  let c128_i32 : BitVec 32 := 128#32
  let v6 : BitVec 32 := Scalar.muli v5 c128_i32
  v6
def k0_off1 (i : grid0.Coords) : Fin 3 → Nat :=
  let c0_4 : Index := 0#32
  let arg2 : BitVec 32 := BitVec.ofNat 32 (i 2).val
  let c4_i32_0 : BitVec 32 := 4#32
  let v4 : BitVec 32 := Scalar.subi arg2 c4_i32_0
  let c0_i32 : BitVec 32 := 0#32
  let v5 : BitVec 32 := Scalar.maxsi v4 c0_i32
  let c128_i32 : BitVec 32 := 128#32
  let v6 : BitVec 32 := Scalar.muli v5 c128_i32
  let v7 : BitVec 32 := v6
  let v21 : Index := Scalar.indexCast v7
  let c0_5 : Index := 0#32
  ![0, v21.toNat, 0]
def k0_off2 (i : grid0.Coords) : Fin 3 → Nat :=
  let c0_11 : Index := 0#32
  let arg2 : BitVec 32 := BitVec.ofNat 32 (i 2).val
  let c4_i32_0 : BitVec 32 := 4#32
  let v4 : BitVec 32 := Scalar.subi arg2 c4_i32_0
  let c0_i32 : BitVec 32 := 0#32
  let v5 : BitVec 32 := Scalar.maxsi v4 c0_i32
  let c128_i32 : BitVec 32 := 128#32
  let v6 : BitVec 32 := Scalar.muli v5 c128_i32
  let v7 : BitVec 32 := v6
  let v38 : Index := Scalar.indexCast v7
  let c128_12 : Index := 128#32
  ![0, v38.toNat, 128]
def k0_off3 (i : grid0.Coords) : Fin 3 → Nat :=
  let c0_18 : Index := 0#32
  let arg2 : BitVec 32 := BitVec.ofNat 32 (i 2).val
  let c4_i32_0 : BitVec 32 := 4#32
  let v4 : BitVec 32 := Scalar.subi arg2 c4_i32_0
  let c0_i32 : BitVec 32 := 0#32
  let v5 : BitVec 32 := Scalar.maxsi v4 c0_i32
  let c128_i32 : BitVec 32 := 128#32
  let v6 : BitVec 32 := Scalar.muli v5 c128_i32
  let v7 : BitVec 32 := v6
  let v55 : Index := Scalar.indexCast v7
  let c256_19 : Index := 256#32
  ![0, v55.toNat, 256]
def k0_off4 (i : grid0.Coords) : Fin 3 → Nat :=
  let c0_25 : Index := 0#32
  let arg2 : BitVec 32 := BitVec.ofNat 32 (i 2).val
  let c4_i32_0 : BitVec 32 := 4#32
  let v4 : BitVec 32 := Scalar.subi arg2 c4_i32_0
  let c0_i32 : BitVec 32 := 0#32
  let v5 : BitVec 32 := Scalar.maxsi v4 c0_i32
  let c128_i32 : BitVec 32 := 128#32
  let v6 : BitVec 32 := Scalar.muli v5 c128_i32
  let v7 : BitVec 32 := v6
  let v72 : Index := Scalar.indexCast v7
  let c384_26 : Index := 384#32
  ![0, v72.toNat, 384]
def k0_off5 (i : grid0.Coords) : Fin 5 → Nat :=
  let c0_28 : Index := 0#32
  let c0_29 : Index := 0#32
  let arg2 : BitVec 32 := BitVec.ofNat 32 (i 2).val
  let c4_i32 : BitVec 32 := 4#32
  let v3 : BitVec 32 := Scalar.minsi arg2 c4_i32
  let v76 : Index := Scalar.indexCast v3
  let c0_30 : Index := 0#32
  let c0_31 : Index := 0#32
  ![0, 0, v76.toNat, 0, 0]
def k0_off6 (i : grid0.Coords) : Fin 5 → Nat :=
  let c0_32 : Index := 0#32
  let c1 : Index := 1#32
  let arg2 : BitVec 32 := BitVec.ofNat 32 (i 2).val
  let c4_i32 : BitVec 32 := 4#32
  let v3 : BitVec 32 := Scalar.minsi arg2 c4_i32
  let v79 : Index := Scalar.indexCast v3
  let c0_33 : Index := 0#32
  let c0_34 : Index := 0#32
  ![0, 1, v79.toNat, 0, 0]
def k0_off7 (i : grid0.Coords) : Fin 5 → Nat :=
  let c0_35 : Index := 0#32
  let c2 : Index := 2#32
  let arg2 : BitVec 32 := BitVec.ofNat 32 (i 2).val
  let c4_i32 : BitVec 32 := 4#32
  let v3 : BitVec 32 := Scalar.minsi arg2 c4_i32
  let v84 : Index := Scalar.indexCast v3
  let c0_36 : Index := 0#32
  let c0_37 : Index := 0#32
  ![0, 2, v84.toNat, 0, 0]
def k0_off8 (i : grid0.Coords) : Fin 5 → Nat :=
  let c0_38 : Index := 0#32
  let c3 : Index := 3#32
  let arg2 : BitVec 32 := BitVec.ofNat 32 (i 2).val
  let c4_i32 : BitVec 32 := 4#32
  let v3 : BitVec 32 := Scalar.minsi arg2 c4_i32
  let v87 : Index := Scalar.indexCast v3
  let c0_39 : Index := 0#32
  let c0_40 : Index := 0#32
  ![0, 3, v87.toNat, 0, 0]
def k0_off9 (i : grid0.Coords) : Fin 5 → Nat :=
  let c0_41 : Index := 0#32
  let c4 : Index := 4#32
  let arg2 : BitVec 32 := BitVec.ofNat 32 (i 2).val
  let c4_i32 : BitVec 32 := 4#32
  let v3 : BitVec 32 := Scalar.minsi arg2 c4_i32
  let v92 : Index := Scalar.indexCast v3
  let c0_42 : Index := 0#32
  let c0_43 : Index := 0#32
  ![0, 4, v92.toNat, 0, 0]
def k0_off10 (i : grid0.Coords) : Fin 5 → Nat :=
  let c0_44 : Index := 0#32
  let c5 : Index := 5#32
  let arg2 : BitVec 32 := BitVec.ofNat 32 (i 2).val
  let c4_i32 : BitVec 32 := 4#32
  let v3 : BitVec 32 := Scalar.minsi arg2 c4_i32
  let v95 : Index := Scalar.indexCast v3
  let c0_45 : Index := 0#32
  let c0_46 : Index := 0#32
  ![0, 5, v95.toNat, 0, 0]
def k0_off11 (i : grid0.Coords) : Fin 5 → Nat :=
  let c0_47 : Index := 0#32
  let c6 : Index := 6#32
  let arg2 : BitVec 32 := BitVec.ofNat 32 (i 2).val
  let c4_i32 : BitVec 32 := 4#32
  let v3 : BitVec 32 := Scalar.minsi arg2 c4_i32
  let v100 : Index := Scalar.indexCast v3
  let c0_48 : Index := 0#32
  let c0_49 : Index := 0#32
  ![0, 6, v100.toNat, 0, 0]
def k0_off12 (i : grid0.Coords) : Fin 5 → Nat :=
  let c0_50 : Index := 0#32
  let c7 : Index := 7#32
  let arg2 : BitVec 32 := BitVec.ofNat 32 (i 2).val
  let c4_i32 : BitVec 32 := 4#32
  let v3 : BitVec 32 := Scalar.minsi arg2 c4_i32
  let v103 : Index := Scalar.indexCast v3
  let c0_51 : Index := 0#32
  let c0_52 : Index := 0#32
  ![0, 7, v103.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x8x5x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== BandRefIdeal.lean ====
abbrev S8x4096x3072 : Shape := ⟨3, ![8, 4096, 3072]⟩
abbrev S257x16 : Shape := ⟨2, ![257, 16]⟩
abbrev S8x4096x1024 : Shape := ⟨3, ![8, 4096, 1024]⟩
abbrev S8x64x64x16x64 : Shape := ⟨5, ![8, 64, 64, 16, 64]⟩
abbrev S8x4096x16x64 : Shape := ⟨4, ![8, 4096, 16, 64]⟩
abbrev S_ : Shape := ⟨0, ![]⟩
abbrev S8x4608x16x64 : Shape := ⟨4, ![8, 4608, 16, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S8x64x576x16x64 : Shape := ⟨5, ![8, 64, 576, 16, 64]⟩
abbrev S8x64x16x64x576 : Shape := ⟨5, ![8, 64, 16, 64, 576]⟩
abbrev S1x1x16x64x576 : Shape := ⟨5, ![1, 1, 16, 64, 576]⟩
abbrev S1x64x1x1x576 : Shape := ⟨5, ![1, 64, 1, 1, 576]⟩
abbrev S8x64x16x64 : Shape := ⟨4, ![8, 64, 16, 64]⟩
abbrev S8x64x16x64x1 : Shape := ⟨5, ![8, 64, 16, 64, 1]⟩
abbrev S8x64x16x64x64 : Shape := ⟨5, ![8, 64, 16, 64, 64]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S257x16, .f32⟩
  | .hbm, ⟨2, _⟩ => ⟨S8x4096x3072, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x64x64x16x64, .f32⟩
  | .hbm, ⟨7, _⟩ => ⟨S8x4096x16x64, .f32⟩
  | .hbm, ⟨8, _⟩ => ⟨S8x4096x16x64, .f32⟩
  | .hbm, ⟨9, _⟩ => ⟨S_, .i32⟩
  | .hbm, ⟨10, _⟩ => ⟨S_, .f32⟩
  | .hbm, ⟨11, _⟩ => ⟨S8x4608x16x64, .f32⟩
  | .hbm, ⟨12, _⟩ => ⟨S_, .i32⟩
  | .hbm, ⟨13, _⟩ => ⟨S_, .f32⟩
  | .hbm, ⟨14, _⟩ => ⟨S8x4608x16x64, .f32⟩
  | .hbm, ⟨15, _⟩ => ⟨S64, .i32⟩
  | .hbm, ⟨16, _⟩ => ⟨S576, .i32⟩
  | .hbm, ⟨17, _⟩ => ⟨S64x1, .i32⟩
  | .hbm, ⟨18, _⟩ => ⟨S1x576, .i32⟩
  | .hbm, ⟨19, _⟩ => ⟨S_, .i32⟩
  | .hbm, ⟨20, _⟩ => ⟨S1x576, .i32⟩
  | .hbm, ⟨21, _⟩ => ⟨S1x576, .i32⟩
  | .hbm, ⟨22, _⟩ => ⟨S64x576, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i32⟩
  | .hbm, ⟨36, _⟩ => ⟨S_, .i32⟩
  | .hbm, ⟨37, _⟩ => ⟨S64x576, .i32⟩
  | .hbm, ⟨38, _⟩ => ⟨S64x576, .i1⟩
  | .hbm, ⟨39, _⟩ => ⟨S_, .i32⟩
  | .hbm, ⟨40, _⟩ => ⟨S64x576, .i32⟩
  | .hbm, ⟨41, _⟩ => ⟨S64x576, .i32⟩
  | .hbm, ⟨42, _⟩ => ⟨S64x576, .i32⟩
  | .hbm, ⟨43, _⟩ => ⟨S64x576x1, .i32⟩
  | .hbm, ⟨44, _⟩ => ⟨S64x576x16, .f32⟩
  | .hbm, ⟨45, _⟩ => ⟨S16x64x576, .f32⟩
  | .hbm, ⟨46, _⟩ => ⟨S64, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S1x576, .i32⟩
  | .hbm, ⟨52, _⟩ => ⟨S64x576, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i1⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S64x576, .i32⟩
  | .hbm, ⟨62, _⟩ => ⟨S64x576x1, .i32⟩
  | .hbm, ⟨63, _⟩ => ⟨S8x64x576x16x64, .f32⟩
  | .hbm, ⟨64, _⟩ => ⟨S_, .i32⟩
  | .hbm, ⟨65, _⟩ => ⟨S64x576, .i32⟩
  | .hbm, ⟨66, _⟩ => ⟨S64x576, .i1⟩
  | .hbm, ⟨67, _⟩ => ⟨S_, .i32⟩
  | .hbm, ⟨68, _⟩ => ⟨S64x576, .i32⟩
  | .hbm, ⟨69, _⟩ => ⟨S64x576, .i32⟩
  | .hbm, ⟨70, _⟩ => ⟨S64x576, .i32⟩
  | .hbm, ⟨71, _⟩ => ⟨S64x576x1, .i32⟩
  | .hbm, ⟨72, _⟩ => ⟨S8x64x576x16x64, .f32⟩
  | .hbm, ⟨73, _⟩ => ⟨S_, .i32⟩
  | .hbm, ⟨74, _⟩ => ⟨S64x576, .i32⟩
  | .hbm, ⟨75, _⟩ => ⟨S64x576, .i32⟩
  | .hbm, ⟨76, _⟩ => ⟨S_, .i32⟩
  | .hbm, ⟨77, _⟩ => ⟨S64x576, .i32⟩
  | .hbm, ⟨78, _⟩ => ⟨S64x576, .i1⟩
  | .hbm, ⟨79, _⟩ => ⟨S8x64x16x64x576, .f32⟩
  | .hbm, ⟨80, _⟩ => ⟨S1x1x16x64x576, .f32⟩
  | .hbm, ⟨81, _⟩ => ⟨S8x64x16x64x576, .f32⟩
  | .hbm, ⟨82, _⟩ => ⟨S8x64x16x64x576, .f32⟩
  | .hbm, ⟨83, _⟩ => ⟨S1x64x1x1x576, .i1⟩
  | .hbm, ⟨84, _⟩ => ⟨S_, .f32⟩
  | .hbm, ⟨85, _⟩ => ⟨S_, .f32⟩
  | .hbm, ⟨86, _⟩ => ⟨S8x64x16x64x576, .i1⟩
  | .hbm, ⟨87, _⟩ => ⟨S8x64x16x64x576, .f32⟩
  | .hbm, ⟨88, _⟩ => ⟨S8x64x16x64x576, .f32⟩
  | .hbm, ⟨89, _⟩ => ⟨S_, .f32⟩
  | .hbm, ⟨90, _⟩ => ⟨S8x64x16x64, .f32⟩
  | .hbm, ⟨91, _⟩ => ⟨S_, .f32⟩
  | .hbm, ⟨92, _⟩ => ⟨S8x64x16x64, .f32⟩
  | .hbm, ⟨93, _⟩ => ⟨S8x64x16x64, .f32⟩
  | .hbm, ⟨94, _⟩ => ⟨S8x64x16x64x1, .f32⟩
  | .hbm, ⟨95, _⟩ => ⟨S8x64x16x64x576, .f32⟩
  | .hbm, ⟨96, _⟩ => ⟨S8x64x16x64x576, .f32⟩
  | .hbm, ⟨97, _⟩ => ⟨S8x64x16x64x576, .f32⟩
  | .hbm, ⟨98, _⟩ => ⟨S_, .f32⟩
  | .hbm, ⟨99, _⟩ => ⟨S8x64x16x64, .f32⟩
  | .hbm, ⟨100, _⟩ => ⟨S8x64x16x64x1, .f32⟩
  | .hbm, ⟨101, _⟩ => ⟨S8x64x16x64x576, .f32⟩
  | .hbm, ⟨102, _⟩ => ⟨S8x64x16x64x576, .f32⟩
  | .hbm, ⟨103, _⟩ => ⟨S8x64x16x64x64, .f32⟩
  | .hbm, ⟨104, _⟩ => ⟨S8x64x64x16x64, .f32⟩
  | .hbm, ⟨105, _⟩ => ⟨S8x4096x1024, .f32⟩
  | .hbm, ⟨106, _⟩ => ⟨S8x4096x1024, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Experts.lean ====
abbrev S491520x128 : Shape := ⟨2, ![491520, 128]⟩
abbrev S240 : Shape := ⟨1, ![240]⟩
abbrev S2x32x1024x512 : Shape := ⟨4, ![2, 32, 1024, 512]⟩
abbrev S2x32x512x1024 : Shape := ⟨4, ![2, 32, 512, 1024]⟩
abbrev S983040x128 : Shape := ⟨2, ![983040, 128]⟩
abbrev S2048x128 : Shape := ⟨2, ![2048, 128]⟩
abbrev S1x1x1024x512 : Shape := ⟨4, ![1, 1, 1024, 512]⟩
abbrev S1 : Shape := ⟨1, ![1]⟩
abbrev S1x1x512x1024 : Shape := ⟨4, ![1, 1, 512, 1024]⟩
abbrev S4096x128 : Shape := ⟨2, ![4096, 128]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 16
  | .smem => 3
  | _ => 0

abbrev bufTy : (tb : Table) → Fin (tcTables nBuf tb) → BufTy
  | .hbm, ⟨0, _⟩ => ⟨S491520x128, .f32⟩
  | .hbm, ⟨1, _⟩ => ⟨S2x32x1024x512, .bf16⟩
  | .hbm, ⟨2, _⟩ => ⟨S2x32x1024x512, .bf16⟩
  | .hbm, ⟨3, _⟩ => ⟨S2x32x512x1024, .bf16⟩
  | .hbm, ⟨4, _⟩ => ⟨S983040x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x1024x512, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S4096x128, .f32⟩
  | .local _ .vmem, ⟨15, _⟩ => ⟨S4096x128, .f32⟩
  | .local _ .smem, ⟨0, _⟩ => ⟨S240, .i32⟩
  | .local _ .smem, ⟨1, _⟩ => ⟨S240, .i32⟩
  | .local _ .smem, ⟨2, _⟩ => ⟨S240, .i32⟩
  | _, _ => ⟨S491520x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![240], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S240.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S491520x128 : Shape := ⟨2, ![491520, 128]⟩
abbrev S240 : Shape := ⟨1, ![240]⟩
abbrev S2x32x1024x512 : Shape := ⟨4, ![2, 32, 1024, 512]⟩
abbrev S2x32x512x1024 : Shape := ⟨4, ![2, 32, 512, 1024]⟩
abbrev S61440x1024 : Shape := ⟨2, ![61440, 1024]⟩
abbrev S1x32x1024x512 : Shape := ⟨4, ![1, 32, 1024, 512]⟩
abbrev S32x1024x512 : Shape := ⟨3, ![32, 1024, 512]⟩
abbrev S32x512x61440 : Shape := ⟨3, ![32, 512, 61440]⟩
abbrev S32x61440x512 : Shape := ⟨3, ![32, 61440, 512]⟩
abbrev S_ : Shape := ⟨0, ![]⟩
abbrev S1x32x512x1024 : Shape := ⟨4, ![1, 32, 512, 1024]⟩
abbrev S32x512x1024 : Shape := ⟨3, ![32, 512, 1024]⟩
abbrev S32x61440x1024 : Shape := ⟨3, ![32, 61440, 1024]⟩
abbrev S240x1 : Shape := ⟨2, ![240, 1]⟩
abbrev S1x32 : Shape := ⟨2, ![1, 32]⟩
abbrev S240x32 : Shape := ⟨2, ![240, 32]⟩
abbrev S240x256x32 : Shape := ⟨3, ![240, 256, 32]⟩
abbrev S61440x32 : Shape := ⟨2, ![61440, 32]⟩
abbrev S61440x1x1024 : Shape := ⟨3, ![61440, 1, 1024]⟩
abbrev S61440x2x1024 : Shape := ⟨3, ![61440, 2, 1024]⟩
abbrev S983040x128 : Shape := ⟨2, ![983040, 128]⟩

abbrev nBuf : Space → Nat
  | .hbm => 68
  | .vmem => 0
  | .smem => 0
  | _ => 0

abbrev bufTy : (tb : Table) → Fin (tcTables nBuf tb) → BufTy
  | .hbm, ⟨0, _⟩ => ⟨S491520x128, .f32⟩
  | .hbm, ⟨1, _⟩ => ⟨S240, .i32⟩
  | .hbm, ⟨2, _⟩ => ⟨S240, .i32⟩
  | .hbm, ⟨3, _⟩ => ⟨S240, .i32⟩
  | .hbm, ⟨4, _⟩ => ⟨S2x32x1024x512, .bf16⟩
  | .hbm, ⟨5, _⟩ => ⟨S2x32x1024x512, .bf16⟩
  | .hbm, ⟨6, _⟩ => ⟨S2x32x512x1024, .bf16⟩
  | .hbm, ⟨7, _⟩ => ⟨S2x32x1024x512, .f32⟩
  | .hbm, ⟨8, _⟩ => ⟨S2x32x1024x512, .f32⟩
  | .hbm, ⟨9, _⟩ => ⟨S2x32x512x1024, .f32⟩
  | .hbm, ⟨10, _⟩ => ⟨S61440x1024, .f32⟩
  | .hbm, ⟨11, _⟩ => ⟨S1x32x1024x512, .f32⟩
  | .hbm, ⟨12, _⟩ => ⟨S32x1024x512, .f32⟩
  | .hbm, ⟨13, _⟩ => ⟨S32x512x61440, .f32⟩
  | .hbm, ⟨14, _⟩ => ⟨S32x61440x512, .f32⟩
  | .hbm, ⟨15, _⟩ => ⟨S32x61440x512, .f32⟩
  | .hbm, ⟨16, _⟩ => ⟨S32x61440x512, .f32⟩
  | .hbm, ⟨17, _⟩ => ⟨S_, .f32⟩
  | .hbm, ⟨18, _⟩ => ⟨S32x61440x512, .f32⟩
  | .hbm, ⟨19, _⟩ => ⟨S32x61440x512, .f32⟩
  | .hbm, ⟨20, _⟩ => ⟨S_, .f32⟩
  | .hbm, ⟨21, _⟩ => ⟨S32x61440x512, .f32⟩
  | .hbm, ⟨22, _⟩ => ⟨S32x61440x512, .f32⟩
  | .hbm, ⟨23, _⟩ => ⟨S32x61440x512, .f32⟩
  | .hbm, ⟨24, _⟩ => ⟨S1x32x1024x512, .f32⟩
  | .hbm, ⟨25, _⟩ => ⟨S32x1024x512, .f32⟩
  | .hbm, ⟨26, _⟩ => ⟨S32x512x61440, .f32⟩
  | .hbm, ⟨27, _⟩ => ⟨S32x61440x512, .f32⟩
  | .hbm, ⟨28, _⟩ => ⟨S32x61440x512, .f32⟩
  | .hbm, ⟨29, _⟩ => ⟨S1x32x512x1024, .f32⟩
  | .hbm, ⟨30, _⟩ => ⟨S32x512x1024, .f32⟩
  | .hbm, ⟨31, _⟩ => ⟨S32x61440x1024, .f32⟩
  | .hbm, ⟨32, _⟩ => ⟨S_, .i32⟩
  | .hbm, ⟨33, _⟩ => ⟨S240, .i32⟩
  | .hbm, ⟨34, _⟩ => ⟨S240, .i1⟩
  | .hbm, ⟨35, _⟩ => ⟨S_, .i32⟩
  | .hbm, ⟨36, _⟩ => ⟨S_, .i32⟩
  | .hbm, ⟨37, _⟩ => ⟨S240, .i32⟩
  | .hbm, ⟨38, _⟩ => ⟨S240, .i32⟩
  | .hbm, ⟨39, _⟩ => ⟨S240x1, .i32⟩
  | .hbm, ⟨40, _⟩ => ⟨S1x32, .i32⟩
  | .hbm, ⟨41, _⟩ => ⟨S240x32, .i32⟩
  | .hbm, ⟨42, _⟩ => ⟨S240x32, .i32⟩
  | .hbm, ⟨43, _⟩ => ⟨S240x32, .i1⟩
  | .hbm, ⟨44, _⟩ => ⟨S240x32, .f32⟩
  | .hbm, ⟨45, _⟩ => ⟨S240x256x32, .f32⟩
  | .hbm, ⟨46, _⟩ => ⟨S61440x32, .f32⟩
  | .hbm, ⟨47, _⟩ => ⟨S61440x1024, .f32⟩
  | .hbm, ⟨48, _⟩ => ⟨S_, .i32⟩
  | .hbm, ⟨49, _⟩ => ⟨S240, .i32⟩
  | .hbm, ⟨50, _⟩ => ⟨S240, .i1⟩
  | .hbm, ⟨51, _⟩ => ⟨S_, .i32⟩
  | .hbm, ⟨52, _⟩ => ⟨S_, .i32⟩
  | .hbm, ⟨53, _⟩ => ⟨S240, .i32⟩
  | .hbm, ⟨54, _⟩ => ⟨S240, .i32⟩
  | .hbm, ⟨55, _⟩ => ⟨S240x1, .i32⟩
  | .hbm, ⟨56, _⟩ => ⟨S1x32, .i32⟩
  | .hbm, ⟨57, _⟩ => ⟨S240x32, .i32⟩
  | .hbm, ⟨58, _⟩ => ⟨S240x32, .i32⟩
  | .hbm, ⟨59, _⟩ => ⟨S240x32, .i1⟩
  | .hbm, ⟨60, _⟩ => ⟨S240x32, .f32⟩
  | .hbm, ⟨61, _⟩ => ⟨S240x256x32, .f32⟩
  | .hbm, ⟨62, _⟩ => ⟨S61440x32, .f32⟩
  | .hbm, ⟨63, _⟩ => ⟨S61440x1024, .f32⟩
  | .hbm, ⟨64, _⟩ => ⟨S61440x1x1024, .f32⟩
  | .hbm, ⟨65, _⟩ => ⟨S61440x1x1024, .f32⟩
  | .hbm, ⟨66, _⟩ => ⟨S61440x2x1024, .f32⟩
  | .hbm, ⟨67, _⟩ => ⟨S983040x128, .f32⟩
  | _, _ => ⟨S491520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_1 : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_call3_v0 : Ref sig .tc := ⟨.hbm, 52, rfl⟩
abbrev main_call3_v1 : Ref sig .tc := ⟨.hbm, 53, rfl⟩
abbrev main_v26 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩

abbrev nD : Nat := 1
abbrev τ : Topo := Topo.v7x

variable {F : FTy → Type} [FloatOps F]
-- ==== ProjC.lean ====
abbrev S32768x1024 : Shape := ⟨2, ![32768, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩
abbrev S1024x2048 : Shape := ⟨2, ![1024, 2048]⟩
abbrev S1x1024 : Shape := ⟨2, ![1, 1024]⟩
abbrev S32768x3072 : Shape := ⟨2, ![32768, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S1024x3072, .f32⟩
  | .hbm, ⟨9, _⟩ => ⟨S1024x3072, .bf16⟩
  | .hbm, ⟨10, _⟩ => ⟨S1x1024, .f32⟩
  | .hbm, ⟨11, _⟩ => ⟨S32768x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x3072, .bf16⟩
  | .local _ .vmem, ⟨5, _⟩ => ⟨S256x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjCRefIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x3072, .f32⟩
  | .hbm, ⟨27, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== ProjAB.lean ====
abbrev S32768x1024 : Shape := ⟨2, ![32768, 1024]⟩
abbrev S1024 : Shape := ⟨1, ![1024]⟩
abbrev S1024x2500 : Shape := ⟨2, ![1024, 2500]⟩
abbrev S1024x512 : Shape := ⟨2, ![1024, 512]⟩
abbrev S1024x64 : Shape := ⟨2, ![1024, 64]⟩
abbrev S1024x256 : Shape := ⟨2, ![1024, 256]⟩
abbrev S1024x4 : Shape := ⟨2, ![1024, 4]⟩
abbrev S_ : Shape := ⟨0, ![]⟩
abbrev S1024x124 : Shape := ⟨2, ![1024, 124]⟩
abbrev S1024x2688 : Shape := ⟨2, ![1024, 2688]⟩
abbrev S1024x2816 : Shape := ⟨2, ![1024, 2816]⟩
abbrev S1x1024 : Shape := ⟨2, ![1, 1024]⟩
abbrev S32768x2688 : Shape := ⟨2, ![32768, 2688]⟩
abbrev S32768x128 : Shape := ⟨2, ![32768, 128]⟩
abbrev S256x1024 : Shape := ⟨2, ![256, 1024]⟩
abbrev S256x2688 : Shape := ⟨2, ![256, 2688]⟩
abbrev S256x128 : Shape := ⟨2, ![256, 128]⟩
abbrev S256 : Shape := ⟨1, ![256]⟩
abbrev S256x1 : Shape := ⟨2, ![256, 1]⟩
abbrev S256x2816 : Shape := ⟨2, ![256, 2816]⟩

abbrev nBuf : Space → Nat
  | .hbm => 26
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2500, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x64, .f32⟩
  | .hbm, ⟨8, _⟩ => ⟨S1024x64, .f32⟩
  | .hbm, ⟨9, _⟩ => ⟨S1024x256, .f32⟩
  | .hbm, ⟨10, _⟩ => ⟨S1024x64, .f32⟩
  | .hbm, ⟨11, _⟩ => ⟨S1024x4, .f32⟩
  | .hbm, ⟨12, _⟩ => ⟨S_, .f32⟩
  | .hbm, ⟨13, _⟩ => ⟨S1024x124, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x2688, .f32⟩
  | .hbm, ⟨21, _⟩ => ⟨S1024x2816, .f32⟩
  | .hbm, ⟨22, _⟩ => ⟨S1024x2816, .bf16⟩
  | .hbm, ⟨23, _⟩ => ⟨S1x1024, .f32⟩
  | .hbm, ⟨24, _⟩ => ⟨S32768x2688, .bf16⟩
  | .hbm, ⟨25, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S256x2688, .bf16⟩
  | .local _ .vmem, ⟨5, _⟩ => ⟨S256x2688, .bf16⟩
  | .local _ .vmem, ⟨6, _⟩ => ⟨S256x128, .f32⟩
  | .local _ .vmem, ⟨7, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjABRefIdeal.lean ====
abbrev S32768x1024 : Shape := ⟨2, ![32768, 1024]⟩
abbrev S1024 : Shape := ⟨1, ![1024]⟩
abbrev S1024x2500 : Shape := ⟨2, ![1024, 2500]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2500 : Shape := ⟨2, ![32768, 2500]⟩
abbrev S32768x512 : Shape := ⟨2, ![32768, 512]⟩
abbrev S32768x64 : Shape := ⟨2, ![32768, 64]⟩
abbrev S32768x256 : Shape := ⟨2, ![32768, 256]⟩
abbrev S32768x4 : Shape := ⟨2, ![32768, 4]⟩
abbrev S32768x2688 : Shape := ⟨2, ![32768, 2688]⟩
abbrev S32768x128 : Shape := ⟨2, ![32768, 128]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2500, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2500, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x64, .f32⟩
  | .hbm, ⟨25, _⟩ => ⟨S32768x64, .f32⟩
  | .hbm, ⟨26, _⟩ => ⟨S32768x256, .f32⟩
  | .hbm, ⟨27, _⟩ => ⟨S32768x64, .f32⟩
  | .hbm, ⟨28, _⟩ => ⟨S32768x4, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x2688, .f32⟩
  | .hbm, ⟨36, _⟩ => ⟨S32768x2688, .bf16⟩
  | .hbm, ⟨37, _⟩ => ⟨S_, .i32⟩
  | .hbm, ⟨38, _⟩ => ⟨S_, .f32⟩
  | .hbm, ⟨39, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== OutAB.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutABRefIdeal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x1024, .bf16⟩
  | .hbm, ⟨5, _⟩ => ⟨S32768x1024, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutC.lean ====
abbrev S32768x1024 : Shape := ⟨2, ![32768, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutCRefIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Router.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 16
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x32, .f32⟩
  | .hbm, ⟨5, _⟩ => ⟨S32, .f32⟩
  | .hbm, ⟨6, _⟩ => ⟨S_, .f32⟩
  | .hbm, ⟨7, _⟩ => ⟨S1024x92, .f32⟩
  | .hbm, ⟨8, _⟩ => ⟨S1024x128, .f32⟩
  | .hbm, ⟨9, _⟩ => ⟨S_, .f32⟩
  | .hbm, ⟨10, _⟩ => ⟨S92, .f32⟩
  | .hbm, ⟨11, _⟩ => ⟨S128, .f32⟩
  | .hbm, ⟨12, _⟩ => ⟨S1x128, .f32⟩
  | .hbm, ⟨13, _⟩ => ⟨S1x1024, .f32⟩
  | .hbm, ⟨14, _⟩ => ⟨S32768x128, .i32⟩
  | .hbm, ⟨15, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x128, .f32⟩
  | .local _ .vmem, ⟨4, _⟩ => ⟨S1x128, .f32⟩
  | .local _ .vmem, ⟨5, _⟩ => ⟨S256x128, .i32⟩
  | .local _ .vmem, ⟨6, _⟩ => ⟨S256x128, .i32⟩
  | .local _ .vmem, ⟨7, _⟩ => ⟨S256x128, .f32⟩
  | .local _ .vmem, ⟨8, _⟩ => ⟨S256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouterRefIdeal.lean ====
abbrev S32768x1024 : Shape := ⟨2, ![32768, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S32768x4x8 : Shape := ⟨3, ![32768, 4, 8]⟩
abbrev S32768x4x1 : Shape := ⟨3, ![32768, 4, 1]⟩
abbrev S32768x8 : Shape := ⟨2, ![32768, 8]⟩
abbrev S8 : Shape := ⟨1, ![8]⟩
abbrev S1x8 : Shape := ⟨2, ![1, 8]⟩
abbrev S128 : Shape := ⟨1, ![128]⟩
abbrev S1x128 : Shape := ⟨2, ![1, 128]⟩
abbrev S32768x128 : Shape := ⟨2, ![32768, 128]⟩

abbrev nBuf : Space → Nat
  | .hbm => 189
  | .vmem => 0
  | .smem => 0
  | _ => 0

abbrev hbmTy0_0 (i : Nat) : BufTy := match i % 128 with
  | 0 => ⟨S32768x1024, .f32⟩
  | 1 => ⟨S1024, .f32⟩
  | 2 => ⟨S1024x4, .f32⟩
  | 3 => ⟨S4, .f32⟩
  | 4 => ⟨S1024x32, .f32⟩
  | 5 => ⟨S32, .f32⟩
  | 6 => ⟨S32768x1024, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S32768x4, .f32⟩
  | 23 => ⟨S1x4, .f32⟩
  | 24 => ⟨S32768x4, .f32⟩
  | 25 => ⟨S32768x4, .f32⟩
  | 26 => ⟨S_, .f32⟩
  | 27 => ⟨S32768, .f32⟩
  | 28 => ⟨S_, .f32⟩
  | 29 => ⟨S32768, .f32⟩
  | 30 => ⟨S32768, .f32⟩
  | 31 => ⟨S32768x1, .f32⟩
  | 32 => ⟨S32768x4, .f32⟩
  | 33 => ⟨S32768x4, .f32⟩
  | 34 => ⟨S32768x4, .f32⟩
  | 35 => ⟨S_, .f32⟩
  | 36 => ⟨S32768, .f32⟩
  | 37 => ⟨S32768x1, .f32⟩
  | 38 => ⟨S32768x4, .f32⟩
  | 39 => ⟨S32768x4, .f32⟩
  | 40 => ⟨S4, .i32⟩
  | 41 => ⟨S_, .f32⟩
  | 42 => ⟨S32768, .f32⟩
  | 43 => ⟨S32768x1, .f32⟩
  | 44 => ⟨S32768x4, .f32⟩
  | 45 => ⟨S32768x4, .i1⟩
  | 46 => ⟨S_, .i32⟩
  | 47 => ⟨S_, .i32⟩
  | 48 => ⟨S32768x4, .i32⟩
  | 49 => ⟨S32768x4, .i32⟩
  | 50 => ⟨S32768x4, .i32⟩
  | 51 => ⟨S_, .i32⟩
  | 52 => ⟨S32768, .i32⟩
  | 53 => ⟨S4, .i32⟩
  | 54 => ⟨S1x4, .i32⟩
  | 55 => ⟨S32768x1, .i32⟩
  | 56 => ⟨S32768x4, .i32⟩
  | 57 => ⟨S32768x4, .i32⟩
  | 58 => ⟨S32768x4, .i1⟩
  | 59 => ⟨S_, .f32⟩
  | 60 => ⟨S_, .f32⟩
  | 61 => ⟨S32768x4, .f32⟩
  | 62 => ⟨S32768x4, .f32⟩
  | 63 => ⟨S_, .f32⟩
  | 64 => ⟨S32768, .f32⟩
  | 65 => ⟨S32768x32, .f32⟩
  | 66 => ⟨S1x32, .f32⟩
  | 67 => ⟨S32768x32, .f32⟩
  | 68 => ⟨S32768x32, .f32⟩
  | 69 => ⟨S32768x4x8, .f32⟩
  | 70 => ⟨S32768x4x1, .i1⟩
  | 71 => ⟨S_, .f32⟩
  | 72 => ⟨S_, .f32⟩
  | 73 => ⟨S32768x4x8, .i1⟩
  | 74 => ⟨S32768x4x8, .f32⟩
  | 75 => ⟨S32768x4x8, .f32⟩
  | 76 => ⟨S_, .f32⟩
  | 77 => ⟨S32768x8, .f32⟩
  | 78 => ⟨S_, .f32⟩
  | 79 => ⟨S32768, .f32⟩
  | 80 => ⟨S_, .f32⟩
  | 81 => ⟨S32768, .f32⟩
  | 82 => ⟨S32768, .f32⟩
  | 83 => ⟨S32768x1, .f32⟩
  | 84 => ⟨S32768x8, .f32⟩
  | 85 => ⟨S32768x8, .f32⟩
  | 86 => ⟨S32768x8, .f32⟩
  | 87 => ⟨S_, .f32⟩
  | 88 => ⟨S32768, .f32⟩
  | 89 => ⟨S32768x1, .f32⟩
  | 90 => ⟨S32768x8, .f32⟩
  | 91 => ⟨S32768x8, .f32⟩
  | 92 => ⟨S8, .i32⟩
  | 93 => ⟨S1x8, .i32⟩
  | 94 => ⟨S8, .i32⟩
  | 95 => ⟨S_, .f32⟩
  | 96 => ⟨S32768, .f32⟩
  | 97 => ⟨S32768x1, .f32⟩
  | 98 => ⟨S32768x8, .f32⟩
  | 99 => ⟨S32768x8, .i1⟩
  | 100 => ⟨S_, .i32⟩
  | 101 => ⟨S_, .i32⟩
  | 102 => ⟨S32768x8, .i32⟩
  | 103 => ⟨S32768x8, .i32⟩
  | 104 => ⟨S32768x8, .i32⟩
  | 105 => ⟨S_, .i32⟩
  | 106 => ⟨S32768, .i32⟩
  | 107 => ⟨S32768x1, .i32⟩
  | 108 => ⟨S32768x8, .i32⟩
  | 109 => ⟨S32768x8, .i32⟩
  | 110 => ⟨S32768x8, .i1⟩
  | 111 => ⟨S_, .f32⟩
  | 112 => ⟨S_, .f32⟩
  | 113 => ⟨S32768x8, .f32⟩
  | 114 => ⟨S32768x8, .f32⟩
  | 115 => ⟨S8, .i32⟩
  | 116 => ⟨S_, .f32⟩
  | 117 => ⟨S32768, .f32⟩
  | 118 => ⟨S32768x1, .f32⟩
  | 119 => ⟨S32768x8, .f32⟩
  | 120 => ⟨S32768x8, .i1⟩
  | 121 => ⟨S_, .i32⟩
  | 122 => ⟨S_, .i32⟩
  | 123 => ⟨S32768x8, .i32⟩
  | 124 => ⟨S32768x8, .i32⟩
  | 125 => ⟨S32768x8, .i32⟩
  | 126 => ⟨S_, .i32⟩
  | 127 => ⟨S32768, .i32⟩
  | _ => ⟨S32768x1024, .f32⟩

abbrev hbmTy0_1 (i : Nat) : BufTy := match i % 128 with
  | 0 => ⟨S32768x1, .i32⟩
  | 1 => ⟨S32768x8, .i32⟩
  | 2 => ⟨S32768x8, .i32⟩
  | 3 => ⟨S32768x8, .i1⟩
  | 4 => ⟨S_, .f32⟩
  | 5 => ⟨S_, .f32⟩
  | 6 => ⟨S32768x8, .f32⟩
  | 7 => ⟨S32768x8, .f32⟩
  | 8 => ⟨S_, .f32⟩
  | 9 => ⟨S32768, .f32⟩
  | 10 => ⟨S32768x1, .i32⟩
  | 11 => ⟨S32768x8, .i32⟩
  | 12 => ⟨S32768x8, .i32⟩
  | 13 => ⟨S32768x8, .i1⟩
  | 14 => ⟨S_, .f32⟩
  | 15 => ⟨S_, .f32⟩
  | 16 => ⟨S32768x8, .f32⟩
  | 17 => ⟨S32768x8, .f32⟩
  | 18 => ⟨S_, .f32⟩
  | 19 => ⟨S32768, .f32⟩
  | 20 => ⟨S32768, .f32⟩
  | 21 => ⟨S32768, .f32⟩
  | 22 => ⟨S32768, .f32⟩
  | 23 => ⟨S32768, .f32⟩
  | 24 => ⟨S32768, .f32⟩
  | 25 => ⟨S32768, .f32⟩
  | 26 => ⟨S32768, .i32⟩
  | 27 => ⟨S32768, .i32⟩
  | 28 => ⟨S_, .i32⟩
  | 29 => ⟨S32768, .i32⟩
  | 30 => ⟨S32768, .i32⟩
  | 31 => ⟨S32768, .i32⟩
  | 32 => ⟨S_, .i32⟩
  | 33 => ⟨S32768, .i32⟩
  | 34 => ⟨S32768, .i32⟩
  | 35 => ⟨S32768, .i32⟩
  | 36 => ⟨S_, .i32⟩
  | 37 => ⟨S32768, .i32⟩
  | 38 => ⟨S32768, .i32⟩
  | 39 => ⟨S32768, .i32⟩
  | 40 => ⟨S_, .i32⟩
  | 41 => ⟨S32768, .i32⟩
  | 42 => ⟨S32768, .i32⟩
  | 43 => ⟨S32768, .i32⟩
  | 44 => ⟨S32768, .i1⟩
  | 45 => ⟨S32768, .f32⟩
  | 46 => ⟨S32768, .i1⟩
  | 47 => ⟨S32768, .f32⟩
  | 48 => ⟨S128, .i32⟩
  | 49 => ⟨S1x128, .i32⟩
  | 50 => ⟨S32768x1, .i32⟩
  | 51 => ⟨S32768x128, .i32⟩
  | 52 => ⟨S_, .i32⟩
  | 53 => ⟨S1x128, .i32⟩
  | 54 => ⟨S1x128, .i1⟩
  | 55 => ⟨S32768x1, .f32⟩
  | 56 => ⟨S32768x1, .f32⟩
  | 57 => ⟨S32768x128, .i1⟩
  | 58 => ⟨S32768x128, .f32⟩
  | 59 => ⟨S32768x128, .f32⟩
  | 60 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_call4_v0 : Ref sig .tc := ⟨.hbm, 112, rfl⟩
abbrev main_call4_v1 : Ref sig .tc := ⟨.hbm, 113, rfl⟩
abbrev main_v75 : Ref sig .tc := ⟨.hbm, 114, rfl⟩
abbrev main_v76 : Ref sig .tc := ⟨.hbm, 115, rfl⟩
abbrev main_cst_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_19 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v81 : Ref sig .tc := ⟨.hbm, 125, rfl⟩
abbrev main_c_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_21 : Ref sig .tc := ⟨.hbm, 132, rfl⟩
abbrev main_call6_v0 : Ref sig .tc := ⟨.hbm, 133, rfl⟩
abbrev main_call6_v1 : Ref sig .tc := ⟨.hbm, 134, rfl⟩
abbrev main_v87 : Ref sig .tc := ⟨.hbm, 135, rfl⟩
abbrev main_cst_22 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_23 : Ref sig .tc := ⟨.hbm, 142, rfl⟩
abbrev main_call7_v0 : Ref sig .tc := ⟨.hbm, 143, rfl⟩
abbrev main_call7_v1 : Ref sig .tc := ⟨.hbm, 144, rfl⟩
abbrev main_v93 : Ref sig .tc := ⟨.hbm, 145, rfl⟩
abbrev main_cst_24 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_c_25 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_26 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_27 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_28 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_c_29 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_call10_v0 : Ref sig .tc := ⟨.hbm, 185, rfl⟩
abbrev main_call10_v1 : Ref sig .tc := ⟨.hbm, 186, rfl⟩
abbrev main_call10_v2 : Ref sig .tc := ⟨.hbm, 187, rfl⟩
abbrev main_v127 : Ref sig .tc := ⟨.hbm, 188, rfl⟩

abbrev nD : Nat := 1
abbrev τ : Topo := Topo.v7x

variable {F : FTy → Type} [FloatOps F]
-- ==== Proof.Softmax.lean ====
/- A row of softmax attention over the extended reals, and the two ways in which it is computed: the weights divided by their sum before they meet the
   values (`divided_first`), or the weighted sum divided afterwards (`divided_last`), each over a window of keys that holds every key the mask leaves. -/
module

public import Idealize.ShloMosaic.PureOps.Ideal

@[expose] public section

noncomputable section

namespace Cert.Softmax

open Idealize.ShloMosaic

/-- A sum of numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest score of a row. -/
def top {ι : Type} [Fintype ι] (f : ι → EReal) : EReal := Finset.univ.sup f

/-- The sum of a row's weights. -/
def mass {ι : Type} [Fintype ι] (f : ι → EReal) : EReal := ∑ k, Ideal.exp (f k - top f)

/-- A row of attention: the values weighted by the softmax of the scores. -/
def attend {ι : Type} [Fintype ι] (f w : ι → EReal) : EReal := ∑ k, Ideal.div (Ideal.exp (f k - top f)) (mass f) * w k

variable {ι κ : Type} [Fintype ι] [Fintype κ]

/-- The scores `f` of a window show the scores `g` of all keys: key `σ j` at position `j`, every unmasked key exactly once, the rest masked. -/
structure Shows (f : ι → EReal) (σ : ι → κ) (g : κ → EReal) : Prop where
  score : ∀ j, f j ≠ ⊥ → f j = g (σ j)
  once : ∀ i j, f i ≠ ⊥ → f j ≠ ⊥ → σ i = σ j → i = j
  every : ∀ p, g p ≠ ⊥ → ∃ j, f j ≠ ⊥ ∧ σ j = p

namespace Shows

variable {f : ι → EReal} {σ : ι → κ} {g : κ → EReal}

/-- The window's greatest score is that of all keys. -/
theorem top_eq (h : Shows f σ g) : top f = top g := by
  apply le_antisymm
  · refine Finset.sup_le fun j _ => ?_
    by_cases hj : f j = ⊥
    · rw [hj]; exact bot_le
    · rw [h.score j hj]; exact Finset.le_sup (Finset.mem_univ _)
  · refine Finset.sup_le fun p _ => ?_
    by_cases hp : g p = ⊥
    · rw [hp]; exact bot_le
    · obtain ⟨j, hj, rfl⟩ := h.every p hp
      rw [← h.score j hj]; exact Finset.le_sup (Finset.mem_univ _)

/-- A sum over the window of terms that vanish at the masked positions is the sum over all keys. -/
theorem sum_eq (h : Shows f σ g) {M : Type} [AddCommMonoid M] (F : ι → M) (G : κ → M) (hF : ∀ j, f j ≠ ⊥ → F j = G (σ j))
    (hF0 : ∀ j, f j = ⊥ → F j = 0) (hG0 : ∀ p, g p = ⊥ → G p = 0) : ∑ j, F j = ∑ p, G p := by
  refine Finset.sum_bij_ne_zero (fun j _ _ => σ j) (fun _ _ _ => Finset.mem_univ _) ?_ ?_ ?_
  · intro i _ hi j _ hj e
    exact h.once i j (fun hb => hi (hF0 i hb)) (fun hb => hj (hF0 j hb)) e
  · intro p _ hp
    obtain ⟨j, hj, rfl⟩ := h.every p (fun hb => hp (hG0 p hb))
    exact ⟨j, Finset.mem_univ _, by rw [hF j hj]; exact hp, rfl⟩
  · intro j _ hj
    exact hF j (fun hb => hj (hF0 j hb))

/-- A masked key has no weight. -/
theorem exp_bot_sub (x : EReal) : Ideal.exp (⊥ - x) = 0 := by
  rw [sub_eq_add_neg, EReal.bot_add]; rfl

theorem mass_eq (h : Shows f σ g) : mass f = mass g :=
  h.sum_eq _ _ (fun j hj => by rw [h.top_eq, h.score j hj]) (fun j hj => by rw [hj, exp_bot_sub]) (fun p hp => by rw [hp, exp_bot_sub])

end Shows

/-- A row of scores with no ⊤ and some unmasked key: its greatest score is a number, and so is every weight; their sum is a positive number. -/
structure Proper (g : κ → EReal) : Prop where
  lt_top : ∀ p, g p ≠ ⊤
  some : ∃ p, g p ≠ ⊥

namespace Proper

variable {g : κ → EReal}

theorem top_attained (h : Proper g) : ∃ p, top g = g p ∧ g p ≠ ⊥ := by
  obtain ⟨p, hp⟩ := h.some
  obtain ⟨i, _, hi⟩ := Finset.exists_mem_eq_sup Finset.univ ⟨p, Finset.mem_univ p⟩ g
  refine ⟨i, hi, fun hb => hp ?_⟩
  have := Finset.le_sup (f := g) (Finset.mem_univ p)
  rw [hi, hb] at this
  exact le_bot_iff.mp this

theorem top_real (h : Proper g) : ∃ r : ℝ, top g = (r : EReal) := by
  obtain ⟨p, e, hp⟩ := h.top_attained
  exact ⟨(g p).toReal, by rw [e, EReal.coe_toReal (h.lt_top p) hp]⟩

/-- Every weight is a number, not negative. -/
theorem weight_real (h : Proper g) (p : κ) : ∃ r : ℝ, 0 ≤ r ∧ Ideal.exp (g p - top g) = (r : EReal) := by
  obtain ⟨t, ht⟩ := h.top_real
  by_cases hp : g p = ⊥
  · exact ⟨0, le_rfl, by rw [hp, Shows.exp_bot_sub]; rfl⟩
  · lift g p to ℝ using ⟨h.lt_top p, hp⟩ with r
    exact ⟨Real.exp (r - t), (Real.exp_pos _).le, by rw [ht, ← EReal.coe_sub]; rfl⟩

/-- The sum of the weights is a positive number. -/
theorem mass_real (h : Proper g) : ∃ r : ℝ, 0 < r ∧ mass g = (r : EReal) := by
  choose e he0 he using h.weight_real
  refine ⟨∑ p, e p, ?_, by unfold mass; simp only [he]; rw [coe_sum]⟩
  obtain ⟨p, ep, hp⟩ := h.top_attained
  refine Finset.sum_pos' (fun i _ => he0 i) ⟨p, Finset.mem_univ p, ?_⟩
  have h1 := he p
  rw [ep] at h1
  lift g p to ℝ using ⟨h.lt_top p, hp⟩ with r
  rw [← EReal.coe_sub, sub_self] at h1
  have : Real.exp 0 = e p := EReal.coe_injective h1
  rw [← this]; simp

end Proper

variable {f : ι → EReal} {σ : ι → κ} {g : κ → EReal} {w : ι → EReal} {v : κ → EReal}

/-- The weights divided by their sum before they meet the values: a window's row is the row over all keys. -/
theorem divided_first (h : Shows f σ g) (hg : Proper g) (hw : ∀ j, f j ≠ ⊥ → w j = v (σ j)) : attend f w = attend g v := by
  obtain ⟨l, hl, el⟩ := hg.mass_real
  have hz (x : EReal) : Ideal.div 0 (mass g) * x = 0 := by
    rw [el, Ideal.div_coe hl.ne', zero_mul, zero_mul]
  exact h.sum_eq _ _ (fun j hj => by rw [h.mass_eq, h.top_eq, h.score j hj, hw j hj])
    (fun j hj => by rw [hj, Shows.exp_bot_sub, h.mass_eq, hz]) (fun p hp => by rw [hp, Shows.exp_bot_sub, hz])

/-- The weighted sum divided by the sum of the weights afterwards: the same row, where the values are numbers. -/
theorem divided_last (h : Shows f σ g) (hg : Proper g) (hw : ∀ j, f j ≠ ⊥ → w j = v (σ j)) (hv : ∀ p, ∃ r : ℝ, v p = (r : EReal)) :
    Ideal.div (∑ j, Ideal.exp (f j - top f) * w j) (mass f) = attend g v := by
  obtain ⟨l, hl, el⟩ := hg.mass_real
  choose e he0 he using hg.weight_real
  choose u hu using hv
  have h1 : ∑ j, Ideal.exp (f j - top f) * w j = ∑ p, Ideal.exp (g p - top g) * v p :=
    h.sum_eq _ _ (fun j hj => by rw [h.top_eq, h.score j hj, hw j hj])
      (fun j hj => by rw [hj, Shows.exp_bot_sub, zero_mul]) (fun p hp => by rw [hp, Shows.exp_bot_sub, zero_mul])
  rw [h1, h.mass_eq, attend, el, Ideal.div_coe hl.ne']
  simp only [Ideal.div_coe hl.ne', he, hu, ← EReal.coe_mul, ← coe_sum]
  congr 1
  rw [Finset.sum_mul]
  exact Finset.sum_congr rfl fun p _ => by ring

end Cert.Softmax

end
-- ==== Proof.Spec.lean ====
/- What the band attention computes, over the extended reals: position `i` sees the positions of its own block of 64 and of the eight blocks before it;
   the score of a key is the dot product of 64 lanes plus the table's entry at the clipped distance. -/
module

public import proofs.«01_k».proof.Proof.Softmax

@[expose] public section

noncomputable section

namespace Cert.Band

open Idealize.ShloMosaic Cert.Softmax

/-- Position `i` sees position `p`. -/
def Sees (i p : Nat) : Prop := p / 64 ≤ i / 64 ∧ i / 64 ≤ p / 64 + 8

instance (i p : Nat) : Decidable (Sees i p) := inferInstanceAs (Decidable (_ ∧ _))

/-- The row of the distance table for query `i` and key `p`: the distance `i - p`, clipped to `[-128, 128]`, plus 128. -/
def distRow (i p : Nat) : Fin 257 := ⟨min (i + 128 - p) 256, by omega⟩

/-- The query, key and value lane of head `h`, lane `d`. -/
def lane (part : Nat) (h : Fin 16) (d : Fin 64) (hp : part ≤ 2) : Fin 3072 := ⟨part * 1024 + (h.val * 64 + d.val), by omega⟩

/-- The score of key `p` for query `i` of head `h`; ⊥ where the query does not see the key. -/
def score (x : Fin 8 → Fin 4096 → Fin 3072 → EReal) (t : Fin 257 → Fin 16 → EReal) (b : Fin 8) (h : Fin 16) (i p : Fin 4096) : EReal :=
  if Sees i p then (∑ d : Fin 64, x b i (lane 0 h d (by omega)) * x b p (lane 1 h d (by omega))) + t (distRow i p) h else ⊥

/-- The value of key `p`, lane `d` of head `h`. -/
def value (x : Fin 8 → Fin 4096 → Fin 3072 → EReal) (b : Fin 8) (h : Fin 16) (d : Fin 64) (p : Fin 4096) : EReal := x b p (lane 2 h d le_rfl)

/-- The band attention. -/
def band (x : Fin 8 → Fin 4096 → Fin 3072 → EReal) (t : Fin 257 → Fin 16 → EReal) (b : Fin 8) (i : Fin 4096) (h : Fin 16) (d : Fin 64) : EReal :=
  attend (score x t b h i) (value x b h d)

/-- The arguments hold numbers, no infinities. -/
structure Finite (x : Fin 8 → Fin 4096 → Fin 3072 → EReal) (t : Fin 257 → Fin 16 → EReal) : Prop where
  proj : ∀ b i k, ∃ r : ℝ, x b i k = r
  table : ∀ n h, ∃ r : ℝ, t n h = r

variable {x : Fin 8 → Fin 4096 → Fin 3072 → EReal} {t : Fin 257 → Fin 16 → EReal}

/-- The score of a key that is seen is a number. -/
theorem Finite.score_real (h : Finite x t) (b : Fin 8) (e : Fin 16) (i p : Fin 4096) (hs : Sees i p) : ∃ r : ℝ, score x t b e i p = r := by
  choose u hu using h.proj
  choose w hw using h.table
  refine ⟨(∑ d : Fin 64, u b i (lane 0 e d (by omega)) * u b p (lane 1 e d (by omega))) + w (distRow i p) e, ?_⟩
  rw [score, if_pos hs, EReal.coe_add, coe_sum]
  simp only [hu, hw, EReal.coe_mul]

theorem Finite.score_ne_bot (h : Finite x t) (b : Fin 8) (e : Fin 16) (i p : Fin 4096) : score x t b e i p ≠ ⊥ ↔ Sees i p := by
  constructor
  · intro hn
    by_contra hs
    exact hn (if_neg hs)
  · intro hs
    obtain ⟨r, hr⟩ := h.score_real b e i p hs
    rw [hr]; exact EReal.coe_ne_bot r

/-- A row of scores has no ⊤, and a query sees itself. -/
theorem Finite.proper (h : Finite x t) (b : Fin 8) (e : Fin 16) (i : Fin 4096) : Proper (score x t b e i) where
  lt_top p := by
    by_cases hs : Sees i p
    · obtain ⟨r, hr⟩ := h.score_real b e i p hs
      rw [hr]; exact EReal.coe_ne_top r
    · rw [score, if_neg hs]; exact bot_ne_top
  some := ⟨i, (h.score_ne_bot b e i i).mpr ⟨le_rfl, by omega⟩⟩

/-- A window of keys, key `key j` at position `j`, unmasked where `ok j` says so, that holds every key the query sees exactly once. -/
theorem Finite.shows (h : Finite x t) {n : Nat} {f : Fin n → EReal} {ok : Fin n → Prop} {key : Fin n → Fin 4096} {b : Fin 8} {e : Fin 16} {i : Fin 4096}
    (hmask : ∀ j, ¬ ok j → f j = ⊥) (hsee : ∀ j, ok j → Sees i (key j)) (hscore : ∀ j, ok j → f j = score x t b e i (key j))
    (honce : ∀ j k, ok j → ok k → key j = key k → j = k) (hevery : ∀ p : Fin 4096, Sees i p → ∃ j, ok j ∧ key j = p) :
    Shows f key (score x t b e i) where
  score j hj := hscore j (not_not.mp fun h' => hj (hmask j h'))
  once j k hj hk := honce j k (not_not.mp fun h' => hj (hmask j h')) (not_not.mp fun h' => hk (hmask k h'))
  every p hp := by
    obtain ⟨j, ok, e'⟩ := hevery p ((h.score_ne_bot b e i p).mp hp)
    exact ⟨j, by rw [hscore j ok]; exact (h.score_ne_bot b e i _).mpr (hsee j ok), e'⟩

end Cert.Band

end
-- ==== Proof.BandPre.lean ====
/- The precondition read: every element of the two arguments is a number. -/
module

public import proofs.«01_k».proof.Pre_finite
public import proofs.«01_k».proof.Proof.Spec
public import Idealize.ShloMosaic.Lib.Pointwise
public import Idealize.ShloMosaic.Lib.ReduceAll

@[expose] public section

set_option maxRecDepth 16384

noncomputable section

namespace Cert.BandPre

open Idealize.ShloMosaic Cert.Pre_finite

/-- The predicate's side conditions. -/
theorem facts : Cert.Pre_finite.Facts where
  bitsLt_bf16_f32 := by decide
  bcast_S_S8x4096x3072 := by decide
  reducesTo_S8x4096x3072_S_d0_1_2 := by decide
  h_S_ := by decide
  bcast_S_S257x16 := by decide
  reducesTo_S257x16_S_d0_1 := by decide

theorem ofBits_top : Ideal.ofBits .f32 0x7F800000#32 = ⊤ := by simp [Ideal.ofBits, Ideal.ieee]

/-- An extended real whose absolute value is below ⊤ is a number. -/
theorem number (x : EReal) (h : BitVec.ofBool (decide (max x (-x) < ⊤)) = 1#1) : ∃ r : ℝ, x = r := by
  have hx : max x (-x) < ⊤ := by
    by_contra hn
    rw [decide_eq_false hn] at h
    exact absurd h (by decide)
  induction x with
  | bot => exact absurd hx (by simp)
  | top => exact absurd hx (by simp)
  | coe r => exact ⟨r, rfl⟩

/-- Both conjuncts of a conjunction of bits. -/
theorem both : ∀ a b : BitVec 1, IntOp.andi a b = 1#1 → a = 1#1 ∧ b = 1#1 := by decide

theorem finite (x : FVec Ideal S8x4096x3072 .bf16) (t : FVec Ideal S257x16 .f32)
    (h : (letI := facts; Cert.Pre_finite.fn (F := Ideal) x t) = fun _ => 1#1) :
    Band.Finite (fun b i k => x (ix3 b i k)) (fun n e => t (ix2 n e)) := by
  letI := facts
  have : Subsingleton S_.Idx := ⟨fun a b => funext fun i => i.elim0⟩
  obtain ⟨h1, h2⟩ := both _ _ (congrFun h ix0)
  constructor
  · intro b i k
    have e := Host.reduce_andi_all _ _ _ _ _ h1 (ix3 b i k)
    pointwise at e
    rw [ofBits_top] at e
    exact number _ e
  · intro n k
    have e := Host.reduce_andi_all _ _ _ _ _ h2 (ix2 n k)
    pointwise at e
    rw [ofBits_top] at e
    exact number _ e

end Cert.BandPre

end
-- ==== Proof.Gathers.lean ====
/- Two gathers read at an index: rows of a two-dimensional table, and rows along the second axis of a four-dimensional array, each by a
   two-dimensional array of row numbers. -/
module

public import Idealize.ShloMosaic.Lib.Pointwise

@[expose] public section

noncomputable section

namespace Cert.Gathers

open Idealize.ShloMosaic

variable {α : Type}

/-- Rows `idx[r, c]` of an `[N, H]` table, as `[R, C, H]`. -/
abbrev rowDims (N H R C : Nat) (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ := ⟨[2], [0], [], [], [0], 2, ![1, H], wf⟩

theorem rows_apply {N H R C w : Nat} {wf} (x : (⟨2, ![N, H]⟩ : Shape).Idx → α) (idx : IVec ⟨3, ![R, C, 1]⟩ w) (r : Fin R) (c : Fin C) (h : Fin H) (n : Fin N)
    (hn : (idx (ix3 r c 0)).toInt.toNat = n) : Host.gather (rowDims N H R C wf) x idx (ix3 r c h) = x (ix2 n h) := by
  have hsi : (rowDims N H R C wf).siIdx (ix3 r c h) ⟨0, Nat.one_pos⟩ = ix3 r c 0 := by
    funext b; refine Fin.ext ?_
    match b with
    | ⟨0, _⟩ => rfl
    | ⟨1, _⟩ => rfl
    | ⟨2, _⟩ => rfl
  unfold Host.gather
  congr 1
  funext a
  refine Fin.ext ?_
  match a with
  | ⟨0, _⟩ =>
    show min (idx ((rowDims N H R C wf).siIdx (ix3 r c h) ⟨0, Nat.one_pos⟩)).toInt.toNat (N - 1) + 0 + 0 = n.val
    rw [hsi, hn]; omega
  | ⟨1, _⟩ =>
    show 0 + 0 + h.val = h.val
    omega

/-- Rows `idx[r, c]` along axis 1 of a `[B, N, H, D]` array, as `[B, R, C, H, D]`. -/
abbrev midDims (B N H D R C : Nat)
    (wf : GatherDims.WF ⟨4, ![B, N, H, D]⟩ ⟨3, ![R, C, 1]⟩ ⟨5, ![B, R, C, H, D]⟩ [0, 3, 4] [1] [] [1] [] 2 ![B, 1, H, D]) :
    GatherDims ⟨4, ![B, N, H, D]⟩ ⟨3, ![R, C, 1]⟩ ⟨5, ![B, R, C, H, D]⟩ := ⟨[0, 3, 4], [1], [], [], [1], 2, ![B, 1, H, D], wf⟩

theorem mid_apply {B N H D R C w : Nat} {wf} (x : (⟨4, ![B, N, H, D]⟩ : Shape).Idx → α) (idx : IVec ⟨3, ![R, C, 1]⟩ w) (b : Fin B) (r : Fin R) (c : Fin C)
    (h : Fin H) (d : Fin D) (n : Fin N) (hn : (idx (ix3 r c 0)).toInt.toNat = n) :
    Host.gather (midDims B N H D R C wf) x idx (ix5 b r c h d) = x (ix4 b n h d) := by
  have hsi : (midDims B N H D R C wf).siIdx (ix5 b r c h d) ⟨0, Nat.one_pos⟩ = ix3 r c 0 := by
    funext a; refine Fin.ext ?_
    match a with
    | ⟨0, _⟩ => rfl
    | ⟨1, _⟩ => rfl
    | ⟨2, _⟩ => rfl
  unfold Host.gather
  congr 1
  funext a
  refine Fin.ext ?_
  match a with
  | ⟨0, _⟩ =>
    show 0 + 0 + b.val = b.val
    omega
  | ⟨1, _⟩ =>
    show min (idx ((midDims B N H D R C wf).siIdx (ix5 b r c h d) ⟨0, Nat.one_pos⟩)).toInt.toNat (N - 1) + 0 + 0 = n.val
    rw [hsi, hn]; omega
  | ⟨2, _⟩ =>
    show 0 + 0 + h.val = h.val
    omega
  | ⟨3, _⟩ =>
    show 0 + 0 + d.val = d.val
    omega

end Cert.Gathers

end
-- ==== Proof.BandRef.lean ====
/- The reference's composed term, cut into the stages of the layer, each read at an index; the last is the band attention. -/
module

public import proofs.«01_k».proof.Proof.Spec
public import proofs.«01_k».proof.Proof.Gathers
public import proofs.«01_k».proof.Proof.Gen.BandRefIdeal.Run
public import Idealize.ShloMosaic.Lib.Pointwise
public import Idealize.ShloMosaic.Lib.Tactic.WordOmega

@[expose] public section

set_option maxRecDepth 16384

noncomputable section

namespace Cert.BandRef

open Idealize.ShloMosaic Idealize.ShloMosaic.TcCoe Cert.BandRefIdeal Cert.BandRefIdeal.Gen Cert.Softmax

section Stages

variable {F : FTy → Type} [FloatOps F]

/-- The row of the padded keys at window position `kj` of block `c`: `64 c + kj`. -/
def padded : IVec S64x576 32 :=
  addi (broadcastInDim S64x576 ![0, 1] bcast_S64x1_S64x576_0_1 (muli (broadcastInDim S64x1 ![0] bcast_S64_S64x1_0 (iotaInDim S64 32 0)) (broadcastInDim S64x1 ![] bcast_S_S64x1 (constantI S_ 32 64#32)))) (broadcastInDim S64x576 ![0, 1] bcast_S1x576_S64x576_0_1 (broadcastInDim S1x576 ![1] bcast_S576_S1x576_1 (iotaInDim S576 32 0)))

/-- The same row as the gather takes it, negative rows wrapped. -/
def gathered : IVec S64x576 32 :=
  select (cmpi .slt padded (broadcastInDim S64x576 ![] bcast_S_S64x576 (constantI S_ 32 0#32))) (addi padded (broadcastInDim S64x576 ![] bcast_S_S64x576 (constantI S_ 32 4608#32))) padded

/-- The clipped distance plus 128. -/
def shifted : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (iotaInDim S64 32 0))) (broadcastInDim S64x576 ![0, 1] bcast_S1x576_S64x576_0_1 (subi (broadcastInDim S1x576 ![1] bcast_S576_S1x576_1 (iotaInDim S576 32 0)) (broadcastInDim S1x576 ![] bcast_S_S1x576 (constantI S_ 32 512#32))))))) (broadcastInDim S64x576 ![] bcast_S_S64x576 (constantI S_ 32 128#32))

/-- The same row of the table as the gather takes it, negative rows wrapped. -/
def tableRow : IVec S64x576 32 :=
  select (cmpi .slt shifted (broadcastInDim S64x576 ![] bcast_S_S64x576 (constantI S_ 32 0#32))) (addi shifted (broadcastInDim S64x576 ![] bcast_S_S64x576 (constantI S_ 32 257#32))) shifted

/-- The window position holds a key: it is not before the first position. -/
def visible : IVec S64x576 1 :=
  cmpi .sge (subi padded (broadcastInDim S64x576 ![] bcast_S_S64x576 (constantI S_ 32 512#32))) (broadcastInDim S64x576 ![] bcast_S_S64x576 (constantI S_ 32 0#32))

/-- The values of the window. -/
def values (x : FVec F S8x4096x3072 .bf16) : FVec F S8x64x576x16x64 .f32 :=
  Host.gather gather_S8x4608x16x64_S64x576x1_S8x64x576x16x64_034_1_n_n_1_2_811664 (pad S8x4608x16x64 ![0, 512, 0, 0] ![0, 0, 0, 0] ![0, 0, 0, 0] (shapeCast _ (extractStridedSlice S8x4096x1024 ![0, 0, 2048] (extf .f32 x bitsLt_bf16_f32) slices_S8x4096x3072_S8x4096x1024_0_0_2048) shapeCasts_S8x4096x1024_S8x4096x16x64) (sitofp .f32 (constantI S_ 32 0#32)) pads_S8x4096x16x64_S8x4608x16x64_000_51200_000_000 h_S_) (broadcastInDim S64x576x1 ![0, 1] bcast_S64x576_S64x576x1_0_1 gathered)

/-- The masked scores of the window. -/
def scores (x : FVec F S8x4096x3072 .bf16) (t : FVec F S257x16 .f32) : FVec F S8x64x16x64x576 .f32 :=
  select (broadcastInDim S8x64x16x64x576 ![0, 1, 2, 3, 4] bcast_S1x64x1x1x576_S8x64x16x64x576_0_1_2_3_4 (broadcastInDim S1x64x1x1x576 ![1, 4] bcast_S64x576_S1x64x1x1x576_1_4 visible)) (addf (Host.dotGeneral dot_S8x64x64x16x64_S8x64x576x16x64_S8x64x16x64x576_4_4_2_2_013_013 none (shapeCast _ (extractStridedSlice S8x4096x1024 ![0, 0, 0] (extf .f32 x bitsLt_bf16_f32) slices_S8x4096x3072_S8x4096x1024_0_0_0) shapeCasts_S8x4096x1024_S8x64x64x16x64) (Host.gather gather_S8x4608x16x64_S64x576x1_S8x64x576x16x64_034_1_n_n_1_2_811664 (pad S8x4608x16x64 ![0, 512, 0, 0] ![0, 0, 0, 0] ![0, 0, 0, 0] (shapeCast _ (extractStridedSlice S8x4096x1024 ![0, 0, 1024] (extf .f32 x bitsLt_bf16_f32) slices_S8x4096x3072_S8x4096x1024_0_0_1024) shapeCasts_S8x4096x1024_S8x4096x16x64) (sitofp .f32 (constantI S_ 32 0#32)) pads_S8x4096x16x64_S8x4608x16x64_000_51200_000_000 h_S_) (broadcastInDim S64x576x1 ![0, 1] bcast_S64x576_S64x576x1_0_1 gathered))) (broadcastInDim S8x64x16x64x576 ![0, 1, 2, 3, 4] bcast_S1x1x16x64x576_S8x64x16x64x576_0_1_2_3_4 (broadcastInDim S1x1x16x64x576 ![2, 3, 4] bcast_S16x64x576_S1x1x16x64x576_2_3_4 (transpose S16x64x576 [2, 0, 1] (Host.gather gather_S257x16_S64x576x1_S64x576x16_2_0_n_n_0_2_116 t (broadcastInDim S64x576x1 ![0, 1] bcast_S64x576_S64x576x1_0_1 tableRow)) transposes_S64x576x16_S16x64x576_2_0_1)))) (broadcastInDim S8x64x16x64x576 ![] bcast_S_S8x64x16x64x576 (id (constant S_ .f32 0xFF800000#32)))

/-- The exponentials of the scores below their greatest. -/
def lifted (s : FVec F S8x64x16x64x576 .f32) : FVec F S8x64x16x64x576 .f32 :=
  Host.exp (subf s (broadcastInDim S8x64x16x64x576 ![0, 1, 2, 3, 4] bcast_S8x64x16x64x1_S8x64x16x64x576_0_1_2_3_4 (broadcastInDim S8x64x16x64x1 ![0, 1, 2, 3] bcast_S8x64x16x64_S8x64x16x64x1_0_1_2_3 (maximumf (broadcastInDim S8x64x16x64 ![] bcast_S_S8x64x16x64 (constant S_ .f32 0xFF800000#32)) (Host.reduce FloatOps.maximumf s (constant S_ .f32 0xFF800000#32) reducesTo_S8x64x16x64x576_S8x64x16x64_d4 h_S_)))))

/-- The softmax of the scores. -/
def weights (s : FVec F S8x64x16x64x576 .f32) : FVec F S8x64x16x64x576 .f32 :=
  Host.divf (lifted s) (broadcastInDim S8x64x16x64x576 ![0, 1, 2, 3, 4] bcast_S8x64x16x64x1_S8x64x16x64x576_0_1_2_3_4 (broadcastInDim S8x64x16x64x1 ![0, 1, 2, 3] bcast_S8x64x16x64_S8x64x16x64x1_0_1_2_3 (Host.reduceAdd (lifted s) (constant S_ .f32 0x00000000#32) reducesTo_S8x64x16x64x576_S8x64x16x64_d4 h_S_)))

/-- The reference, stage by stage. -/
def composed (x : FVec F S8x4096x3072 .bf16) (t : FVec F S257x16 .f32) : FVec F S8x4096x1024 .bf16 :=
  truncf .bf16 (shapeCast _ (transpose S8x64x64x16x64 [0, 1, 4, 2, 3] (Host.dotGeneral dot_S8x64x576x16x64_S8x64x16x64x576_S8x64x16x64x64_2_4_4_3_013_012 none (values x) (weights (scores x t))) transposes_S8x64x16x64x64_S8x64x64x16x64_0_1_4_2_3) shapeCasts_S8x64x64x16x64_S8x4096x1024) bitsLt_bf16_f32

theorem composed_eq (m : (ℓ : Loc nD τ sig) → Buf (Elt F) ℓ) (c : Dev nD) :
    Cert.BandRefIdeal.Value.res_main_v75 m c = composed (m ((c.tc : Thread nD τ).loc main_arg0)) (m ((c.tc : Thread nD τ).loc main_arg1)) := rfl

end Stages

/-! ## The integers -/

theorem padded_apply (c : Fin 64) (j : Fin 576) : padded (ix2 c j) = BitVec.ofNat 32 (64 * c.val + j.val) := by
  pointwise [padded]
  simp only [IntOp.addi, IntOp.muli]
  bv_omega

/-- A row number that is not negative is not wrapped. -/
theorem unwrapped (n m : Nat) (hn : n < 2 ^ 31) : (Scalar.select (IntOp.cmpi .slt (BitVec.ofNat 32 n) 0#32) (IntOp.addi (BitVec.ofNat 32 n) (BitVec.ofNat 32 m)) (BitVec.ofNat 32 n)).toInt.toNat = n := by
  have h : (BitVec.ofNat 32 n).toInt = n := by
    rw [BitVec.toInt_eq_toNat_of_lt] <;> rw [BitVec.toNat_ofNat] <;> omega
  have hs : IntOp.cmpi .slt (BitVec.ofNat 32 n) 0#32 = 0#1 := by
    simp only [IntOp.cmpi, BitVec.slt, h]
    rw [decide_eq_false (by simp)]
    rfl
  rw [hs]
  simp [Scalar.select, h]

theorem gathered_apply (c : Fin 64) (j : Fin 576) : (gathered (ix2 c j)).toInt.toNat = 64 * c.val + j.val := by
  pointwise [gathered]
  rw [padded_apply]
  exact unwrapped _ 4608 (by omega)

/-- The clipped distance of a query and a key `n - 64` positions apart. -/
theorem clipped : ∀ n : Fin 640, IntOp.addi (IntOp.minsi 128#32 (IntOp.maxsi 4294967168#32 (BitVec.ofNat 32 n.val - 64#32))) 128#32 = BitVec.ofNat 32 (min (n.val + 64) 256) := by
  decide +kernel

theorem tableRow_apply (q : Fin 64) (j : Fin 576) : (tableRow (ix2 q j)).toInt.toNat = min (q.val + 512 + 128 - j.val) 256 := by
  have e : IntOp.subi (BitVec.ofNat 32 q.val) (IntOp.subi (BitVec.ofNat 32 j.val) 512#32) = BitVec.ofNat 32 (q.val + 576 - j.val) - 64#32 := by
    simp only [IntOp.subi]
    bv_omega
  have e2 := clipped ⟨q.val + 576 - j.val, by omega⟩
  pointwise [tableRow, shifted]
  rw [e]
  simp only [id, constantI, Function.const] at e2 ⊢
  rw [e2, unwrapped _ 257 (by omega)]
  omega

/-- A window position is before the first key, or not. -/
theorem held : ∀ n : Fin 4608, IntOp.cmpi .sge (IntOp.subi (BitVec.ofNat 32 n.val) 512#32) 0#32 = if 512 ≤ n.val then 1#1 else 0#1 := by
  decide +kernel

theorem visible_apply (c : Fin 64) (j : Fin 576) : visible (ix2 c j) = if 512 ≤ 64 * c.val + j.val then 1#1 else 0#1 := by
  pointwise [visible]
  rw [padded_apply]
  exact held ⟨64 * c.val + j.val, by omega⟩

/-! ## The arrays -/

/-- A row of the padded keys or values that holds a position is that position's row. -/
theorem window_apply (x : FVec Ideal S8x4096x3072 .bf16) (b : Fin 8) (c : Fin 64) (j : Fin 576) (h : Fin 16) (d : Fin 64) (hj : 512 ≤ 64 * c.val + j.val) :
    values x (ix5 b c j h d) = x (ix3 b ⟨64 * c.val + j.val - 512, by omega⟩ ⟨2 * 1024 + (h.val * 64 + d.val), by omega⟩) := by
  unfold values
  refine (Gathers.mid_apply (wf := Facts₀.gather_S8x4608x16x64_S64x576x1_S8x64x576x16x64_034_1_n_n_1_2_811664_wf) _ _ b c j h d ⟨64 * c.val + j.val, by omega⟩ ?_).trans ?_
  · pointwise
    exact gathered_apply c j
  · pointwise
    rw [dif_pos ⟨hj, by omega⟩]

theorem ofBits_bot : Ideal.ofBits .f32 0xFF800000#32 = ⊥ := by simp [Ideal.ofBits, Ideal.ieee]

/-- The score of a window position that holds a key. -/
theorem scores_apply (x : FVec Ideal S8x4096x3072 .bf16) (t : FVec Ideal S257x16 .f32) (b : Fin 8) (c : Fin 64) (h : Fin 16) (q : Fin 64) (j : Fin 576)
    (hj : 512 ≤ 64 * c.val + j.val) :
    scores x t (ix5 b c h q j) = (∑ d : Fin 64, x (ix3 b ⟨c.val * 64 + q.val, by omega⟩ ⟨h.val * 64 + d.val, by omega⟩)
      * x (ix3 b ⟨64 * c.val + j.val - 512, by omega⟩ ⟨1024 + (h.val * 64 + d.val), by omega⟩)) + t (ix2 ⟨min (q.val + 512 + 128 - j.val) 256, by omega⟩ h) := by
  pointwise [scores]
  rw [visible_apply, if_pos hj]
  refine congrArg₂ (· + ·) (Finset.sum_congr rfl fun d _ => congrArg _ ?_) ?_
  · refine (Gathers.mid_apply (wf := Facts₀.gather_S8x4608x16x64_S64x576x1_S8x64x576x16x64_034_1_n_n_1_2_811664_wf) _ _ b c j h d ⟨64 * c.val + j.val, by omega⟩ ?_).trans ?_
    · pointwise
      exact gathered_apply c j
    · pointwise
      rw [dif_pos ⟨hj, by omega⟩]
  · refine Gathers.rows_apply (wf := Facts₀.gather_S257x16_S64x576x1_S64x576x16_2_0_n_n_0_2_116_wf) _ _ q j h _ ?_
    pointwise
    exact tableRow_apply q j

/-- The score of a window position that holds none. -/
theorem scores_masked (x : FVec Ideal S8x4096x3072 .bf16) (t : FVec Ideal S257x16 .f32) (b : Fin 8) (c : Fin 64) (h : Fin 16) (q : Fin 64) (j : Fin 576)
    (hj : ¬ 512 ≤ 64 * c.val + j.val) : scores x t (ix5 b c h q j) = ⊥ := by
  pointwise [scores]
  rw [visible_apply, if_neg hj]
  exact ofBits_bot

theorem fold_max_bot {n : Nat} (f : Fin n → EReal) : Finset.fold max (⊥ : EReal) f Finset.univ = top f := rfl

/-- A maximum over the last of five axes, from the least value. -/
theorem reduce_last {n0 n1 n2 n3 n4 : Nat} {u : Shape} (h : (⟨5, ![n0, n1, n2, n3, n4]⟩ : Shape).ReducesTo [4] ⟨4, ![n0, n1, n2, n3]⟩) (hu : 0 < u.numel)
    (s : (⟨5, ![n0, n1, n2, n3, n4]⟩ : Shape).Idx → EReal) (init : u.Idx → EReal) (hi : ∀ j, init j = ⊥) (b : Fin n0) (c : Fin n1) (e : Fin n2) (q : Fin n3) :
    Host.reduce (FloatOps.maximumf (F := Ideal) (φ := .f32)) s init h hu (ix4 b c e q) = top fun k => s (ix5 b c e q k) := by
  rw [Host.reduce_eq_fold]
  pointwise
  rw [hi]
  exact fold_max_bot _

/-- The exponentials below any maximum `g`. -/
theorem below_apply (s : FVec Ideal S8x64x16x64x576 .f32) (g : FVec Ideal S8x64x16x64 .f32) (b : Fin 8) (c : Fin 64) (h : Fin 16) (q : Fin 64) (j : Fin 576) :
    Host.exp (subf s (broadcastInDim S8x64x16x64x576 ![0, 1, 2, 3, 4] bcast_S8x64x16x64x1_S8x64x16x64x576_0_1_2_3_4
      (broadcastInDim S8x64x16x64x1 ![0, 1, 2, 3] bcast_S8x64x16x64_S8x64x16x64x1_0_1_2_3
        (maximumf (broadcastInDim S8x64x16x64 ![] bcast_S_S8x64x16x64 (constant S_ .f32 0xFF800000#32)) g)))) (ix5 b c h q j)
      = Ideal.exp (s (ix5 b c h q j) - g (ix4 b c h q)) := by
  pointwise
  rw [ofBits_bot, max_eq_right bot_le]

theorem lifted_apply (s : FVec Ideal S8x64x16x64x576 .f32) (b : Fin 8) (c : Fin 64) (h : Fin 16) (q : Fin 64) (j : Fin 576) :
    lifted s (ix5 b c h q j) = Ideal.exp (s (ix5 b c h q j) - top fun k => s (ix5 b c h q k)) :=
  (below_apply s _ b c h q j).trans (congrArg (fun z => Ideal.exp (s (ix5 b c h q j) - z))
    (reduce_last reducesTo_S8x64x16x64x576_S8x64x16x64_d4 h_S_ s (constant (F := Ideal) S_ .f32 0xFF800000#32) (fun _ => ofBits_bot) b c h q))

theorem weights_apply (s : FVec Ideal S8x64x16x64x576 .f32) (b : Fin 8) (c : Fin 64) (h : Fin 16) (q : Fin 64) (j : Fin 576) :
    weights s (ix5 b c h q j) = Ideal.div (Ideal.exp (s (ix5 b c h q j) - top fun k => s (ix5 b c h q k))) (mass fun k => s (ix5 b c h q k)) := by
  pointwise [weights]
  simp only [lifted_apply]
  rfl

theorem composed_apply (x : FVec Ideal S8x4096x3072 .bf16) (t : FVec Ideal S257x16 .f32) (b : Fin 8) (i : Fin 4096) (h : Fin 16) (d : Fin 64) :
    composed x t (ix3 b i ⟨h.val * 64 + d.val, by omega⟩)
      = attend (fun j => scores x t (ix5 b ⟨i.val / 64, by omega⟩ h ⟨i.val % 64, by omega⟩ j)) (fun j => values x (ix5 b ⟨i.val / 64, by omega⟩ j h d)) := by
  pointwise [composed]
  simp only [weights_apply]
  exact Finset.sum_congr rfl fun j _ => mul_comm _ _

/-- The reference is the band attention, where the arguments hold numbers. -/
theorem composed_band (x : FVec Ideal S8x4096x3072 .bf16) (t : FVec Ideal S257x16 .f32) (hf : Band.Finite (fun b i k => x (ix3 b i k)) (fun n h => t (ix2 n h)))
    (b : Fin 8) (i : Fin 4096) (h : Fin 16) (d : Fin 64) :
    composed x t (ix3 b i ⟨h.val * 64 + d.val, by omega⟩) = Band.band (fun b i k => x (ix3 b i k)) (fun n h => t (ix2 n h)) b i h d := by
  rw [composed_apply]
  refine divided_first (σ := fun j : Fin 576 => (⟨64 * (i.val / 64) + j.val - 512, by omega⟩ : Fin 4096)) ?_ (hf.proper b h i) ?_
  · refine hf.shows (ok := fun j => 512 ≤ 64 * (i.val / 64) + j.val) ?_ ?_ ?_ ?_ ?_
    · intro j hj
      exact scores_masked x t b _ h _ j hj
    · intro j hj
      show (64 * (i.val / 64) + j.val - 512) / 64 ≤ i.val / 64 ∧ i.val / 64 ≤ (64 * (i.val / 64) + j.val - 512) / 64 + 8
      omega
    · intro j hj
      have hs : Band.Sees i.val (64 * (i.val / 64) + j.val - 512) := by
        show (64 * (i.val / 64) + j.val - 512) / 64 ≤ i.val / 64 ∧ i.val / 64 ≤ (64 * (i.val / 64) + j.val - 512) / 64 + 8
        omega
      rw [scores_apply x t b _ h _ j hj, Band.score, if_pos hs]
      refine congrArg₂ (· + ·) (Finset.sum_congr rfl fun e _ => congrArg₂ (· * ·) (congrArg x ?_) (congrArg x ?_)) (congrArg t ?_)
      · refine congrArg₂ (ix3 b) (Fin.ext ?_) (Fin.ext ?_)
        · show i.val / 64 * 64 + i.val % 64 = i.val
          omega
        · show h.val * 64 + e.val = 0 * 1024 + (h.val * 64 + e.val)
          omega
      · refine congrArg₂ (ix3 b) rfl (Fin.ext ?_)
        show 1024 + (h.val * 64 + e.val) = 1 * 1024 + (h.val * 64 + e.val)
        omega
      · refine congrArg₂ ix2 (Fin.ext ?_) rfl
        show min (i.val % 64 + 512 + 128 - j.val) 256 = min (i.val + 128 - (64 * (i.val / 64) + j.val - 512)) 256
        omega
    · intro j k hj hk e
      have := congrArg Fin.val e
      simp only at this
      exact Fin.ext (by omega)
    · intro p hp
      have h1 := hp.1
      have h2 := hp.2
      exact ⟨⟨p.val + 512 - 64 * (i.val / 64), by omega⟩, by show 512 ≤ 64 * (i.val / 64) + (p.val + 512 - 64 * (i.val / 64)); omega,
        Fin.ext (by show 64 * (i.val / 64) + (p.val + 512 - 64 * (i.val / 64)) - 512 = p.val; omega)⟩
  · intro j hj
    by_cases hv : 512 ≤ 64 * (i.val / 64) + j.val
    · exact window_apply x b _ j h d hv
    · exact absurd (scores_masked x t b _ h _ j hv) hj

end Cert.BandRef

end
-- ==== Proof.BandPair.lean ====
/- What the kernel computes for one pair of heads at one tile of 128 queries: the 256 rows of scores (the pair's first head above its second), their
   weights, and the weighted sum of the window's values divided by the sum of the weights. -/
module

public import proofs.«01_k».proof.Proof.Softmax
public import proofs.«01_k».proof.Proof.Gen.BandIdeal.Skeleton
public import Idealize.ShloMosaic.Lib.Pointwise

@[expose] public section

set_option maxRecDepth 16384

noncomputable section

namespace Cert.BandPair

open Idealize.ShloMosaic Idealize.ShloMosaic.TcCoe Cert.BandIdeal Cert.BandIdeal.Gen Cert.Softmax

section Stages

variable {F : FTy → Type} [FloatOps F]

/-- The scores of a pair of heads: queries, keys and the two heads' tables. -/
def scores (q : Vec F S1x128x128 .bf16) (k : Vec F S1x640x128 .bf16) (tA tB : Vec F S1x1x1x128x640 .f32) : FVec F S256x640 .f32 :=
  k0_pay8 (k0_pay3 q k) tA tB

/-- The pair's part of the output tile. -/
def pair (s : FVec F S256x640 .f32) (v : Vec F S1x640x128 .bf16) : FVec F S1x128x128 .bf16 :=
  k0_pay23 k0_pay2 (k0_pay16 s) (k0_pay20 s v)

end Stages

theorem ofBits_bot : Ideal.ofBits .f32 0xFF800000#32 = ⊥ := by simp [Ideal.ofBits, Ideal.ieee]

/-- A maximum along the rows of a matrix, from the least value. -/
theorem rowMax {n k : Nat} (s : FVec Ideal ⟨2, ![n, k]⟩ .f32) (h : (⟨2, ![n, k]⟩ : Shape).Reduces [1] ⟨1, ![n]⟩) (hφ : FKind.Formats .f32)
    (ha : 0xFF800000#32 = FKind.maximumf.neutral .f32 hφ) (r : Fin n) :
    multiReduction .maximumf [1] ⟨1, ![n]⟩ s 0xFF800000#32 h hφ ha (ix1 r) = top fun c => s (ix2 r c) := by
  pointwise
  rw [ofBits_bot]
  rfl

/-- The exponentials below any row values `g`. -/
theorem below_apply (s : FVec Ideal S256x640 .f32) (g : FVec Ideal S256 .f32) (r : Fin 256) (c : Fin 640) :
    exp (subf s (broadcastTo S256x640 (shapeCast S256x1 g shapeCasts_S256_S256x1) broadcasts_S256x1_S256x640)) (ix2 r c)
      = Ideal.exp (s (ix2 r c) - g (ix1 r)) := by
  pointwise

theorem weight_apply (s : FVec Ideal S256x640 .f32) (r : Fin 256) (c : Fin 640) :
    k0_pay12 s (ix2 r c) = Ideal.exp (s (ix2 r c) - top fun c => s (ix2 r c)) :=
  (below_apply s _ r c).trans (congrArg (fun z => Ideal.exp (s (ix2 r c) - z)) (rowMax s reduces_S256x640_S256 (.inl rfl) rfl r))

theorem mass_apply (s : FVec Ideal S256x640 .f32) (r : Fin 256) : k0_pay16 s (ix2 r 0) = mass fun c => s (ix2 r c) := by
  pointwise [k0_pay16]
  simp only [weight_apply]
  rfl

theorem sum_apply (s : FVec Ideal S256x640 .f32) (v : FVec Ideal S1x640x128 .bf16) (r : Fin 256) (l : Fin 128) :
    k0_pay20 s v (ix2 r l) = ∑ c : Fin 640, Ideal.exp (s (ix2 r c) - top fun c => s (ix2 r c)) * v (ix3 0 c l) := by
  pointwise [k0_pay20]
  simp only [weight_apply]

/-- Lane `l` of the pair's tile is its first head's below lane 64, its second head's from there. -/
theorem pair_apply (s : FVec Ideal S256x640 .f32) (v : FVec Ideal S1x640x128 .bf16) (half : Fin 2) (r : Fin 128) (d : Fin 64) :
    pair s v (ix3 0 r ⟨64 * half.val + d.val, by omega⟩)
      = Ideal.div (∑ c : Fin 640, Ideal.exp (s (ix2 ⟨128 * half.val + r.val, by omega⟩ c) - top fun c => s (ix2 ⟨128 * half.val + r.val, by omega⟩ c))
          * v (ix3 0 c ⟨64 * half.val + d.val, by omega⟩)) (mass fun c => s (ix2 ⟨128 * half.val + r.val, by omega⟩ c)) := by
  have hm : ∀ (half : Fin 2) (d : Fin 64), IntOp.cmpi .slt (BitVec.ofNat 32 (64 * half.val + d.val)) 64#32 = if half.val = 0 then 1#1 else 0#1 := by
    decide +kernel
  pointwise [pair, k0_pay23, k0_pay2]
  rw [hm]
  simp only [mass_apply, sum_apply]
  fin_cases half
  · simp
    rfl
  · simp
    rfl

/-- A row of scores: the dot product of the head's 64 lanes, plus the head's table. -/
theorem scores_apply (q : FVec Ideal S1x128x128 .bf16) (k : FVec Ideal S1x640x128 .bf16) (tA tB : FVec Ideal S1x1x1x128x640 .f32) (half : Fin 2)
    (r : Fin 128) (c : Fin 640) :
    scores (F := Ideal) q k tA tB (ix2 ⟨128 * half.val + r.val, by omega⟩ c)
      = (∑ d : Fin 64, q (ix3 0 r ⟨64 * half.val + d.val, by omega⟩) * k (ix3 0 c ⟨64 * half.val + d.val, by omega⟩))
        + (if half.val = 0 then tA else tB) (ix5 0 0 0 r c) := by
  have hm : ∀ l : Fin 128, IntOp.cmpi .slt (BitVec.ofNat 32 l.val) 64#32 = if l.val < 64 then 1#1 else 0#1 := by decide +kernel
  have hr : ¬ 128 + r.val < 128 := by omega
  pointwise [scores, k0_pay8, k0_pay3]
  simp only [hm]
  rw [Fin.sum_univ_two_halves 64 64 rfl]
  fin_cases half
  · simp [Scalar.select]
  · simp [Scalar.select]

end Cert.BandPair

end
-- ==== Proof.BandTile.lean ====
/- What the kernel leaves in its output block at a grid point: each of the eight heads' 64 lanes is the row of attention over the window of 640 keys that
   begins at the tile's first key. -/
module

public import proofs.«01_k».proof.Proof.BandPair
public import proofs.«01_k».proof.Proof.Gen.BandIdeal.Value
public import Idealize.ShloMosaic.Lib.Pointwise
public import Idealize.ShloMosaic.Lib.Pipeline.ValueKit

@[expose] public section

set_option maxRecDepth 16384

noncomputable section

namespace Cert.BandTile

open Idealize.ShloMosaic Idealize.ShloMosaic.TcCoe Cert.BandIdeal Cert.BandIdeal.Gen Cert.Softmax

/-- The first key of the window of tile `n`. -/
def first (n : Fin 32) : Nat := (n.val - 4) * 128

theorem first_le (n : Fin 32) : first n ≤ 3456 := by unfold first; omega

/-- The variant of the table that tile `n` reads. -/
def variant (n : Fin 32) : Fin 5 := ⟨min n.val 4, by omega⟩

/-- The score that the block holds for row `r` of tile `n` and column `c` of its window, head `e` of the block. -/
def rowScore (x0 : FVec Ideal S1x128x512 .bf16) (x1 : FVec Ideal S1x4096x512 .bf16) (x3 : FVec Ideal S1x8x5x128x640 .f32) (n : Fin 32) (e : Fin 8)
    (r : Fin 128) (c : Fin 640) : EReal :=
  (∑ d : Fin 64, x0 (ix3 0 r ⟨64 * e.val + d.val, by omega⟩) * x1 (ix3 0 ⟨first n + c.val, by have := first_le n; omega⟩ ⟨64 * e.val + d.val, by omega⟩))
    + x3 (ix5 0 e (variant n) r c)

/-- The block's element for row `r`, head `e`, lane `d`. -/
def element (x0 : FVec Ideal S1x128x512 .bf16) (x1 x2 : FVec Ideal S1x4096x512 .bf16) (x3 : FVec Ideal S1x8x5x128x640 .f32) (n : Fin 32) (e : Fin 8)
    (r : Fin 128) (d : Fin 64) : EReal :=
  Ideal.div (∑ c : Fin 640, Ideal.exp (rowScore x0 x1 x3 n e r c - top (rowScore x0 x1 x3 n e r))
    * x2 (ix3 0 ⟨first n + c.val, by have := first_le n; omega⟩ ⟨64 * e.val + d.val, by omega⟩)) (mass (rowScore x0 x1 x3 n e r))

/-- One pair of heads, from the parts of the blocks that it loads. -/
theorem pair_element (x0 : Vec Ideal S1x128x512 .bf16) (x1 x2 : Vec Ideal S1x4096x512 .bf16) (x3 : Vec Ideal S1x8x5x128x640 .f32) (n : Fin 32) (p : Fin 4)
    (oq ok : Fin 3 → Nat) (oA oB : Fin 5 → Nat)
    (hq : ∀ a, oq a + (![1, 128, 128] : Fin 3 → Nat) a ≤ S1x128x512.size a) (hk hv : ∀ a, ok a + (![1, 640, 128] : Fin 3 → Nat) a ≤ S1x4096x512.size a)
    (hA : ∀ a, oA a + (![1, 1, 1, 128, 640] : Fin 5 → Nat) a ≤ S1x8x5x128x640.size a)
    (hB : ∀ a, oB a + (![1, 1, 1, 128, 640] : Fin 5 → Nat) a ≤ S1x8x5x128x640.size a)
    (eq : oq = ![0, 0, 128 * p.val]) (ek : ok = ![0, first n, 128 * p.val]) (eA : oA = ![0, 2 * p.val, (variant n).val, 0, 0])
    (eB : oB = ![0, 2 * p.val + 1, (variant n).val, 0, 0]) (half : Fin 2) (r : Fin 128) (d : Fin 64) :
    BandPair.pair (F := Ideal) (BandPair.scores (F := Ideal) (View.ld (Val := Elt Ideal) x0 (Rect.unit oq ![1, 128, 128] hq)) (View.ld (Val := Elt Ideal) x1 (Rect.unit ok ![1, 640, 128] hk))
        (View.ld (Val := Elt Ideal) x3 (Rect.unit oA ![1, 1, 1, 128, 640] hA)) (View.ld (Val := Elt Ideal) x3 (Rect.unit oB ![1, 1, 1, 128, 640] hB)))
      (View.ld (Val := Elt Ideal) x2 (Rect.unit ok ![1, 640, 128] hv)) (ix3 0 r ⟨64 * half.val + d.val, by omega⟩)
      = element x0 x1 x2 x3 n ⟨2 * p.val + half.val, by omega⟩ r d := by
  subst eq ek eA eB
  have hs : ∀ c : Fin 640, BandPair.scores (F := Ideal) (View.ld (Val := Elt Ideal) x0 (Rect.unit _ ![1, 128, 128] hq)) (View.ld (Val := Elt Ideal) x1 (Rect.unit _ ![1, 640, 128] hk))
        (View.ld (Val := Elt Ideal) x3 (Rect.unit _ ![1, 1, 1, 128, 640] hA)) (View.ld (Val := Elt Ideal) x3 (Rect.unit _ ![1, 1, 1, 128, 640] hB)) (ix2 ⟨128 * half.val + r.val, by omega⟩ c)
      = rowScore x0 x1 x3 n ⟨2 * p.val + half.val, by omega⟩ r c := by
    intro c
    rw [BandPair.scores_apply, rowScore]
    refine congrArg₂ (· + ·) (Finset.sum_congr rfl fun e _ => congrArg₂ (· * ·) ?_ ?_) ?_
    · pointwise
      refine congrArg x0 (congrArg (ix3 0 r) (Fin.ext ?_))
      show 128 * p.val + (64 * half.val + e.val) = 64 * (2 * p.val + half.val) + e.val
      omega
    · pointwise
      refine congrArg x1 (congrArg (ix3 0 _) (Fin.ext ?_))
      show 128 * p.val + (64 * half.val + e.val) = 64 * (2 * p.val + half.val) + e.val
      omega
    · split
      · pointwise
        refine congrArg x3 (congrArg (fun z => ix5 0 z (variant n) r c) (Fin.ext ?_))
        show 2 * p.val = 2 * p.val + half.val
        omega
      · pointwise
        refine congrArg x3 (congrArg (fun z => ix5 0 z (variant n) r c) (Fin.ext ?_))
        show 2 * p.val + 1 = 2 * p.val + half.val
        omega
  rw [BandPair.pair_apply, element]
  simp only [hs]
  refine congrArg (fun z => Ideal.div z _) (Finset.sum_congr rfl fun c _ => congrArg₂ (· * ·) rfl ?_)
  pointwise
  refine congrArg x2 (congrArg (ix3 0 _) (Fin.ext ?_))
  show 128 * p.val + (64 * half.val + d.val) = 64 * (2 * p.val + half.val) + d.val
  omega

/-! ## The offsets of the loads -/

theorem first_word : ∀ n : Fin 32, (Scalar.indexCast (Scalar.muli (Scalar.maxsi (Scalar.subi (BitVec.ofNat 32 n.val) 4#32) 0#32) 128#32)).toNat = first n := by
  decide +kernel

theorem variant_word : ∀ n : Fin 32, (Scalar.indexCast (Scalar.minsi (BitVec.ofNat 32 n.val) 4#32)).toNat = (variant n).val := by
  decide +kernel

/-- The keys and values of the window, lanes from `l`. -/
theorem key_offset (n : Fin 32) (l : Nat) :
    (![0, (Scalar.indexCast (Scalar.muli (Scalar.maxsi (Scalar.subi (BitVec.ofNat 32 n.val) 4#32) 0#32) 128#32)).toNat, l] : Fin 3 → Nat) = ![0, first n, l] := by
  rw [first_word]

/-- The table of head `e`. -/
theorem table_offset (n : Fin 32) (e : Nat) :
    (![0, e, (Scalar.indexCast (Scalar.minsi (BitVec.ofNat 32 n.val) 4#32)).toNat, 0, 0] : Fin 5 → Nat) = ![0, e, (variant n).val, 0, 0] := by
  rw [variant_word]

/-- A piece's element, at the place of the output block that holds it. -/
theorem piece_element (x0 : FVec Ideal S1x128x512 .bf16) (x1 x2 : FVec Ideal S1x4096x512 .bf16) (x3 : FVec Ideal S1x8x5x128x640 .f32) (n : Fin 32) (p : Fin 4)
    (y : FVec Ideal S1x128x128 .bf16) (hy : ∀ (half : Fin 2) (r : Fin 128) (d : Fin 64), y (ix3 0 r ⟨64 * half.val + d.val, by omega⟩)
      = element x0 x1 x2 x3 n ⟨2 * p.val + half.val, by omega⟩ r d)
    (x : S1x128x128.Idx) (e : Fin 8) (r : Fin 128) (d : Fin 64) (h0 : (x 0).val < 1) (h1 : r.val = (x 1).val) (h2 : 64 * e.val + d.val = 128 * p.val + (x 2).val)
    (hx : (x 2).val < 128) : y x = element x0 x1 x2 x3 n e r d := by
  have hx' : x = ix3 0 r ⟨64 * (e.val - 2 * p.val) + d.val, by omega⟩ := by
    funext a
    fin_cases a
    · exact Fin.ext (by show (x 0).val = 0; omega)
    · exact Fin.ext h1.symm
    · exact Fin.ext (by show (x 2).val = 64 * (e.val - 2 * p.val) + d.val; omega)
  rw [hx']
  refine (hy ⟨e.val - 2 * p.val, by omega⟩ r d).trans (congrArg (fun z => element x0 x1 x2 x3 n z r d) (Fin.ext ?_))
  show 2 * p.val + (e.val - 2 * p.val) = e.val
  omega

set_option maxHeartbeats 1000000 in
/-- What the body leaves in its output block. -/
theorem block_apply (c : Dev nD) (i : grid0.Coords) (arg3 : Memref sig .tc .vmem S1x128x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x8x5x128x640 .f32) (harg6 : arg6.IsWhole) (arg7 : Memref sig .tc .vmem S1x128x512 .bf16) (harg7 : arg7.IsWhole)
    (x0 : Vec Ideal S1x128x512 .bf16) (x1 : Vec Ideal S1x4096x512 .bf16) (x2 : Vec Ideal S1x4096x512 .bf16) (x3 : Vec Ideal S1x8x5x128x640 .f32) (e : Fin 8) (r : Fin 128) (d : Fin 64) :
   out0_A_4 c i arg3 harg3 arg4 harg4 arg5 harg5 arg6 harg6 arg7 harg7 x0 x1 x2 x3 (ix3 0 r ⟨64 * e.val + d.val, by omega⟩) = element x0 x1 x2 x3 (i 2) e r d := by
  frame_out
  canon_tiles x h
  · exact piece_element x0 x1 x2 x3 (i 2) 3 _ (pair_element x0 x1 x2 x3 (i 2) 3 _ _ _ _ _ _ _ _ _ rfl (key_offset (i 2) 384) (table_offset (i 2) 6) (table_offset (i 2) 7)) x e r d x0_lt h1 h2 x2_lt
  · exact piece_element x0 x1 x2 x3 (i 2) 2 _ (pair_element x0 x1 x2 x3 (i 2) 2 _ _ _ _ _ _ _ _ _ rfl (key_offset (i 2) 256) (table_offset (i 2) 4) (table_offset (i 2) 5)) x e r d x0_lt h1 h2 x2_lt
  · exact piece_element x0 x1 x2 x3 (i 2) 1 _ (pair_element x0 x1 x2 x3 (i 2) 1 _ _ _ _ _ _ _ _ _ rfl (key_offset (i 2) 128) (table_offset (i 2) 2) (table_offset (i 2) 3)) x e r d x0_lt h1 h2 x2_lt
  · exact piece_element x0 x1 x2 x3 (i 2) 0 _ (pair_element x0 x1 x2 x3 (i 2) 0 _ _ _ _ _ _ _ _ _ rfl (key_offset (i 2) 0) (table_offset (i 2) 0) (table_offset (i 2) 1)) x e r d x0_lt h1 (h2.trans (Nat.add_comm _ _ ▸ by simp)) x2_lt

end Cert.BandTile

end
-- ==== Proof.BandEq.lean ====
/- The output block of a grid point holds the band attention of its tile: the window of 640 keys holds every key that a query of the tile sees exactly
   once, and the table masks the others. -/
module

public import proofs.«01_k».proof.Proof.Spec
public import proofs.«01_k».proof.Proof.BandTile

@[expose] public section

set_option maxRecDepth 16384

noncomputable section

namespace Cert.BandEq

open Idealize.ShloMosaic Cert.BandIdeal Cert.Softmax Cert.BandTile Cert.Band

variable {X : Fin 8 → Fin 4096 → Fin 3072 → EReal} {T : Fin 257 → Fin 16 → EReal}

/-- Column `c` of the window is unmasked for row `r`. -/
def Open (n : Fin 32) (r : Fin 128) (c : Fin 640) : Prop :=
  c.val / 64 ≤ r.val / 64 + 2 * (variant n).val ∧ r.val / 64 + 2 * (variant n).val ≤ c.val / 64 + 8

instance (n : Fin 32) (r : Fin 128) (c : Fin 640) : Decidable (Open n r c) := inferInstanceAs (Decidable (_ ∧ _))

/-- The key at column `c` of the window of tile `n`. -/
def key (n : Fin 32) (c : Fin 640) : Fin 4096 := ⟨first n + c.val, by have := first_le n; omega⟩

/-- The query in row `r` of tile `n`. -/
def query (n : Fin 32) (r : Fin 128) : Fin 4096 := ⟨128 * n.val + r.val, by omega⟩

/-- The tile lies `variant n` blocks of 128 after the first key of its window. -/
theorem first_variant (n : Fin 32) : first n + 128 * (variant n).val = 128 * n.val := by
  show (n.val - 4) * 128 + 128 * min n.val 4 = 128 * n.val
  omega

theorem variant_lt (n : Fin 32) : (variant n).val < 4 → first n = 0 := by
  show min n.val 4 < 4 → (n.val - 4) * 128 = 0
  omega

theorem first_mod (n : Fin 32) : first n % 128 = 0 := by
  show (n.val - 4) * 128 % 128 = 0
  omega

theorem open_iff (n : Fin 32) (r : Fin 128) (c : Fin 640) : Open n r c ↔ Sees (query n r).val (key n c).val := by
  have h1 := first_variant n
  have h2 := first_mod n
  show (_ ∧ _) ↔ ((first n + c.val) / 64 ≤ (128 * n.val + r.val) / 64 ∧ (128 * n.val + r.val) / 64 ≤ (first n + c.val) / 64 + 8)
  omega

/-- The blocks of a grid point, as parts of the arguments. -/
structure Blocks (X : Fin 8 → Fin 4096 → Fin 3072 → EReal) (T : Fin 257 → Fin 16 → EReal) (g : Fin 2) (b : Fin 8) (n : Fin 32)
    (x0 : FVec Ideal S1x128x512 .bf16) (x1 x2 : FVec Ideal S1x4096x512 .bf16) (x3 : FVec Ideal S1x8x5x128x640 .f32) : Prop where
  query : ∀ r l, x0 (ix3 0 r l) = X b (query n r) ⟨512 * g.val + l.val, by omega⟩
  key : ∀ p l, x1 (ix3 0 p l) = X b p ⟨1024 + (512 * g.val + l.val), by omega⟩
  value : ∀ p l, x2 (ix3 0 p l) = X b p ⟨2048 + (512 * g.val + l.val), by omega⟩
  table : ∀ e v r c, x3 (ix5 0 e v r c) = if c.val / 64 ≤ r.val / 64 + 2 * v.val ∧ r.val / 64 + 2 * v.val ≤ c.val / 64 + 8
    then T ⟨min (128 * v.val + r.val + 128 - c.val) 256, by omega⟩ ⟨g.val * 8 + e.val, by omega⟩ else ⊥

namespace Blocks

variable {g : Fin 2} {b : Fin 8} {n : Fin 32} {x0 : FVec Ideal S1x128x512 .bf16} {x1 x2 : FVec Ideal S1x4096x512 .bf16}
  {x3 : FVec Ideal S1x8x5x128x640 .f32}

/-- A masked column has no score. -/
theorem masked (h : Blocks X T g b n x0 x1 x2 x3) (e : Fin 8) (r : Fin 128) (c : Fin 640) (hc : ¬ Open n r c) : rowScore x0 x1 x3 n e r c = ⊥ := by
  rw [rowScore, h.table, if_neg (show ¬(_ ∧ _) from hc), EReal.add_bot]

/-- An unmasked column's score is that of its key. -/
theorem scored (h : Blocks X T g b n x0 x1 x2 x3) (e : Fin 8) (r : Fin 128) (c : Fin 640) (hc : Open n r c) :
    rowScore x0 x1 x3 n e r c = score X T b ⟨g.val * 8 + e.val, by omega⟩ (BandEq.query n r) (BandEq.key n c) := by
  rw [rowScore, h.table, if_pos (show _ ∧ _ from hc), score, if_pos ((open_iff n r c).mp hc)]
  refine congrArg₂ (· + ·) (Finset.sum_congr rfl fun d _ => ?_) ?_
  · rw [h.query, h.key]
    refine congrArg₂ (fun y z => X b (BandEq.query n r) y * X b (BandEq.key n c) z) (Fin.ext ?_) (Fin.ext ?_)
    · show 512 * g.val + (64 * e.val + d.val) = 0 * 1024 + ((g.val * 8 + e.val) * 64 + d.val)
      omega
    · show 1024 + (512 * g.val + (64 * e.val + d.val)) = 1 * 1024 + ((g.val * 8 + e.val) * 64 + d.val)
      omega
  · refine congrArg (fun y => T y _) (Fin.ext ?_)
    have := first_variant n
    show min (128 * (variant n).val + r.val + 128 - c.val) 256 = min (128 * n.val + r.val + 128 - (first n + c.val)) 256
    omega

/-- The block's element is the band attention's. -/
theorem element_eq (h : Blocks X T g b n x0 x1 x2 x3) (hf : Finite X T) (e : Fin 8) (r : Fin 128) (d : Fin 64) :
    element x0 x1 x2 x3 n e r d = band X T b (BandEq.query n r) ⟨g.val * 8 + e.val, by omega⟩ d := by
  refine divided_last (σ := BandEq.key n) ?_ (hf.proper b _ _) ?_ fun p => hf.proj b p _
  · refine hf.shows (ok := Open n r) (h.masked e r) (fun c hc => (open_iff n r c).mp hc) (h.scored e r) ?_ ?_
    · intro j k _ _ e
      have : first n + j.val = first n + k.val := congrArg Fin.val e
      exact Fin.ext (by omega)
    · intro p hp
      have h1 := first_variant n
      have h2 := variant_lt n
      have h3 := (variant n).isLt
      have h4 : p.val / 64 ≤ (128 * n.val + r.val) / 64 := hp.1
      have h5 : (128 * n.val + r.val) / 64 ≤ p.val / 64 + 8 := hp.2
      have h6 := first_mod n
      have e : BandEq.key n ⟨p.val - first n, by omega⟩ = p := Fin.ext (by show first n + (p.val - first n) = p.val; omega)
      exact ⟨_, (open_iff n r _).mpr (by rw [e]; exact hp), e⟩
  · intro c _
    refine (h.value _ _).trans (congrArg (X b (BandEq.key n c)) (Fin.ext ?_))
    show 2048 + (512 * g.val + (64 * e.val + d.val)) = 2 * 1024 + ((g.val * 8 + e.val) * 64 + d.val)
    omega

end Blocks

end Cert.BandEq

end
-- ==== Proof.BandTable.lean ====
/- The table of biases and masks that the host lays out for the kernel, read at an index: entry `(a, e, v, r, c)` is, for head `8 a + e`, the bias of the
   query in row `r` of a tile and the key in column `c` of the window of variant `v`, or ⊥ where the query does not see the key. -/
module

public import proofs.«01_k».proof.Proof.Spec
public import proofs.«01_k».proof.Proof.Gathers
public import proofs.«01_k».proof.Proof.Gen.BandIdeal.Value
public import Idealize.ShloMosaic.Lib.Pointwise
public import Idealize.ShloMosaic.Lib.StableHlo.ReadAt

@[expose] public section

set_option maxRecDepth 16384

noncomputable section

namespace Cert.BandTable

open Idealize.ShloMosaic Idealize.ShloMosaic.TcCoe Cert.BandIdeal Cert.BandIdeal.Gen

section Stages

variable {F : FTy → Type} [FloatOps F]

/-- The signed column of a place in a row of 768: the last 128 places stand before the first column. -/
def cols : IVec S768 32 :=
  select (cmpi .slt (iotaInDim S768 32 0) (broadcastInDim S768 ![] bcast_S_S768 (constantI S_ 32 640#32))) (iotaInDim S768 32 0) (subi (iotaInDim S768 32 0) (broadcastInDim S768 ![] bcast_S_S768 (constantI S_ 32 768#32)))

/-- The clipped distance plus 128, for variant and place. -/
def shifted : IVec S5x768 32 :=
  addi (minsi (broadcastInDim S5x768 ![] bcast_S_S5x768 (id (constantI S_ 32 128#32))) (maxsi (broadcastInDim S5x768 ![] bcast_S_S5x768 (id (constantI S_ 32 4294967168#32))) (subi (broadcastInDim S5x768 ![0, 1] bcast_S5x1_S5x768_0_1 (broadcastInDim S5x1 ![0] bcast_S5_S5x1_0 (muli (iotaInDim S5 32 0) (broadcastInDim S5 ![] bcast_S_S5 (constantI S_ 32 128#32))))) (broadcastInDim S5x768 ![0, 1] bcast_S1x768_S5x768_0_1 (broadcastInDim S1x768 ![1] bcast_S768_S1x768_1 cols))))) (broadcastInDim S5x768 ![] bcast_S_S5x768 (constantI S_ 32 128#32))

/-- The same row as the gather takes it, negative rows wrapped. -/
def tableRow : IVec S5x768 32 :=
  select (cmpi .slt shifted (broadcastInDim S5x768 ![] bcast_S_S5x768 (constantI S_ 32 0#32))) (addi shifted (broadcastInDim S5x768 ![] bcast_S_S5x768 (constantI S_ 32 257#32))) shifted

/-- The tables of biases, one row per query of a tile: each the row above it, moved by one column. -/
def biases (t : FVec F S257x16 .f32) : FVec F S16x5x128x640 .f32 :=
  extractStridedSlice S16x5x128x640 ![0, 0, 0, 0] (shapeCast S16x5x128x767 (extractStridedSlice S16x5x98176 ![0, 0, 0] (shapeCast S16x5x98304 (broadcastInDim S1x16x1x5x128x768 ![0, 1, 2, 3, 4, 5] bcast_S1x16x1x5x1x768_S1x16x1x5x128x768_0_1_2_3_4_5 (shapeCast S1x16x1x5x1x768 (transpose S16x5x768 [2, 0, 1] (Host.gather gather_S257x16_S5x768x1_S5x768x16_2_0_n_n_0_2_116 t (broadcastInDim S5x768x1 ![0, 1] bcast_S5x768_S5x768x1_0_1 tableRow)) transposes_S5x768x16_S16x5x768_2_0_1) shapeCasts_S16x5x768_S1x16x1x5x1x768)) shapeCasts_S1x16x1x5x128x768_S16x5x98304) slices_S16x5x98304_S16x5x98176_0_0_0) shapeCasts_S16x5x98176_S16x5x128x767) slices_S16x5x128x767_S16x5x128x640_0_0_0_0

/-- The column of the window, counted from the block of the variant. -/
def column : IVec S5x1x640 32 :=
  subi (broadcastInDim S5x1x640 ![0, 1, 2] bcast_S1x1x640_S5x1x640_0_1_2 (broadcastInDim S1x1x640 ![2] bcast_S640_S1x1x640_2 (iotaInDim S640 32 0))) (broadcastInDim S5x1x640 ![0, 1, 2] bcast_S5x1x1_S5x1x640_0_1_2 (broadcastInDim S5x1x1 ![0, 1] bcast_S5x1_S5x1x1_0_1 (broadcastInDim S5x1 ![0] bcast_S5_S5x1_0 (muli (iotaInDim S5 32 0) (broadcastInDim S5 ![] bcast_S_S5 (constantI S_ 32 128#32))))))

/-- Its block of 64, rounded down. -/
def columnBlock : IVec S5x1x640 32 :=
  select (andi (cmpi .ne (signi column) (broadcastInDim S5x1x640 ![] bcast_S_S5x1x640 (signi (id (constantI S_ 32 64#32))))) (cmpi .ne (Host.remsi column (broadcastInDim S5x1x640 ![] bcast_S_S5x1x640 (id (constantI S_ 32 64#32)))) (broadcastInDim S5x1x640 ![] bcast_S_S5x1x640 (constantI S_ 32 0#32)))) (subi (Host.divsi column (broadcastInDim S5x1x640 ![] bcast_S_S5x1x640 (id (constantI S_ 32 64#32)))) (broadcastInDim S5x1x640 ![] bcast_S_S5x1x640 (constantI S_ 32 1#32))) (Host.divsi column (broadcastInDim S5x1x640 ![] bcast_S_S5x1x640 (id (constantI S_ 32 64#32))))

/-- The block of 64 of a row of the tile. -/
def rowBlock : IVec S1x128x1 32 :=
  select (andi (cmpi .ne (signi (broadcastInDim S1x128x1 ![1] bcast_S128_S1x128x1_1 (iotaInDim S128 32 0))) (broadcastInDim S1x128x1 ![] bcast_S_S1x128x1 (signi (id (constantI S_ 32 64#32))))) (cmpi .ne (Host.remsi (broadcastInDim S1x128x1 ![1] bcast_S128_S1x128x1_1 (iotaInDim S128 32 0)) (broadcastInDim S1x128x1 ![] bcast_S_S1x128x1 (id (constantI S_ 32 64#32)))) (broadcastInDim S1x128x1 ![] bcast_S_S1x128x1 (constantI S_ 32 0#32)))) (subi (Host.divsi (broadcastInDim S1x128x1 ![1] bcast_S128_S1x128x1_1 (iotaInDim S128 32 0)) (broadcastInDim S1x128x1 ![] bcast_S_S1x128x1 (id (constantI S_ 32 64#32)))) (broadcastInDim S1x128x1 ![] bcast_S_S1x128x1 (constantI S_ 32 1#32))) (Host.divsi (broadcastInDim S1x128x1 ![1] bcast_S128_S1x128x1_1 (iotaInDim S128 32 0)) (broadcastInDim S1x128x1 ![] bcast_S_S1x128x1 (id (constantI S_ 32 64#32))))

/-- The mask of the variants. -/
def visible : IVec S5x128x640 1 :=
  andi (cmpi .sle (broadcastInDim S5x128x640 ![0, 1, 2] bcast_S5x1x640_S5x128x640_0_1_2 columnBlock) (broadcastInDim S5x128x640 ![0, 1, 2] bcast_S1x128x1_S5x128x640_0_1_2 rowBlock)) (cmpi .sge (broadcastInDim S5x128x640 ![0, 1, 2] bcast_S5x1x640_S5x128x640_0_1_2 columnBlock) (broadcastInDim S5x128x640 ![0, 1, 2] bcast_S1x128x1_S5x128x640_0_1_2 (subi rowBlock (broadcastInDim S1x128x1 ![] bcast_S_S1x128x1 (constantI S_ 32 8#32)))))

/-- The masked tables, eight heads at a time. -/
def table (t : FVec F S257x16 .f32) : FVec F S2x8x5x128x640 .f32 :=
  shapeCast S2x8x5x128x640 (select (broadcastInDim S16x5x128x640 ![0, 1, 2, 3] bcast_S1x5x128x640_S16x5x128x640_0_1_2_3 (broadcastInDim S1x5x128x640 ![1, 2, 3] bcast_S5x128x640_S1x5x128x640_1_2_3 visible)) (biases t) (broadcastInDim S16x5x128x640 ![] bcast_S_S16x5x128x640 (id (constant S_ .f32 0xFF800000#32)))) shapeCasts_S16x5x128x640_S2x8x5x128x640

set_option maxHeartbeats 2000000 in
/-- What the kernel's fourth operand holds at the launch. -/
theorem table_eq (m : (ℓ : Loc nD τ sig) → Buf (Elt F) ℓ) (c : Dev nD) :
    V m c main_v53 = table (m ((c.tc : Thread nD τ).loc main_arg1)) := by
  unfold V
  after_reads_simp
  simp -implicitDefEqProofs only [StableHlo.TRef.toBuf, StableHlo.TRef.ofBuf, cast_cast, cast_eq]
  clean_types
  unfold table biases visible columnBlock rowBlock column tableRow shifted cols
  rfl

end Stages

/-! ## The integers -/

theorem cols_apply (j : Fin 768) : cols (ix1 j) = if j.val < 640 then BitVec.ofNat 32 j.val else BitVec.ofNat 32 j.val - 768#32 := by
  pointwise [cols]
  have h : ∀ j : Fin 768, Scalar.select (IntOp.cmpi .slt (BitVec.ofNat 32 j.val) 640#32) (BitVec.ofNat 32 j.val) (IntOp.subi (BitVec.ofNat 32 j.val) 768#32)
      = if j.val < 640 then BitVec.ofNat 32 j.val else BitVec.ofNat 32 j.val - 768#32 := by decide +kernel
  exact h j

theorem tableRow_apply (v : Fin 5) (j : Fin 768) :
    (tableRow (ix2 v j)).toInt.toNat = if j.val < 640 then min (128 * v.val + 128 - j.val) 256 else min (128 * v.val + 896 - j.val) 256 := by
  pointwise [tableRow, shifted]
  rw [cols_apply]
  revert v j
  decide +kernel

theorem columnBlock_apply (v : Fin 5) (c : Fin 640) : columnBlock (ix3 v 0 c) = BitVec.ofNat 32 (c.val / 64) - BitVec.ofNat 32 (2 * v.val) := by
  pointwise [columnBlock, column]
  revert v c
  decide +kernel

theorem rowBlock_apply (r : Fin 128) : rowBlock (ix3 0 r 0) = BitVec.ofNat 32 (r.val / 64) := by
  pointwise [rowBlock]
  revert r
  decide +kernel

theorem visible_apply (v : Fin 5) (r : Fin 128) (c : Fin 640) :
    visible (ix3 v r c) = if c.val / 64 ≤ r.val / 64 + 2 * v.val ∧ r.val / 64 + 2 * v.val ≤ c.val / 64 + 8 then 1#1 else 0#1 := by
  have h : ∀ (v : Fin 5) (b : Fin 2) (k : Fin 10),
      IntOp.andi (IntOp.cmpi .sle (BitVec.ofNat 32 k.val - BitVec.ofNat 32 (2 * v.val)) (BitVec.ofNat 32 b.val))
        (IntOp.cmpi .sge (BitVec.ofNat 32 k.val - BitVec.ofNat 32 (2 * v.val)) (IntOp.subi (BitVec.ofNat 32 b.val) 8#32))
      = if k.val ≤ b.val + 2 * v.val ∧ b.val + 2 * v.val ≤ k.val + 8 then 1#1 else 0#1 := by decide +kernel
  pointwise [visible]
  rw [columnBlock_apply, rowBlock_apply]
  exact h v ⟨r.val / 64, by omega⟩ ⟨c.val / 64, by omega⟩

/-! ## The arrays -/

theorem biases_apply (t : FVec Ideal S257x16 .f32) (h : Fin 16) (v : Fin 5) (r : Fin 128) (c : Fin 640) :
    biases t (ix4 h v r c) = t (ix2 ⟨min (128 * v.val + r.val + 128 - c.val) 256, by omega⟩ h) := by
  pointwise [biases]
  refine Gathers.rows_apply (wf := Facts₀.gather_S257x16_S5x768x1_S5x768x16_2_0_n_n_0_2_116_wf) _ _ v _ h _ ?_
  pointwise
  rw [tableRow_apply]
  have hj : (r.val * 767 + c.val) % 768 = if c.val < r.val then 768 + c.val - r.val else c.val - r.val := by split <;> omega
  simp only [hj]
  split <;> split <;> omega

theorem ofBits_bot : Ideal.ofBits .f32 0xFF800000#32 = ⊥ := by simp [Ideal.ofBits, Ideal.ieee]

theorem table_apply (t : FVec Ideal S257x16 .f32) (a : Fin 2) (e : Fin 8) (v : Fin 5) (r : Fin 128) (c : Fin 640) :
    table t (ix5 a e v r c) = if c.val / 64 ≤ r.val / 64 + 2 * v.val ∧ r.val / 64 + 2 * v.val ≤ c.val / 64 + 8
      then t (ix2 ⟨min (128 * v.val + r.val + 128 - c.val) 256, by omega⟩ ⟨a.val * 8 + e.val, by omega⟩) else ⊥ := by
  pointwise [table]
  rw [visible_apply, biases_apply]
  split
  · rfl
  · exact ofBits_bot

end Cert.BandTable

end
-- ==== Proof.BandReads.lean ====
/- What each block of a grid point holds: its part of the arguments, of the table, and of the result array. -/
module

public import proofs.«01_k».proof.Proof.BandEq
public import proofs.«01_k».proof.Proof.BandTable

@[expose] public section

set_option maxRecDepth 16384

noncomputable section

namespace Cert.BandReads

open Idealize.ShloMosaic Idealize.ShloMosaic.TcCoe Cert.BandIdeal Cert.BandIdeal.Gen
open Idealize.ShloMosaic.Pipeline (Dat)

/-- The group of eight heads, the batch and the tile of a grid point. -/
def group (t : Fin cfg0.N) : Fin 2 := grid0.coords t 0
def batch (t : Fin cfg0.N) : Fin 8 := grid0.coords t 1
def tile (t : Fin cfg0.N) : Fin 32 := grid0.coords t 2

/-- The blocks that a grid point takes. -/
theorem index_maps : ∀ t : Fin cfg0.N,
    win0_0.index t = ![(batch t).val, (tile t).val, (group t).val]
    ∧ win0_1.index t = ![(batch t).val, 0, 2 + (group t).val]
    ∧ win0_2.index t = ![(batch t).val, 0, 4 + (group t).val]
    ∧ win0_3.index t = ![(group t).val, 0, 0, 0, 0]
    ∧ win0_4.index t = ![(batch t).val, (tile t).val, (group t).val] := by
  decide +kernel

/-- The element of the result array that holds row `r`, lane `l` of the block of point `t`. -/
def place (t : Fin cfg0.N) (r : Fin 128) (l : Fin 512) : S8x4096x1024.Idx :=
  ix3 (batch t) (BandEq.query (tile t) r) ⟨512 * (group t).val + l.val, by omega⟩

theorem place_eq (t : Fin cfg0.N) (r : Fin 128) (l : Fin 512) : ((cfg0.win 4).blk t).view.emb (ix3 0 r l) = place t r l := by
  obtain ⟨-, -, -, -, i4⟩ := index_maps t
  unfold place BandEq.query
  blk_ext [i4]

section Reads

variable {F : FTy → Type} [FloatOps F]

/-! What a block of any contents of its array holds. -/

theorem query_block (A : S8x4096x3072.Idx → Elt F .bf16) (t : Fin cfg0.N) (r : Fin 128) (l : Fin 512) :
    ((cfg0.win 0).blk t).view.read (Elt F) A (ix3 0 r l) = A (ix3 (batch t) (BandEq.query (tile t) r) ⟨512 * (group t).val + l.val, by omega⟩) := by
  obtain ⟨i0, -, -, -, -⟩ := index_maps t
  unfold BandEq.query
  blk_ext [i0]

theorem key_block (A : S8x4096x3072.Idx → Elt F .bf16) (t : Fin cfg0.N) (p : Fin 4096) (l : Fin 512) :
    ((cfg0.win 1).blk t).view.read (Elt F) A (ix3 0 p l) = A (ix3 (batch t) p ⟨1024 + (512 * (group t).val + l.val), by omega⟩) := by
  obtain ⟨-, i1, -, -, -⟩ := index_maps t
  blk_ext [i1]

theorem value_block (A : S8x4096x3072.Idx → Elt F .bf16) (t : Fin cfg0.N) (p : Fin 4096) (l : Fin 512) :
    ((cfg0.win 2).blk t).view.read (Elt F) A (ix3 0 p l) = A (ix3 (batch t) p ⟨2048 + (512 * (group t).val + l.val), by omega⟩) := by
  obtain ⟨-, -, i2, -, -⟩ := index_maps t
  blk_ext [i2]

theorem table_block (A : S2x8x5x128x640.Idx → Elt F .f32) (t : Fin cfg0.N) (e : Fin 8) (v : Fin 5) (r : Fin 128) (k : Fin 640) :
    ((cfg0.win 3).blk t).view.read (Elt F) A (ix5 0 e v r k) = A (ix5 (group t) e v r k) := by
  obtain ⟨-, -, -, i3, -⟩ := index_maps t
  blk_ext [i3]

variable (m : (ℓ : Loc nD τ sig) → Buf (Elt F) ℓ)

/-! What the blocks of the launch hold. -/

theorem query_iblk (c : Dev nD) (t : Fin cfg0.N) : iblk m c 0 t = ((cfg0.win 0).blk t).view.read (Elt F) (m ((c.tc : Thread nD τ).loc main_arg0)) :=
  congrArg (((cfg0.win 0).blk t).view.read (Elt F)) (V_main_arg0 m c)

theorem key_iblk (c : Dev nD) (t : Fin cfg0.N) : iblk m c 1 t = ((cfg0.win 1).blk t).view.read (Elt F) (m ((c.tc : Thread nD τ).loc main_arg0)) :=
  congrArg (((cfg0.win 1).blk t).view.read (Elt F)) (V_main_arg0 m c)

theorem value_iblk (c : Dev nD) (t : Fin cfg0.N) : iblk m c 2 t = ((cfg0.win 2).blk t).view.read (Elt F) (m ((c.tc : Thread nD τ).loc main_arg0)) :=
  congrArg (((cfg0.win 2).blk t).view.read (Elt F)) (V_main_arg0 m c)

theorem table_iblk (c : Dev nD) (t : Fin cfg0.N) :
    iblk m c 3 t = ((cfg0.win 3).blk t).view.read (Elt F) (BandTable.table (m ((c.tc : Thread nD τ).loc main_arg1))) :=
  congrArg (((cfg0.win 3).blk t).view.read (Elt F)) (BandTable.table_eq m c)

end Reads

end Cert.BandReads

end
-- ==== Proof.BandValue.lean ====
/- The kernel's result array after the run is the band attention of its arguments. -/
module

public import proofs.«01_k».proof.Proof.BandReads

@[expose] public section

set_option maxRecDepth 16384

noncomputable section

namespace Cert.BandValue

open Idealize.ShloMosaic Idealize.ShloMosaic.TcCoe Cert.BandIdeal Cert.BandIdeal.Gen
open Cert.BandReads

/-- The first argument, by batch, position and lane. -/
def X (x : FVec Ideal S8x4096x3072 .bf16) : Fin 8 → Fin 4096 → Fin 3072 → EReal := fun b i k => x (ix3 b i k)

/-- The table argument. -/
def T (t : FVec Ideal S257x16 .f32) : Fin 257 → Fin 16 → EReal := fun n h => t (ix2 n h)

/-- The band attention as an array. -/
def result (x : FVec Ideal S8x4096x3072 .bf16) (t : FVec Ideal S257x16 .f32) : FVec Ideal S8x4096x1024 .bf16 := fun j =>
  Band.band (X x) (T t) (j 0) (j 1) ⟨(j 2).val / 64, by have : (j 2).val < 1024 := (j 2).isLt; omega⟩ ⟨(j 2).val % 64, by omega⟩

variable (m : (ℓ : Loc nD τ sig) → Buf (Elt Ideal) ℓ)

/-- The blocks of a grid point. -/
theorem blocks (c : Dev nD) (t : Fin cfg0.N) :
    BandEq.Blocks (X (m ((c.tc : Thread nD τ).loc main_arg0))) (T (m ((c.tc : Thread nD τ).loc main_arg1))) (group t) (batch t) (tile t)
      (iblk m c 0 t) (iblk m c 1 t) (iblk m c 2 t) (iblk m c 3 t) where
  query := fun r l => (congrFun (query_iblk m c t) _).trans (query_block _ t r l)
  key := fun p l => (congrFun (key_iblk m c t) _).trans (key_block _ t p l)
  value := fun p l => (congrFun (value_iblk m c t) _).trans (value_block _ t p l)
  table e v r k := ((congrFun (table_iblk m c t) _).trans (table_block _ t e v r k)).trans (BandTable.table_apply _ (group t) e v r k)

/-- What a grid point leaves in its output block is the result array at the place of the element. -/
theorem outs_apply (hf : ∀ c : Dev nD, Band.Finite (X (m ((c.tc : Thread nD τ).loc main_arg0))) (T (m ((c.tc : Thread nD τ).loc main_arg1)))) (c : Dev nD)
    (t : Fin cfg0.N) (e : Fin 8) (r : Fin 128) (d : Fin 64) :
    outsAt0 m c t (ix3 0 r ⟨64 * e.val + d.val, by omega⟩)
      = result (m ((c.tc : Thread nD τ).loc main_arg0)) (m ((c.tc : Thread nD τ).loc main_arg1)) (place t r ⟨64 * e.val + d.val, by omega⟩) := by
  unfold outsAt0
  refine (BandTile.block_apply c (grid0.coords t) _ _ _ _ _ _ _ _ _ _ _ _ _ _ e r d).trans ?_
  refine ((blocks m c t).element_eq (hf c) e r d).trans ?_
  unfold result
  refine congrArg₂ (Band.band _ _ (batch t) (BandEq.query (tile t) r)) (Fin.ext ?_) (Fin.ext ?_)
  · show (group t).val * 8 + e.val = (512 * (group t).val + (64 * e.val + d.val)) / 64
    omega
  · show d.val = (512 * (group t).val + (64 * e.val + d.val)) % 64
    omega

/-- The blocks cover the result array. -/
theorem covered (i : S8x4096x1024.Idx) : ∃ t : Fin cfg0.N, (cfg0.win 4).flush t = true ∧ i ∈ ((cfg0.win 4).blk t).view.set := by
  have h : (cfg0.win 4).Covers := by decide +kernel
  exact Pipeline.Window.Covers.cover (cfg0.win 4) h (Memref.isWhole_whole _) i

/-- A block is written back whole. -/
theorem cut_whole {F : FTy → Type} [FloatOps F] (t : Fin cfg0.N) (x : S1x128x512.Idx → Elt F .bf16) : (cfg0.win 4).cut (grid0.coords t) x = x := by
  funext y
  blk_simp

/-- What a grid point leaves in its output block is its block of the result array. -/
theorem outs_eq (hf : ∀ c : Dev nD, Band.Finite (X (m ((c.tc : Thread nD τ).loc main_arg0))) (T (m ((c.tc : Thread nD τ).loc main_arg1)))) (c : Dev nD)
    (t : Fin cfg0.N) (y : S1x128x512.Idx) :
    outsAt0 m c t y = result (m ((c.tc : Thread nD τ).loc main_arg0)) (m ((c.tc : Thread nD τ).loc main_arg1)) (((cfg0.win 4).blk t).view.emb y) := by
  obtain ⟨r, l, rfl⟩ : ∃ (r : Fin 128) (l : Fin 512), y = ix3 0 r l := ⟨y 1, y 2, by
    funext a
    fin_cases a
    · exact Fin.ext (by have : (y 0).val < 1 := (y 0).isLt; show (y 0).val = 0; omega)
    · rfl
    · rfl⟩
  have hl : l = ⟨64 * (l.val / 64) + l.val % 64, by omega⟩ := Fin.ext (by show l.val = 64 * (l.val / 64) + l.val % 64; omega)
  rw [place_eq, hl]
  exact outs_apply m hf c t ⟨l.val / 64, by omega⟩ r ⟨l.val % 64, by omega⟩

/-- The result array. -/
theorem array (hf : ∀ c : Dev nD, Band.Finite (X (m ((c.tc : Thread nD τ).loc main_arg0))) (T (m ((c.tc : Thread nD τ).loc main_arg1)))) (c : Dev nD) :
    (dats m 0 c).arrAt 4 cfg0.N = result (m ((c.tc : Thread nD τ).loc main_arg0)) (m ((c.tc : Thread nD τ).loc main_arg1)) := by
  refine (dats m 0 c).arrAt_eq_of_cover 4 _ (fun t _ => ?_) covered
  rw [Value.flushed4, cut_whole]
  exact funext fun y => outs_eq m hf c t y

end Cert.BandValue

end
-- ==== Proof.ExpertsPre.lean ====
/- The experts' precondition read: every entry of the two tables names an expert, and no row count is negative. -/
module

public import proofs.«01_k».proof.Proof.Gen.Pre_experts_in_range
public import Idealize.ShloMosaic.Lib.Pointwise
public import Idealize.ShloMosaic.Lib.ReduceAll

@[expose] public section

set_option maxRecDepth 16384

noncomputable section

namespace Cert.ExpertsPre

open Idealize.ShloMosaic Cert.Pre_experts_in_range

/-- Both conjuncts of a conjunction of bits. -/
theorem both : ∀ a b : BitVec 1, IntOp.andi a b = 1#1 → a = 1#1 ∧ b = 1#1 := by decide

/-- What the precondition says of the three tables. -/
structure InRange (lo hi nv : IVec S240 32) : Prop where
  lo_lt : ∀ j, (lo j).toNat < 32
  hi_lt : ∀ j, (hi j).toNat < 32
  nv_nonneg : ∀ j, 0 ≤ (nv j).toInt

/-- A word between the bounds names an expert. -/
theorem lt_of (e : BitVec 32) (h0 : (0#32).sle e = true) (h1 : e.slt 32#32 = true) : e.toNat < 32 := by
  rw [BitVec.sle_eq_decide, decide_eq_true_eq] at h0
  rw [BitVec.slt_eq_decide, decide_eq_true_eq] at h1
  have a : (0#32).toInt = 0 := by decide
  have b : (32#32).toInt = 32 := by decide
  rw [a] at h0
  rw [b] at h1
  rw [BitVec.toInt_eq_toNat_cond] at h0 h1
  have := e.isLt
  split at h0 <;> omega

theorem bit : ∀ b : Bool, BitVec.ofBool b = 1#1 → b = true := by decide

theorem inRange {F : FTy → Type} [FloatOps F] (x : FVec F S491520x128 .f32) (lo hi nv : IVec S240 32) (g u : FVec F S2x32x1024x512 .bf16) (d : FVec F S2x32x512x1024 .bf16)
    (h : Cert.Pre_experts_in_range.fn (F := F) x lo hi nv g u d = fun _ => 1#1) : InRange lo hi nv := by
  have : Subsingleton S_.Idx := ⟨fun a b => funext fun i => i.elim0⟩
  have key : ∀ j, ((((0#32).sle (lo j) = true ∧ (lo j).slt 32#32 = true) ∧ (0#32).sle (hi j) = true) ∧ (hi j).slt 32#32 = true) ∧ (0#32).sle (nv j) = true := by
    intro j
    have e := Host.reduce_andi_all _ _ _ _ _ (congrFun h ix0) j
    obtain ⟨e, e5⟩ := both _ _ e
    obtain ⟨e, e4⟩ := both _ _ e
    obtain ⟨e, e3⟩ := both _ _ e
    obtain ⟨e1, e2⟩ := both _ _ e
    exact ⟨⟨⟨⟨bit _ e1, bit _ e2⟩, bit _ e3⟩, bit _ e4⟩, bit _ e5⟩
  refine ⟨fun j => lt_of _ (key j).1.1.1.1 (key j).1.1.1.2, fun j => lt_of _ (key j).1.1.2 (key j).1.2, fun j => ?_⟩
  have h0 := (key j).2
  rw [BitVec.sle_eq_decide, decide_eq_true_eq] at h0
  have a : (0#32).toInt = 0 := by decide
  rwa [a] at h0

end Cert.ExpertsPre

end
-- ==== Proof.ExpertsIdealRun.lean ====
/- One call of the expert kernel's body, run on whole staging buffers. A tile with a positive number of valid rows goes the way of the two experts
   (`runA`); a tile with none is filled with zeros (`runB`). -/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.FrameBody
public import Idealize.ShloMosaic.Lib.Pipeline.Frame
public import Idealize.ShloMosaic.Lib.Exec
public import Idealize.ShloMosaic.Lib.Writes
public import Idealize.ShloMosaic.Lib.Ring
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The three tables: each tile's first expert, its second, and its number of valid rows. -/
abbrev tbM0_0 : Memref sig .tc .smem S240 .i32 := Memref.whole main_arg1
abbrev tbM0_1 : Memref sig .tc .smem S240 .i32 := Memref.whole main_arg2
abbrev tbM0_2 : Memref sig .tc .smem S240 .i32 := Memref.whole main_arg3

/-- The number of valid rows as the body reads it, before its first condition and before its second. -/
abbrev word1 (i : grid0.Coords) (T2 : Vec F S240 .i32) : BitVec 32 :=
  View.readAt (Elt F) (tbM0_2).view (Rect.unit (s := S240) (k0_off1 i) S1.size (k0_off1_inb i)).toLoadRect T2 (Shape.Idx.first (numel1_S1.symm ▸ Nat.one_pos))
abbrev word2 (i : grid0.Coords) (T2 : Vec F S240 .i32) : BitVec 32 :=
  View.readAt (Elt F) (tbM0_2).view (Rect.unit (s := S240) (k0_off2 i) S1.size (k0_off2_inb i)).toLoadRect T2 (Shape.Idx.first (numel1_S1.symm ▸ Nat.one_pos))

/-- A staging buffer of the output, through which its contents are stated. -/
abbrev VO : View sig .tc .vmem S4096x128 .f32 := (Memref.whole cc0_stg7_0 : Memref sig .tc .vmem S4096x128 .f32).view

set_option maxHeartbeats 8000000 in
/-- A tile with valid rows: the pieces stored in the output's buffer, and that the body runs to them. -/
noncomputable def runA (c : Dev nD) (i : grid0.Coords) (arg4 : Memref sig .tc .vmem S2048x128 .f32) (harg4 : arg4.IsWhole) (arg5 : Memref sig .tc .vmem S1x1x1024x512 .bf16) (harg5 : arg5.IsWhole) (arg6 : Memref sig .tc .vmem S1x1x1024x512 .bf16) (harg6 : arg6.IsWhole) (arg7 : Memref sig .tc .vmem S1x1x512x1024 .bf16) (harg7 : arg7.IsWhole) (arg8 : Memref sig .tc .vmem S1x1x1024x512 .bf16) (harg8 : arg8.IsWhole) (arg9 : Memref sig .tc .vmem S1x1x1024x512 .bf16) (harg9 : arg9.IsWhole) (arg10 : Memref sig .tc .vmem S1x1x512x1024 .bf16) (harg10 : arg10.IsWhole) (arg11 : Memref sig .tc .vmem S4096x128 .f32) (harg11 : arg11.IsWhole) (T0 T1 T2 : Vec F S240 .i32)
    (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) (k0_h1 : k0_cond1 (word1 i T2) = 1#1) (k0_h2 : ¬ k0_cond2 (word2 i T2) = 1#1) :
    { L : List (View.Piece (Elt F) S4096x128 .f32) //
      ∀ (K : PUnit → sProp (MT nD τ sig Unit (Elt F) ℕ (UR sig nD τ) ℕ)),
        iprop(owns (c : Thread nD τ) arg4 fullShare x0
          ∗ owns (c : Thread nD τ) arg5 fullShare x1
          ∗ owns (c : Thread nD τ) arg6 fullShare x2
          ∗ owns (c : Thread nD τ) arg7 fullShare x3
          ∗ owns (c : Thread nD τ) arg8 fullShare x4
          ∗ owns (c : Thread nD τ) arg9 fullShare x5
          ∗ owns (c : Thread nD τ) arg10 fullShare x6
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg11 fullShare d)
          ∗ (iprop(owns (c : Thread nD τ) arg4 fullShare x0
          ∗ owns (c : Thread nD τ) arg5 fullShare x1
          ∗ owns (c : Thread nD τ) arg6 fullShare x2
          ∗ owns (c : Thread nD τ) arg7 fullShare x3
          ∗ owns (c : Thread nD τ) arg8 fullShare x4
          ∗ owns (c : Thread nD τ) arg9 fullShare x5
          ∗ owns (c : Thread nD τ) arg10 fullShare x6
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg11.view.loc (c : Thread nD τ) ↦[arg11.view.set]{fullShare} arg11.view.writes (Elt F) f L)) -∗ K ⟨⟩))
          ⊢ wp frame (wpE (defs₀ (F := F)) Variants.none c none) Set.univ (cc0__expert_kernel i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11) K } := by
  refine ⟨?_, fun K => ?run⟩
  case run =>
    rw [cc0__expert_kernel_eq_skeleton]; unfold cc0__expert_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, HT2, ⟨%d7, %f7, -, H7⟩, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6
    have hT0 : tbM0_0.IsWhole := Memref.isWhole_whole _
    have hT1 : tbM0_1.IsWhole := Memref.isWhole_whole _
    have hT2 : tbM0_2.IsWhole := Memref.isWhole_whole _
    rw [k0_part1_eq_skeleton, k0_part2_eq_skeleton]
    sl_exec! (disch := first | (guard_target = k0_cond1 _ = _; exact k0_h1) | (guard_target = ¬(k0_cond2 _ = _); exact k0_h2))
    sl_step
    iapply Hk
    isplitl [H0]; · iexists _; isplitr; · ipureintro; exact harg4.read_unread _
                    iexact H0
    isplitl [H1]; · iexists _; isplitr; · ipureintro; exact harg5.read_unread _
                    iexact H1
    isplitl [H2]; · iexists _; isplitr; · ipureintro; exact harg6.read_unread _
                    iexact H2
    isplitl [H3]; · iexists _; isplitr; · ipureintro; exact harg7.read_unread _
                    iexact H3
    isplitl [H4]; · iexists _; isplitr; · ipureintro; exact harg8.read_unread _
                    iexact H4
    isplitl [H5]; · iexists _; isplitr; · ipureintro; exact harg9.read_unread _
                    iexact H5
    isplitl [H6]; · iexists _; isplitr; · ipureintro; exact harg10.read_unread _
                    iexact H6
    isplitl [HT0]; · iexact HT0
    isplitl [HT1]; · iexact HT1
    isplitl [HT2]; · iexact HT2
    iexists _; iexact H7

set_option maxHeartbeats 8000000 in
/-- A tile with no valid rows: the same of the store of zeros. -/
noncomputable def runB (c : Dev nD) (i : grid0.Coords) (arg4 : Memref sig .tc .vmem S2048x128 .f32) (harg4 : arg4.IsWhole) (arg5 : Memref sig .tc .vmem S1x1x1024x512 .bf16) (harg5 : arg5.IsWhole) (arg6 : Memref sig .tc .vmem S1x1x1024x512 .bf16) (harg6 : arg6.IsWhole) (arg7 : Memref sig .tc .vmem S1x1x512x1024 .bf16) (harg7 : arg7.IsWhole) (arg8 : Memref sig .tc .vmem S1x1x1024x512 .bf16) (harg8 : arg8.IsWhole) (arg9 : Memref sig .tc .vmem S1x1x1024x512 .bf16) (harg9 : arg9.IsWhole) (arg10 : Memref sig .tc .vmem S1x1x512x1024 .bf16) (harg10 : arg10.IsWhole) (arg11 : Memref sig .tc .vmem S4096x128 .f32) (harg11 : arg11.IsWhole) (T0 T1 T2 : Vec F S240 .i32)
    (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) (k0_h1 : ¬ k0_cond1 (word1 i T2) = 1#1) (k0_h2 : k0_cond2 (word2 i T2) = 1#1) :
    { L : List (View.Piece (Elt F) S4096x128 .f32) //
      ∀ (K : PUnit → sProp (MT nD τ sig Unit (Elt F) ℕ (UR sig nD τ) ℕ)),
        iprop(owns (c : Thread nD τ) arg4 fullShare x0
          ∗ owns (c : Thread nD τ) arg5 fullShare x1
          ∗ owns (c : Thread nD τ) arg6 fullShare x2
          ∗ owns (c : Thread nD τ) arg7 fullShare x3
          ∗ owns (c : Thread nD τ) arg8 fullShare x4
          ∗ owns (c : Thread nD τ) arg9 fullShare x5
          ∗ owns (c : Thread nD τ) arg10 fullShare x6
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg11 fullShare d)
          ∗ (iprop(owns (c : Thread nD τ) arg4 fullShare x0
          ∗ owns (c : Thread nD τ) arg5 fullShare x1
          ∗ owns (c : Thread nD τ) arg6 fullShare x2
          ∗ owns (c : Thread nD τ) arg7 fullShare x3
          ∗ owns (c : Thread nD τ) arg8 fullShare x4
          ∗ owns (c : Thread nD τ) arg9 fullShare x5
          ∗ owns (c : Thread nD τ) arg10 fullShare x6
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg11.view.loc (c : Thread nD τ) ↦[arg11.view.set]{fullShare} arg11.view.writes (Elt F) f L)) -∗ K ⟨⟩))
          ⊢ wp frame (wpE (defs₀ (F := F)) Variants.none c none) Set.univ (cc0__expert_kernel i tbM0_0 (Memref.isWhole_whole _) tbM0_1 (Memref.isWhole_whole _) tbM0_2 (Memref.isWhole_whole _) arg4 harg4 arg5 harg5 arg6 harg6 arg7 harg7 arg8 harg8 arg9 harg9 arg10 harg10 arg11 harg11) K } := by
  refine ⟨?_, fun K => ?run⟩
  case run =>
    rw [cc0__expert_kernel_eq_skeleton]; unfold cc0__expert_kernel_skel
    iintro ⟨H0, H1, H2, H3, H4, H5, H6, HT0, HT1, HT2, Hd, Hk⟩
    unfold owns
    icases Hd with ⟨%d7, %f7, -, H7⟩
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ = _); exact k0_h1) | (guard_target = k0_cond2 _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    iexists _; iexact H7

/-! ## What the two ways leave in the output block -/

/-- A load of a whole buffer's rectangle reads the contents there. -/
theorem readAt_whole {s : Shape} {e : EltTy} {sp : Space} {M : Memref sig .tc sp s e} (h : M.IsWhole) (X : s.Idx → Elt F e) (B : LoadRect s) :
    View.readAt (Elt F) M.view B (h.unread X) = fun j => X (B.idx j) := funext fun j => congrFun (h.read_unread X) _

/-- Every eighth row of a tile's input block, from row `k`: the `k`-th part of each slot's features. -/
def rows (x : Vec F S2048x128 .f32) (k : ℕ) (h : ∀ a, S256x128.size a = 0 ∨ (![k, 0] : Fin 2 → ℕ) a + (![8, 1] : Fin 2 → ℕ) a * (S256x128.size a - 1) < S2048x128.size a) : Vec F S256x128 .f32 :=
  fun j => x ((⟨![k, 0], S256x128.size, ![8, 1], h⟩ : LoadRect S2048x128).idx j)

/-- A tile's weights, read whole. -/
def wgt (x : Vec F S1x1x1024x512 .bf16) : Vec F S1x1x1024x512 .bf16 :=
  fun j => x ((Rect.unit (s := S1x1x1024x512) ![0, 0, 0, 0] S1x1x1024x512.size inb_S1x1x1024x512_S1x1x1024x512_0_0_0_0).toLoadRect.idx j)
def wgtD (x : Vec F S1x1x512x1024 .bf16) : Vec F S1x1x512x1024 .bf16 :=
  fun j => x ((Rect.unit (s := S1x1x512x1024) ![0, 0, 0, 0] S1x1x512x1024.size inb_S1x1x512x1024_S1x1x512x1024_0_0_0_0).toLoadRect.idx j)

/-- The first expert's result of a tile, from the slots' features and the expert's three weights. -/
def yLo (x : Vec F S2048x128 .f32) (g u : Vec F S1x1x1024x512 .bf16) (d : Vec F S1x1x512x1024 .bf16) : FVec F S256x1024 .f32 :=
  k0_pay15 (k0_pay12 (rows x 0 inb_S2048x128_S256x128_0_0_s_8_1) (rows x 1 inb_S2048x128_S256x128_1_0_s_8_1) (rows x 2 inb_S2048x128_S256x128_2_0_s_8_1) (rows x 3 inb_S2048x128_S256x128_3_0_s_8_1) (rows x 4 inb_S2048x128_S256x128_4_0_s_8_1) (rows x 5 inb_S2048x128_S256x128_5_0_s_8_1) (rows x 6 inb_S2048x128_S256x128_6_0_s_8_1) (rows x 7 inb_S2048x128_S256x128_7_0_s_8_1) (wgt u)) (k0_pay14 (rows x 0 inb_S2048x128_S256x128_0_0_s_8_1) (rows x 1 inb_S2048x128_S256x128_1_0_s_8_1) (rows x 2 inb_S2048x128_S256x128_2_0_s_8_1) (rows x 3 inb_S2048x128_S256x128_3_0_s_8_1) (rows x 4 inb_S2048x128_S256x128_4_0_s_8_1) (rows x 5 inb_S2048x128_S256x128_5_0_s_8_1) (rows x 6 inb_S2048x128_S256x128_6_0_s_8_1) (rows x 7 inb_S2048x128_S256x128_7_0_s_8_1) (wgt g)) (wgtD d)

/-- The second expert's. -/
def yHi (x : Vec F S2048x128 .f32) (g u : Vec F S1x1x1024x512 .bf16) (d : Vec F S1x1x512x1024 .bf16) : FVec F S256x1024 .f32 :=
  k0_pay16 (k0_pay11 (rows x 0 inb_S2048x128_S256x128_0_0_s_8_1) (rows x 1 inb_S2048x128_S256x128_1_0_s_8_1) (rows x 2 inb_S2048x128_S256x128_2_0_s_8_1) (rows x 3 inb_S2048x128_S256x128_3_0_s_8_1) (rows x 4 inb_S2048x128_S256x128_4_0_s_8_1) (rows x 5 inb_S2048x128_S256x128_5_0_s_8_1) (rows x 6 inb_S2048x128_S256x128_6_0_s_8_1) (rows x 7 inb_S2048x128_S256x128_7_0_s_8_1) (wgt g)) (k0_pay13 (rows x 0 inb_S2048x128_S256x128_0_0_s_8_1) (rows x 1 inb_S2048x128_S256x128_1_0_s_8_1) (rows x 2 inb_S2048x128_S256x128_2_0_s_8_1) (rows x 3 inb_S2048x128_S256x128_3_0_s_8_1) (rows x 4 inb_S2048x128_S256x128_4_0_s_8_1) (rows x 5 inb_S2048x128_S256x128_5_0_s_8_1) (rows x 6 inb_S2048x128_S256x128_6_0_s_8_1) (rows x 7 inb_S2048x128_S256x128_7_0_s_8_1) (wgt u)) (wgtD d)

/-- An output block of two results: slot `s` takes the sixteen rows from `16 s`, the first result's eight parts, then the second's. -/
def tileOut (lo hi : FVec F S256x1024 .f32) : Vec F S4096x128 .f32 := fun y =>
  have h0 : (y 0).val < 4096 := (y 0).isLt
  have h1 : (y 1).val < 128 := (y 1).isLt
  if h : (y 0).val % 16 < 8 then
    lo (fun | 0 => ⟨(y 0).val / 16, by show _ < 256; omega⟩ | 1 => ⟨(y 0).val % 16 * 128 + (y 1).val, by show _ < 1024; omega⟩)
  else hi (fun | 0 => ⟨(y 0).val / 16, by show _ < 256; omega⟩ | 1 => ⟨((y 0).val % 16 - 8) * 128 + (y 1).val, by show _ < 1024; omega⟩)

theorem tileOut_lo (lo hi : FVec F S256x1024 .f32) (k : ℕ) (hk : k < 8) (x : S256x128.Idx) (y : S4096x128.Idx) (z : S256x1024.Idx)
    (h0 : (y 0).val = k + 16 * (x 0).val) (h1 : (y 1).val = 0 + 1 * (x 1).val) (z0 : (z 0).val = 0 + (x 0).val) (z1 : (z 1).val = k * 128 + (x 1).val) :
    lo z = tileOut lo hi y := by
  unfold tileOut
  rw [dif_pos (by omega)]
  refine congrArg lo (funext fun a => Fin.ext ?_)
  match a with
  | ⟨0, _⟩ => show (z 0).val = (y 0).val / 16; omega
  | ⟨1, _⟩ => show (z 1).val = (y 0).val % 16 * 128 + (y 1).val; rw [show (y 0).val % 16 = k by omega]; omega

theorem tileOut_hi (lo hi : FVec F S256x1024 .f32) (k : ℕ) (hk : k < 8) (x : S256x128.Idx) (y : S4096x128.Idx) (z : S256x1024.Idx)
    (h0 : (y 0).val = (k + 8) + 16 * (x 0).val) (h1 : (y 1).val = 0 + 1 * (x 1).val) (z0 : (z 0).val = 0 + (x 0).val) (z1 : (z 1).val = k * 128 + (x 1).val) :
    hi z = tileOut lo hi y := by
  unfold tileOut
  rw [dif_neg (by omega)]
  refine congrArg hi (funext fun a => Fin.ext ?_)
  match a with
  | ⟨0, _⟩ => show (z 0).val = (y 0).val / 16; omega
  | ⟨1, _⟩ => show (z 1).val = ((y 0).val % 16 - 8) * 128 + (y 1).val; rw [show (y 0).val % 16 - 8 = k by omega]; omega

/-- The sixteen stores, the last one first. -/
def pieces (lo hi : FVec F S256x1024 .f32) : List (View.Piece (Elt F) S4096x128 .f32) :=
  [⟨⟨(⟨![15, 0], S256x128.size, ![16, 1], inb_S4096x128_S256x128_15_0_s_16_1⟩ : LoadRect S4096x128), spos_16_1⟩, k0_pay8 hi⟩,
   ⟨⟨(⟨![14, 0], S256x128.size, ![16, 1], inb_S4096x128_S256x128_14_0_s_16_1⟩ : LoadRect S4096x128), spos_16_1⟩, k0_pay7 hi⟩,
   ⟨⟨(⟨![13, 0], S256x128.size, ![16, 1], inb_S4096x128_S256x128_13_0_s_16_1⟩ : LoadRect S4096x128), spos_16_1⟩, k0_pay6 hi⟩,
   ⟨⟨(⟨![12, 0], S256x128.size, ![16, 1], inb_S4096x128_S256x128_12_0_s_16_1⟩ : LoadRect S4096x128), spos_16_1⟩, k0_pay5 hi⟩,
   ⟨⟨(⟨![11, 0], S256x128.size, ![16, 1], inb_S4096x128_S256x128_11_0_s_16_1⟩ : LoadRect S4096x128), spos_16_1⟩, k0_pay4 hi⟩,
   ⟨⟨(⟨![10, 0], S256x128.size, ![16, 1], inb_S4096x128_S256x128_10_0_s_16_1⟩ : LoadRect S4096x128), spos_16_1⟩, k0_pay3 hi⟩,
   ⟨⟨(⟨![9, 0], S256x128.size, ![16, 1], inb_S4096x128_S256x128_9_0_s_16_1⟩ : LoadRect S4096x128), spos_16_1⟩, k0_pay2 hi⟩,
   ⟨⟨(⟨![8, 0], S256x128.size, ![16, 1], inb_S4096x128_S256x128_8_0_s_16_1⟩ : LoadRect S4096x128), spos_16_1⟩, k0_pay1 hi⟩,
   ⟨⟨(⟨![7, 0], S256x128.size, ![16, 1], inb_S4096x128_S256x128_7_0_s_16_1⟩ : LoadRect S4096x128), spos_16_1⟩, extractStridedSlice S256x128 ![0, 896] lo slices_S256x1024_o0_896_S256x128⟩,
   ⟨⟨(⟨![6, 0], S256x128.size, ![16, 1], inb_S4096x128_S256x128_6_0_s_16_1⟩ : LoadRect S4096x128), spos_16_1⟩, extractStridedSlice S256x128 ![0, 768] lo slices_S256x1024_o0_768_S256x128⟩,
   ⟨⟨(⟨![5, 0], S256x128.size, ![16, 1], inb_S4096x128_S256x128_5_0_s_16_1⟩ : LoadRect S4096x128), spos_16_1⟩, extractStridedSlice S256x128 ![0, 640] lo slices_S256x1024_o0_640_S256x128⟩,
   ⟨⟨(⟨![4, 0], S256x128.size, ![16, 1], inb_S4096x128_S256x128_4_0_s_16_1⟩ : LoadRect S4096x128), spos_16_1⟩, extractStridedSlice S256x128 ![0, 512] lo slices_S256x1024_o0_512_S256x128⟩,
   ⟨⟨(⟨![3, 0], S256x128.size, ![16, 1], inb_S4096x128_S256x128_3_0_s_16_1⟩ : LoadRect S4096x128), spos_16_1⟩, extractStridedSlice S256x128 ![0, 384] lo slices_S256x1024_o0_384_S256x128⟩,
   ⟨⟨(⟨![2, 0], S256x128.size, ![16, 1], inb_S4096x128_S256x128_2_0_s_16_1⟩ : LoadRect S4096x128), spos_16_1⟩, extractStridedSlice S256x128 ![0, 256] lo slices_S256x1024_o0_256_S256x128⟩,
   ⟨⟨(⟨![1, 0], S256x128.size, ![16, 1], inb_S4096x128_S256x128_1_0_s_16_1⟩ : LoadRect S4096x128), spos_16_1⟩, extractStridedSlice S256x128 ![0, 128] lo slices_S256x1024_o0_128_S256x128⟩,
   ⟨⟨(⟨![0, 0], S256x128.size, ![16, 1], inb_S4096x128_S256x128_0_0_s_16_1⟩ : LoadRect S4096x128), spos_16_1⟩, extractStridedSlice S256x128 ![0, 0] lo slices_S256x1024_o0_0_S256x128⟩]

theorem pieces_eq (lo hi : FVec F S256x1024 .f32) : ∀ p ∈ pieces lo hi, ∀ x : p.1.shape.Idx, p.2 x = tileOut lo hi (p.1.emb x) := by
  intro p hp
  simp only [pieces, List.mem_cons, List.not_mem_nil, or_false] at hp
  rcases hp with rfl | rfl | rfl | rfl | rfl | rfl | rfl | rfl | rfl | rfl | rfl | rfl | rfl | rfl | rfl | rfl
  · exact fun x => tileOut_hi lo hi 7 (by decide) x _ _ rfl rfl rfl rfl
  · exact fun x => tileOut_hi lo hi 6 (by decide) x _ _ rfl rfl rfl rfl
  · exact fun x => tileOut_hi lo hi 5 (by decide) x _ _ rfl rfl rfl rfl
  · exact fun x => tileOut_hi lo hi 4 (by decide) x _ _ rfl rfl rfl rfl
  · exact fun x => tileOut_hi lo hi 3 (by decide) x _ _ rfl rfl rfl rfl
  · exact fun x => tileOut_hi lo hi 2 (by decide) x _ _ rfl rfl rfl rfl
  · exact fun x => tileOut_hi lo hi 1 (by decide) x _ _ rfl rfl rfl rfl
  · exact fun x => tileOut_hi lo hi 0 (by decide) x _ _ rfl rfl rfl rfl
  · exact fun x => tileOut_lo lo hi 7 (by decide) x _ _ rfl rfl rfl rfl
  · exact fun x => tileOut_lo lo hi 6 (by decide) x _ _ rfl rfl rfl rfl
  · exact fun x => tileOut_lo lo hi 5 (by decide) x _ _ rfl rfl rfl rfl
  · exact fun x => tileOut_lo lo hi 4 (by decide) x _ _ rfl rfl rfl rfl
  · exact fun x => tileOut_lo lo hi 3 (by decide) x _ _ rfl rfl rfl rfl
  · exact fun x => tileOut_lo lo hi 2 (by decide) x _ _ rfl rfl rfl rfl
  · exact fun x => tileOut_lo lo hi 1 (by decide) x _ _ rfl rfl rfl rfl
  · exact fun x => tileOut_lo lo hi 0 (by decide) x _ _ rfl rfl rfl rfl

theorem pieces_cover (lo hi : FVec F S256x1024 .f32) (y : S4096x128.Idx) : ∃ p ∈ pieces lo hi, y ∈ p.1.set := by
  have h0 : (y 0).val < 4096 := (y 0).isLt
  have h1 : (y 1).val < 128 := (y 1).isLt
  have mem : ∀ (k : ℕ) (r : Rect S4096x128), r.off = ![k, 0] → r.size = S256x128.size → r.stride = ![16, 1] → (y 0).val % 16 = k → y ∈ r.set := by
    intro k r ho hs ht hk
    rw [LoadRect.mem_set]
    intro a
    rw [ho, hs, ht]
    match a with
    | ⟨0, _⟩ => exact ⟨(y 0).val / 16, by show _ < 256; omega, by show (y 0).val = k + 16 * _; omega⟩
    | ⟨1, _⟩ => exact ⟨(y 1).val, h1, by show (y 1).val = 0 + 1 * _; omega⟩
  have hk : (y 0).val % 16 < 16 := Nat.mod_lt _ (by decide)
  obtain ⟨k, h⟩ : ∃ k : Fin 16, (y 0).val % 16 = 15 - k.val := ⟨⟨15 - (y 0).val % 16, by omega⟩, by show _ = 15 - (15 - _); omega⟩
  refine ⟨(pieces lo hi)[k.val]'k.isLt, List.getElem_mem _, ?_⟩
  match k with
  | ⟨0, _⟩ => exact mem 15 _ rfl rfl rfl h
  | ⟨1, _⟩ => exact mem 14 _ rfl rfl rfl h
  | ⟨2, _⟩ => exact mem 13 _ rfl rfl rfl h
  | ⟨3, _⟩ => exact mem 12 _ rfl rfl rfl h
  | ⟨4, _⟩ => exact mem 11 _ rfl rfl rfl h
  | ⟨5, _⟩ => exact mem 10 _ rfl rfl rfl h
  | ⟨6, _⟩ => exact mem 9 _ rfl rfl rfl h
  | ⟨7, _⟩ => exact mem 8 _ rfl rfl rfl h
  | ⟨8, _⟩ => exact mem 7 _ rfl rfl rfl h
  | ⟨9, _⟩ => exact mem 6 _ rfl rfl rfl h
  | ⟨10, _⟩ => exact mem 5 _ rfl rfl rfl h
  | ⟨11, _⟩ => exact mem 4 _ rfl rfl rfl h
  | ⟨12, _⟩ => exact mem 3 _ rfl rfl rfl h
  | ⟨13, _⟩ => exact mem 2 _ rfl rfl rfl h
  | ⟨14, _⟩ => exact mem 1 _ rfl rfl rfl h
  | ⟨15, _⟩ => exact mem 0 _ rfl rfl rfl h
  | ⟨n + 16, h⟩ => exact absurd h (by omega)

set_option maxHeartbeats 1000000 in
theorem runA_list (c : Dev nD) (i : grid0.Coords) (arg4 : Memref sig .tc .vmem S2048x128 .f32) (harg4 : arg4.IsWhole) (arg5 : Memref sig .tc .vmem S1x1x1024x512 .bf16) (harg5 : arg5.IsWhole) (arg6 : Memref sig .tc .vmem S1x1x1024x512 .bf16) (harg6 : arg6.IsWhole) (arg7 : Memref sig .tc .vmem S1x1x512x1024 .bf16) (harg7 : arg7.IsWhole) (arg8 : Memref sig .tc .vmem S1x1x1024x512 .bf16) (harg8 : arg8.IsWhole) (arg9 : Memref sig .tc .vmem S1x1x1024x512 .bf16) (harg9 : arg9.IsWhole) (arg10 : Memref sig .tc .vmem S1x1x512x1024 .bf16) (harg10 : arg10.IsWhole) (arg11 : Memref sig .tc .vmem S4096x128 .f32) (harg11 : arg11.IsWhole) (T0 T1 T2 : Vec F S240 .i32) (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) h1 h2 :
    (runA c i arg4 harg4 arg5 harg5 arg6 harg6 arg7 harg7 arg8 harg8 arg9 harg9 arg10 harg10 arg11 harg11 T0 T1 T2 x0 x1 x2 x3 x4 x5 x6 h1 h2).1 = pieces (yLo x0 x1 x2 x3) (yHi x0 x4 x5 x6) := by
  unfold runA runA.sl.r_6 runA.sl.r_5 runA.sl.r_4 runA.sl.r_3 runA.sl.r_2 runA.sl.r_1
  simp only [readAt_whole]
  rfl

/-- A tile with valid rows ends with its two results in the output block. -/
theorem readA (c : Dev nD) (i : grid0.Coords) (arg4 : Memref sig .tc .vmem S2048x128 .f32) (harg4 : arg4.IsWhole) (arg5 : Memref sig .tc .vmem S1x1x1024x512 .bf16) (harg5 : arg5.IsWhole) (arg6 : Memref sig .tc .vmem S1x1x1024x512 .bf16) (harg6 : arg6.IsWhole) (arg7 : Memref sig .tc .vmem S1x1x512x1024 .bf16) (harg7 : arg7.IsWhole) (arg8 : Memref sig .tc .vmem S1x1x1024x512 .bf16) (harg8 : arg8.IsWhole) (arg9 : Memref sig .tc .vmem S1x1x1024x512 .bf16) (harg9 : arg9.IsWhole) (arg10 : Memref sig .tc .vmem S1x1x512x1024 .bf16) (harg10 : arg10.IsWhole) (arg11 : Memref sig .tc .vmem S4096x128 .f32) (harg11 : arg11.IsWhole) (T0 T1 T2 : Vec F S240 .i32) (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) h1 h2 (v : View sig .tc .vmem S4096x128 .f32) (f : v.ty.Contents (Elt F)) :
    v.read (Elt F) (v.writes (Elt F) f (runA c i arg4 harg4 arg5 harg5 arg6 harg6 arg7 harg7 arg8 harg8 arg9 harg9 arg10 harg10 arg11 harg11 T0 T1 T2 x0 x1 x2 x3 x4 x5 x6 h1 h2).1) = tileOut (yLo x0 x1 x2 x3) (yHi x0 x4 x5 x6) := by
  rw [runA_list]
  exact funext fun y => View.read_writes_apply_of_pieces _ _ _ _ (pieces_eq _ _) y (pieces_cover _ _ y)

/-- A tile with none ends with zeros there. -/
theorem readB (c : Dev nD) (i : grid0.Coords) (arg4 : Memref sig .tc .vmem S2048x128 .f32) (harg4 : arg4.IsWhole) (arg5 : Memref sig .tc .vmem S1x1x1024x512 .bf16) (harg5 : arg5.IsWhole) (arg6 : Memref sig .tc .vmem S1x1x1024x512 .bf16) (harg6 : arg6.IsWhole) (arg7 : Memref sig .tc .vmem S1x1x512x1024 .bf16) (harg7 : arg7.IsWhole) (arg8 : Memref sig .tc .vmem S1x1x1024x512 .bf16) (harg8 : arg8.IsWhole) (arg9 : Memref sig .tc .vmem S1x1x1024x512 .bf16) (harg9 : arg9.IsWhole) (arg10 : Memref sig .tc .vmem S1x1x512x1024 .bf16) (harg10 : arg10.IsWhole) (arg11 : Memref sig .tc .vmem S4096x128 .f32) (harg11 : arg11.IsWhole) (T0 T1 T2 : Vec F S240 .i32) (x0 : Vec F S2048x128 .f32) (x1 : Vec F S1x1x1024x512 .bf16) (x2 : Vec F S1x1x1024x512 .bf16) (x3 : Vec F S1x1x512x1024 .bf16) (x4 : Vec F S1x1x1024x512 .bf16) (x5 : Vec F S1x1x1024x512 .bf16) (x6 : Vec F S1x1x512x1024 .bf16) h1 h2 (v : View sig .tc .vmem S4096x128 .f32) (f : v.ty.Contents (Elt F)) :
    v.read (Elt F) (v.writes (Elt F) f (runB c i arg4 harg4 arg5 harg5 arg6 harg6 arg7 harg7 arg8 harg8 arg9 harg9 arg10 harg10 arg11 harg11 T0 T1 T2 x0 x1 x2 x3 x4 x5 x6 h1 h2).1) = k0_pay9 := by
  refine funext fun y => View.read_writes_apply_of_pieces _ _ _ _ ?_ y (View.cover_of_tiledL _ S4096x128.size (by sl_kernel_rfl) y)
  intro p hp x
  rw [show (runB c i arg4 harg4 arg5 harg5 arg6 harg6 arg7 harg7 arg8 harg8 arg9 harg9 arg10 harg10 arg11 harg11 T0 T1 T2 x0 x1 x2 x3 x4 x5 x6 h1 h2).1 = [⟨Rect.unit (s := S4096x128) ![0, 0] S4096x128.size inb_S4096x128_S4096x128_0_0, k0_pay9⟩] from rfl, List.mem_singleton] at hp
  subst hp
  rfl

end Cert.ExpertsIdeal.Hand

end
-- ==== Proof.ExpertsIdealFrame.lean ====
/- The whole run of the expert kernel: every tile's call keeps its inputs and fills its output block (`BodyObligation`), so the pipeline ends with the
   arguments as they were and the result at what its blocks hold. The tables are those the arguments hold at the start; the two hypotheses on them are
   that each expert number is one of the 32 (`ok0`) and that each tile takes one of the body's two ways (`Decided`). -/
module

public import proofs.«01_k».proof.Proof.ExpertsIdealRun
public import Idealize.ShloMosaic.Lib.Pipeline.Frame
public import Idealize.ShloMosaic.Lib.Pipeline.FrameBody
public import Idealize.ShloMosaic.Lib.Writes
public import Idealize.ShloMosaic.Adequacy

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- Tile `i`'s word of a table. -/
abbrev wordOf (T : Vec F S240 .i32) (i : grid0.Coords) : BitVec 32 := T (fun | 0 => ⟨(i 0).val, (i 0).isLt⟩)

theorem word1_eq (i : grid0.Coords) (T : Vec F S240 .i32) : word1 i T = wordOf T i := by
  refine congrArg T (funext fun a => Fin.ext ?_)
  match a with | ⟨0, _⟩ => show k0_off1 i 0 + 1 * 0 = _; rw [k0_off1_eq]; rfl

theorem word2_eq (i : grid0.Coords) (T : Vec F S240 .i32) : word2 i T = wordOf T i := by
  refine congrArg T (funext fun a => Fin.ext ?_)
  match a with | ⟨0, _⟩ => show k0_off2 i 0 + 1 * 0 = _; rw [k0_off2_eq]; rfl

/-- Every tile takes exactly one of the body's two ways. -/
def Decided (T : Vec F S240 .i32) : Prop :=
  ∀ i : grid0.Coords, (k0_cond1 (wordOf T i) = 1#1 ∧ ¬ k0_cond2 (wordOf T i) = 1#1) ∨ (¬ k0_cond1 (wordOf T i) = 1#1 ∧ k0_cond2 (wordOf T i) = 1#1)

variable (pf : pre0.Contents (Elt F)) (hok : ok0 pf)

/-- The three tables. -/
abbrev tb0 : Vec F S240 .i32 := pf 0
abbrev tb1 : Vec F S240 .i32 := pf 1
abbrev tb2 : Vec F S240 .i32 := pf 2

/-- The pipeline at these tables. -/
def adm : (pcfg0 (F := F)).Adm := ⟨pf, hok⟩
abbrev cfgA : Pipeline.Cfg sig Λ₀ := cfg0 (F := F) (adm pf hok)
abbrev pcs : Fin 1 → Pipeline.Cfg sig Λ₀ := Pipeline.pin (pcfgs (F := F)) fun _ => adm pf hok
abbrev crd (t : Fin (cfgA pf hok).N) : (cfgA pf hok).grid.Coords := (cfgA pf hok).grid.coords t

abbrev ms0_0 (t : Fin (cfgA pf hok).N) : Memref sig .tc .vmem S2048x128 .f32 := spec0_0.stage ((cfgA pf hok).slots t (0 : Fin 8))
abbrev hs0_0 (t : Fin (cfgA pf hok).N) : (ms0_0 pf hok t).IsWhole := hstage0_0 (((cfgA pf hok).slots t (0 : Fin 8)).cast nbuf0_0)
abbrev ms0_1 (t : Fin (cfgA pf hok).N) : Memref sig .tc .vmem S1x1x1024x512 .bf16 := spec0_1.stage ((cfgA pf hok).slots t (1 : Fin 8))
abbrev hs0_1 (t : Fin (cfgA pf hok).N) : (ms0_1 pf hok t).IsWhole := hstage0_1 (((cfgA pf hok).slots t (1 : Fin 8)).cast nbuf0_1)
abbrev ms0_2 (t : Fin (cfgA pf hok).N) : Memref sig .tc .vmem S1x1x1024x512 .bf16 := spec0_2.stage ((cfgA pf hok).slots t (2 : Fin 8))
abbrev hs0_2 (t : Fin (cfgA pf hok).N) : (ms0_2 pf hok t).IsWhole := hstage0_2 (((cfgA pf hok).slots t (2 : Fin 8)).cast nbuf0_2)
abbrev ms0_3 (t : Fin (cfgA pf hok).N) : Memref sig .tc .vmem S1x1x512x1024 .bf16 := spec0_3.stage ((cfgA pf hok).slots t (3 : Fin 8))
abbrev hs0_3 (t : Fin (cfgA pf hok).N) : (ms0_3 pf hok t).IsWhole := hstage0_3 (((cfgA pf hok).slots t (3 : Fin 8)).cast nbuf0_3)
abbrev ms0_4 (t : Fin (cfgA pf hok).N) : Memref sig .tc .vmem S1x1x1024x512 .bf16 := spec0_4.stage ((cfgA pf hok).slots t (4 : Fin 8))
abbrev hs0_4 (t : Fin (cfgA pf hok).N) : (ms0_4 pf hok t).IsWhole := hstage0_4 (((cfgA pf hok).slots t (4 : Fin 8)).cast nbuf0_4)
abbrev ms0_5 (t : Fin (cfgA pf hok).N) : Memref sig .tc .vmem S1x1x1024x512 .bf16 := spec0_5.stage ((cfgA pf hok).slots t (5 : Fin 8))
abbrev hs0_5 (t : Fin (cfgA pf hok).N) : (ms0_5 pf hok t).IsWhole := hstage0_5 (((cfgA pf hok).slots t (5 : Fin 8)).cast nbuf0_5)
abbrev ms0_6 (t : Fin (cfgA pf hok).N) : Memref sig .tc .vmem S1x1x512x1024 .bf16 := spec0_6.stage ((cfgA pf hok).slots t (6 : Fin 8))
abbrev hs0_6 (t : Fin (cfgA pf hok).N) : (ms0_6 pf hok t).IsWhole := hstage0_6 (((cfgA pf hok).slots t (6 : Fin 8)).cast nbuf0_6)
abbrev ms0_7 (t : Fin (cfgA pf hok).N) : Memref sig .tc .vmem S4096x128 .f32 := spec0_7.stage ((cfgA pf hok).slots t (7 : Fin 8))
abbrev hs0_7 (t : Fin (cfgA pf hok).N) : (ms0_7 pf hok t).IsWhole := hstage0_7 (((cfgA pf hok).slots t (7 : Fin 8)).cast nbuf0_7)

variable (m : (ℓ : Loc nD τ sig) → Buf (Elt F) ℓ) (ρ : Dev nD → PrngReg)

/-- The launch contents of a buffer. -/
abbrev V (c : Dev nD) (b : Ref sig .tc) : Buf (Elt F) ((c.tc : Thread nD τ).loc b) := m ((c.tc : Thread nD τ).loc b)

/-- Window `w`'s block at tile `t`, read off its array at the start. -/
def iblk (c : Dev nD) (w : Fin (cfgA pf hok).W) (t : Fin (cfgA pf hok).N) : (((cfgA pf hok).win w).xblock (crd pf hok t)).Idx → Elt F ((cfgA pf hok).win w).elt :=
  (((cfgA pf hok).win w).blk t).view.read (Elt F) (m (((cfgA pf hok).win w).arr.view.loc (c : Thread nD τ)))

/-- The output block after tile `t`: its two results, or zeros where it has no valid rows. -/
def outAt (c : Dev nD) (t : Fin (cfgA pf hok).N) : Vec F S4096x128 .f32 :=
  if k0_cond1 (wordOf (tb2 pf) (crd pf hok t)) = 1#1 then
    tileOut (yLo (iblk pf hok m c (0 : Fin 8) t) (iblk pf hok m c (1 : Fin 8) t) (iblk pf hok m c (2 : Fin 8) t) (iblk pf hok m c (3 : Fin 8) t)) (yHi (iblk pf hok m c (0 : Fin 8) t) (iblk pf hok m c (4 : Fin 8) t) (iblk pf hok m c (5 : Fin 8) t) (iblk pf hok m c (6 : Fin 8) t))
  else k0_pay9

/-- The pipeline's data: the arrays at the start, each input window's block kept, the output's filled, the tables held throughout. -/
def dats (_ : Fin 1) (c : Dev nD) : Dat τ (Elt F) Unit ℕ (UR sig nD τ) ℕ (cfgA pf hok) c where
  A w := V m c (Pipeline.arrRef spec0 w)
  after w t := match w with
    | ⟨0, _⟩ => iblk pf hok m c (0 : Fin 8) t
    | ⟨1, _⟩ => iblk pf hok m c (1 : Fin 8) t
    | ⟨2, _⟩ => iblk pf hok m c (2 : Fin 8) t
    | ⟨3, _⟩ => iblk pf hok m c (3 : Fin 8) t
    | ⟨4, _⟩ => iblk pf hok m c (4 : Fin 8) t
    | ⟨5, _⟩ => iblk pf hok m c (5 : Fin 8) t
    | ⟨6, _⟩ => iblk pf hok m c (6 : Fin 8) t
    | ⟨7, _⟩ => outAt pf hok m c t
  Φ _ := iprop(Pipeline.ΦA spec0 c ∗ Pipeline.ΦT pre0 pf c)
  q w := Pipeline.shareOf spec0 w
  owed _ := 0

theorem after0_0 (c : Dev nD) (t : Fin (cfgA pf hok).N) : (dats pf hok m 0 c).after (0 : Fin 8) t = iblk pf hok m c (0 : Fin 8) t := rfl
theorem after0_1 (c : Dev nD) (t : Fin (cfgA pf hok).N) : (dats pf hok m 0 c).after (1 : Fin 8) t = iblk pf hok m c (1 : Fin 8) t := rfl
theorem after0_2 (c : Dev nD) (t : Fin (cfgA pf hok).N) : (dats pf hok m 0 c).after (2 : Fin 8) t = iblk pf hok m c (2 : Fin 8) t := rfl
theorem after0_3 (c : Dev nD) (t : Fin (cfgA pf hok).N) : (dats pf hok m 0 c).after (3 : Fin 8) t = iblk pf hok m c (3 : Fin 8) t := rfl
theorem after0_4 (c : Dev nD) (t : Fin (cfgA pf hok).N) : (dats pf hok m 0 c).after (4 : Fin 8) t = iblk pf hok m c (4 : Fin 8) t := rfl
theorem after0_5 (c : Dev nD) (t : Fin (cfgA pf hok).N) : (dats pf hok m 0 c).after (5 : Fin 8) t = iblk pf hok m c (5 : Fin 8) t := rfl
theorem after0_6 (c : Dev nD) (t : Fin (cfgA pf hok).N) : (dats pf hok m 0 c).after (6 : Fin 8) t = iblk pf hok m c (6 : Fin 8) t := rfl
theorem after0_7 (c : Dev nD) (t : Fin (cfgA pf hok).N) : (dats pf hok m 0 c).after (7 : Fin 8) t = outAt pf hok m c t := rfl

theorem before0_0 (c : Dev nD) (t : Fin (cfgA pf hok).N) (d) : (dats pf hok m 0 c).before (0 : Fin 8) t d = iblk pf hok m c (0 : Fin 8) t :=
  ((dats pf hok m 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA pf hok).N) (d) : (dats pf hok m 0 c).before (1 : Fin 8) t d = iblk pf hok m c (1 : Fin 8) t :=
  ((dats pf hok m 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA pf hok).N) (d) : (dats pf hok m 0 c).before (2 : Fin 8) t d = iblk pf hok m c (2 : Fin 8) t :=
  ((dats pf hok m 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA pf hok).N) (d) : (dats pf hok m 0 c).before (3 : Fin 8) t d = iblk pf hok m c (3 : Fin 8) t :=
  ((dats pf hok m 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA pf hok).N) (d) : (dats pf hok m 0 c).before (4 : Fin 8) t d = iblk pf hok m c (4 : Fin 8) t :=
  ((dats pf hok m 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA pf hok).N) (d) : (dats pf hok m 0 c).before (5 : Fin 8) t d = iblk pf hok m c (5 : Fin 8) t :=
  ((dats pf hok m 0 c).before_in_eq_fetched (5 : Fin 8) rfl (fun _ => rfl) (fun _ _ _ => rfl) (fun t => by rw [after0_5]; unfold Dat.blockOf iblk; rfl) t d).trans
    (by unfold Dat.fetched Dat.blockOf iblk; rfl)
theorem before0_6 (c : Dev nD) (t : Fin (cfgA pf hok).N) (d) : (dats pf hok m 0 c).before (6 : Fin 8) t d = iblk pf hok m c (6 : Fin 8) t :=
  ((dats pf hok m 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The body at tile `t`, on its current buffers. -/
abbrev bodyAt0 (t : Fin (cfgA pf hok).N) : Prog (TpuEff nD τ sig (Elt F) Λ₀ .tc) PUnit :=
  cc0__expert_kernel (crd pf hok t) (Memref.whole main_arg1) (Memref.isWhole_whole _) (Memref.whole main_arg2) (Memref.isWhole_whole _) (Memref.whole main_arg3) (Memref.isWhole_whole _) (ms0_0 pf hok t) (hs0_0 pf hok t) (ms0_1 pf hok t) (hs0_1 pf hok t) (ms0_2 pf hok t) (hs0_2 pf hok t) (ms0_3 pf hok t) (hs0_3 pf hok t) (ms0_4 pf hok t) (hs0_4 pf hok t) (ms0_5 pf hok t) (hs0_5 pf hok t) (ms0_6 pf hok t) (hs0_6 pf hok t) (ms0_7 pf hok t) (hs0_7 pf hok t)

/-- The tables' halves, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem atD_1 (i : grid0.Coords) : pf.atD 2 (k0_off1 i) = wordOf (tb2 pf) i := by
  unfold Pipeline.Prefetch.Contents.atD
  split
  · refine congrArg (tb2 pf) (funext fun a => Fin.ext ?_)
    match a with | ⟨0, _⟩ => show k0_off1 i 0 = _; rw [k0_off1_eq]; rfl
  · rename_i h
    refine absurd (fun a => ?_) h
    match a with | ⟨0, h0⟩ => exact k0_off1_inb i ⟨0, h0⟩

theorem atD_2 (i : grid0.Coords) : pf.atD 2 (k0_off2 i) = wordOf (tb2 pf) i := by
  unfold Pipeline.Prefetch.Contents.atD
  split
  · refine congrArg (tb2 pf) (funext fun a => Fin.ext ?_)
    match a with | ⟨0, _⟩ => show k0_off2 i 0 = _; rw [k0_off2_eq]; rfl
  · rename_i h
    refine absurd (fun a => ?_) h
    match a with | ⟨0, h0⟩ => exact k0_off2_inb i ⟨0, h0⟩

/-- The output is written at every tile. -/
theorem live7 (hd : Decided (tb2 pf)) (t : Fin (cfgA pf hok).N) : (cfgA pf hok).idle (7 : Fin 8) ((cfgA pf hok).grid.coords t) = false := by
  show (!(k0_cond1 (pf.atD 2 (k0_off1 (crd pf hok t))) == 1#1) && !(k0_cond2 (pf.atD 2 (k0_off2 (crd pf hok t))) == 1#1)) = false
  rw [atD_1, atD_2]
  rcases hd (crd pf hok t) with ⟨h, -⟩ | ⟨-, h⟩ <;> simp [h]

set_option maxHeartbeats 4000000 in
/-- The body at tile `t`: it keeps its inputs and the tables, and leaves the output block as said. -/
theorem sound_body (hd : Decided (tb2 pf)) (c : Dev nD) (t : Fin (cfgA pf hok).N) :
    iprop((dats pf hok m 0 c).Φ t.castSucc ∗ (dats pf hok m 0 c).owesAt () t.castSucc
        ∗ (∃ d, owns (c : Thread nD τ) (ms0_0 pf hok t) fullShare ((dats pf hok m 0 c).before (0 : Fin 8) t d))
        ∗ (∃ d, owns (c : Thread nD τ) (ms0_1 pf hok t) fullShare ((dats pf hok m 0 c).before (1 : Fin 8) t d))
        ∗ (∃ d, owns (c : Thread nD τ) (ms0_2 pf hok t) fullShare ((dats pf hok m 0 c).before (2 : Fin 8) t d))
        ∗ (∃ d, owns (c : Thread nD τ) (ms0_3 pf hok t) fullShare ((dats pf hok m 0 c).before (3 : Fin 8) t d))
        ∗ (∃ d, owns (c : Thread nD τ) (ms0_4 pf hok t) fullShare ((dats pf hok m 0 c).before (4 : Fin 8) t d))
        ∗ (∃ d, owns (c : Thread nD τ) (ms0_5 pf hok t) fullShare ((dats pf hok m 0 c).before (5 : Fin 8) t d))
        ∗ (∃ d, owns (c : Thread nD τ) (ms0_6 pf hok t) fullShare ((dats pf hok m 0 c).before (6 : Fin 8) t d))
        ∗ (∃ d, owns (c : Thread nD τ) (ms0_7 pf hok t) fullShare ((dats pf hok m 0 c).before (7 : Fin 8) t d)))
      ⊢ wp frame (wpE (defs₀ (F := F)) Variants.none c none) Set.univ (bodyAt0 pf hok t) fun _ =>
          iprop((dats pf hok m 0 c).Φ t.succ ∗ (dats pf hok m 0 c).owesAt () t.succ
            ∗ bigSep Finset.univ fun w : Fin (cfgA pf hok).W =>
                match (cfgA pf hok).idle w ((cfgA pf hok).grid.coords t) with
                | true =>
                  match ((cfgA pf hok).win w).flush t with
                  | false => iprop(∃ d, owns (c : Thread nD τ) (((cfgA pf hok).win w).stage ((cfgA pf hok).slots t w)) fullShare ((dats pf hok m 0 c).before w t d))
                  | true => owns (c : Thread nD τ) (((cfgA pf hok).win w).stage ((cfgA pf hok).slots t w)) fullShare ((dats pf hok m 0 c).after w t)
                | false => owns (c : Thread nD τ) (((cfgA pf hok).win w).stage ((cfgA pf hok).slots t w)) fullShare ((dats pf hok m 0 c).after w t)) := by
  rw [bigSep_W0]
  have i7 := live7 pf hok hd t
  rewrite [i7]
  simp only [before0_0, before0_1, before0_2, before0_3, before0_4, before0_5, before0_6, after0_0, after0_1, after0_2, after0_3, after0_4, after0_5, after0_6, after0_7]
  rewrite [show (dats pf hok m 0 c).Φ t.succ = iprop(Pipeline.ΦA spec0 c ∗ Pipeline.ΦT pre0 pf c) from rfl,
    show (dats pf hok m 0 c).Φ t.castSucc = iprop(Pipeline.ΦA spec0 c ∗ Pipeline.ΦT pre0 pf c) from rfl,
    show (dats pf hok m 0 c).owesAt () t.succ = (dats pf hok m 0 c).owesAt () t.castSucc from rfl]
  unfold Pipeline.ΦT
  rw [prefHeld_eq]
  rcases hd (crd pf hok t) with ⟨h1, h2⟩ | ⟨h1, h2⟩
  · have k0_h1 : k0_cond1 (word1 (crd pf hok t) (tb2 pf)) = 1#1 := by rwa [word1_eq]
    have k0_h2 : ¬ k0_cond2 (word2 (crd pf hok t) (tb2 pf)) = 1#1 := by rwa [word2_eq]
    rw [show outAt pf hok m c t = _ from if_pos h1]
    iintro ⟨⟨HΦ, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (crd pf hok t) (ms0_0 pf hok t) (hs0_0 pf hok t) (ms0_1 pf hok t) (hs0_1 pf hok t) (ms0_2 pf hok t) (hs0_2 pf hok t) (ms0_3 pf hok t) (hs0_3 pf hok t) (ms0_4 pf hok t) (hs0_4 pf hok t) (ms0_5 pf hok t) (hs0_5 pf hok t) (ms0_6 pf hok t) (hs0_6 pf hok t) (ms0_7 pf hok t) (hs0_7 pf hok t) (tb0 pf) (tb1 pf) (tb2 pf) (iblk pf hok m c (0 : Fin 8) t) (iblk pf hok m c (1 : Fin 8) t) (iblk pf hok m c (2 : Fin 8) t) (iblk pf hok m c (3 : Fin 8) t) (iblk pf hok m c (4 : Fin 8) t) (iblk pf hok m c (5 : Fin 8) t) (iblk pf hok m c (6 : Fin 8) t) k0_h1 k0_h2).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, ⟨%e7, H7⟩⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr; swap
    · iexact H7
    · ipureintro; exact readA c _ _ _ _ _ _ _ _ _ _ _ _ _ _ _ _ _ _ _ _ _ _ _ _ _ _ _ _ _ _ _
  · have k0_h1 : ¬ k0_cond1 (word1 (crd pf hok t) (tb2 pf)) = 1#1 := by rwa [word1_eq]
    have k0_h2 : k0_cond2 (word2 (crd pf hok t) (tb2 pf)) = 1#1 := by rwa [word2_eq]
    rw [show outAt pf hok m c t = _ from if_neg h1]
    iintro ⟨⟨HΦ, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (crd pf hok t) (ms0_0 pf hok t) (hs0_0 pf hok t) (ms0_1 pf hok t) (hs0_1 pf hok t) (ms0_2 pf hok t) (hs0_2 pf hok t) (ms0_3 pf hok t) (hs0_3 pf hok t) (ms0_4 pf hok t) (hs0_4 pf hok t) (ms0_5 pf hok t) (hs0_5 pf hok t) (ms0_6 pf hok t) (hs0_6 pf hok t) (ms0_7 pf hok t) (hs0_7 pf hok t) (tb0 pf) (tb1 pf) (tb2 pf) (iblk pf hok m c (0 : Fin 8) t) (iblk pf hok m c (1 : Fin 8) t) (iblk pf hok m c (2 : Fin 8) t) (iblk pf hok m c (3 : Fin 8) t) (iblk pf hok m c (4 : Fin 8) t) (iblk pf hok m c (5 : Fin 8) t) (iblk pf hok m c (6 : Fin 8) t) k0_h1 k0_h2).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, ⟨%e7, H7⟩⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr; swap
    · iexact H7
    · ipureintro; exact readB c _ _ _ _ _ _ _ _ _ _ _ _ _ _ _ _ _ _ _ _ _ _ _ _ _ _ _ _ _ _ _

theorem defs₀_row (t : Fin (cfgA pf hok).N) :
    defs₀ (F := F) .tc (cfgA pf hok).body ((cfgA pf hok).bodyArgs t ((cfgA pf hok).slots t)) = bodyAt0 pf hok t := by
  unfold defs₀; rw [Defs.onTc_tc]

theorem body_obligation (hd : Decided (tb2 pf)) (c : Dev nD) : BodyObligation (dats pf hok m 0 c) (defs₀ (F := F)) Variants.none () Set.univ := fun t => by
  rw [bigSep_W0, defs₀_row]
  exact sound_body pf hok m hd c t

/-- The launch memory's tables are these. -/
def Tables : Prop := ∀ (c : Dev nD) (k : Fin 3), V m c (pre0.ref k) = pf k

set_option backward.isDefEq.respectTransparency.types false in
/-- The run: the arrays end at what their blocks hold, everything else as it was, every counter at zero. -/
theorem run_main (hd : Decided (tb2 pf)) (ht : Tables pf m) :
    θ_run defs (onTc (τ := τ) (main (F := F))) (s₀ m ρ) (fun r => (Pipeline.FramePost (pcs pf hok) (dats pf hok m) 0 (V m)) r ∧ r.2.sem = fun _ => 0) :=
  Pipeline.θ_run_frameP_shared (Q' := _) (pcfgs (F := F)) (fun _ => adm pf hok) (dats pf hok m) (0 : Fin 1) launch₀0 defs₀ Variants.none m ρ main
    (hbody := fun c => (body_obligation pf hok m hd c).loose) (hq := fun _ _ _ => rfl)
    (howed := fun _ _ => rfl) (V := V m) (hmain := Pipeline.hmainP_region (pcs := pcfgs (F := F)) (p := (0 : Fin 1)) (defs₀ := defs₀) (𝒱₀ := Variants.none) m main (fun _ => rfl))
    (hA := fun _ _ => rfl) (hpf := ht) (hΦ := fun _ _ => rfl)

end Cert.ExpertsIdeal.Hand

end
-- ==== Proof.ExpertsIdealPost.lean ====
/- The run of the expert kernel under its precondition: the tables' facts, the run to the final arrays, and the frame. -/
module

public import proofs.«01_k».proof.Proof.ExpertsIdealFrame
public import proofs.«01_k».proof.Proof.ExpertsPre
public import Idealize.ShloMosaic.Lib.Affine

@[expose] public section

set_option maxRecDepth 16384

noncomputable section

namespace Cert.ExpertsIdeal.Hand

open Cert.ExpertsIdeal Cert.ExpertsIdeal.Gen
open Idealize.ShloMosaic Idealize.ShloMosaic.TcCoe Idealize.SL.Sem
open Idealize.ShloMosaic.Pipeline (Dat Cfg Window)

variable {F : FTy → Type} [FloatOps F]

section Tables
variable (pf : pre0.Contents (Elt F))

theorem transform_1 (i : grid0.Coords) : cc0_transform_1 k0_off1_inb numel1_S1 pf i = ![0, (wordOf (tb0 pf) i).toNat, 0, 0] := by
  rw [← word1_eq]
  rfl
theorem inb_1 (h : ∀ j, (tb0 pf j).toNat < 32) (i : grid0.Coords) : ∀ a, (cc0_transform_1 k0_off1_inb numel1_S1 pf i a + 1) * S1x1x1024x512.size a ≤ S2x32x1024x512.size a := by
  rw [transform_1]
  have h' : (wordOf (tb0 pf) i).toNat < 32 := h _
  generalize (wordOf (tb0 pf) i).toNat = e at h'
  intro a
  match a with
  | ⟨0, _⟩ => show (0 + 1) * 1 ≤ 2; omega
  | ⟨1, _⟩ => show (e + 1) * 1 ≤ 32; omega
  | ⟨2, _⟩ => show (0 + 1) * 1024 ≤ 1024; omega
  | ⟨3, _⟩ => show (0 + 1) * 512 ≤ 512; omega

theorem transform_2 (i : grid0.Coords) : cc0_transform_2 k0_off1_inb numel1_S1 pf i = ![0, (wordOf (tb0 pf) i).toNat, 0, 0] := by
  rw [← word1_eq]
  rfl
theorem inb_2 (h : ∀ j, (tb0 pf j).toNat < 32) (i : grid0.Coords) : ∀ a, (cc0_transform_2 k0_off1_inb numel1_S1 pf i a + 1) * S1x1x1024x512.size a ≤ S2x32x1024x512.size a := by
  rw [transform_2]
  have h' : (wordOf (tb0 pf) i).toNat < 32 := h _
  generalize (wordOf (tb0 pf) i).toNat = e at h'
  intro a
  match a with
  | ⟨0, _⟩ => show (0 + 1) * 1 ≤ 2; omega
  | ⟨1, _⟩ => show (e + 1) * 1 ≤ 32; omega
  | ⟨2, _⟩ => show (0 + 1) * 1024 ≤ 1024; omega
  | ⟨3, _⟩ => show (0 + 1) * 512 ≤ 512; omega

theorem transform_3 (i : grid0.Coords) : cc0_transform_3 k0_off1_inb numel1_S1 pf i = ![0, (wordOf (tb0 pf) i).toNat, 0, 0] := by
  rw [← word1_eq]
  rfl
theorem inb_3 (h : ∀ j, (tb0 pf j).toNat < 32) (i : grid0.Coords) : ∀ a, (cc0_transform_3 k0_off1_inb numel1_S1 pf i a + 1) * S1x1x512x1024.size a ≤ S2x32x512x1024.size a := by
  rw [transform_3]
  have h' : (wordOf (tb0 pf) i).toNat < 32 := h _
  generalize (wordOf (tb0 pf) i).toNat = e at h'
  intro a
  match a with
  | ⟨0, _⟩ => show (0 + 1) * 1 ≤ 2; omega
  | ⟨1, _⟩ => show (e + 1) * 1 ≤ 32; omega
  | ⟨2, _⟩ => show (0 + 1) * 512 ≤ 512; omega
  | ⟨3, _⟩ => show (0 + 1) * 1024 ≤ 1024; omega

theorem transform_4 (i : grid0.Coords) : cc0_transform_4 k0_off1_inb numel1_S1 pf i = ![0, (wordOf (tb1 pf) i).toNat, 0, 0] := by
  rw [← word1_eq]
  rfl
theorem inb_4 (h : ∀ j, (tb1 pf j).toNat < 32) (i : grid0.Coords) : ∀ a, (cc0_transform_4 k0_off1_inb numel1_S1 pf i a + 1) * S1x1x1024x512.size a ≤ S2x32x1024x512.size a := by
  rw [transform_4]
  have h' : (wordOf (tb1 pf) i).toNat < 32 := h _
  generalize (wordOf (tb1 pf) i).toNat = e at h'
  intro a
  match a with
  | ⟨0, _⟩ => show (0 + 1) * 1 ≤ 2; omega
  | ⟨1, _⟩ => show (e + 1) * 1 ≤ 32; omega
  | ⟨2, _⟩ => show (0 + 1) * 1024 ≤ 1024; omega
  | ⟨3, _⟩ => show (0 + 1) * 512 ≤ 512; omega

theorem transform_5 (i : grid0.Coords) : cc0_transform_5 k0_off1_inb numel1_S1 pf i = ![0, (wordOf (tb1 pf) i).toNat, 0, 0] := by
  rw [← word1_eq]
  rfl
theorem inb_5 (h : ∀ j, (tb1 pf j).toNat < 32) (i : grid0.Coords) : ∀ a, (cc0_transform_5 k0_off1_inb numel1_S1 pf i a + 1) * S1x1x1024x512.size a ≤ S2x32x1024x512.size a := by
  rw [transform_5]
  have h' : (wordOf (tb1 pf) i).toNat < 32 := h _
  generalize (wordOf (tb1 pf) i).toNat = e at h'
  intro a
  match a with
  | ⟨0, _⟩ => show (0 + 1) * 1 ≤ 2; omega
  | ⟨1, _⟩ => show (e + 1) * 1 ≤ 32; omega
  | ⟨2, _⟩ => show (0 + 1) * 1024 ≤ 1024; omega
  | ⟨3, _⟩ => show (0 + 1) * 512 ≤ 512; omega

theorem transform_6 (i : grid0.Coords) : cc0_transform_6 k0_off1_inb numel1_S1 pf i = ![0, (wordOf (tb1 pf) i).toNat, 0, 0] := by
  rw [← word1_eq]
  rfl
theorem inb_6 (h : ∀ j, (tb1 pf j).toNat < 32) (i : grid0.Coords) : ∀ a, (cc0_transform_6 k0_off1_inb numel1_S1 pf i a + 1) * S1x1x512x1024.size a ≤ S2x32x512x1024.size a := by
  rw [transform_6]
  have h' : (wordOf (tb1 pf) i).toNat < 32 := h _
  generalize (wordOf (tb1 pf) i).toNat = e at h'
  intro a
  match a with
  | ⟨0, _⟩ => show (0 + 1) * 1 ≤ 2; omega
  | ⟨1, _⟩ => show (e + 1) * 1 ≤ 32; omega
  | ⟨2, _⟩ => show (0 + 1) * 512 ≤ 512; omega
  | ⟨3, _⟩ => show (0 + 1) * 1024 ≤ 1024; omega

/-- Every expert number is one of the 32, so every block of weights is inside its array. -/
theorem ok0_of (h0 : ∀ j, (tb0 pf j).toNat < 32) (h1 : ∀ j, (tb1 pf j).toNat < 32) : ok0 pf :=
  ⟨fun i => ⟨inb_1 pf h0 i, .inr (Affine.block_words_dvd (s := S2x32x1024x512) (p := EltTy.packing .bf16) (by decide) (by decide))⟩,
    fun i => ⟨inb_2 pf h0 i, .inr (Affine.block_words_dvd (s := S2x32x1024x512) (p := EltTy.packing .bf16) (by decide) (by decide))⟩,
    fun i => ⟨inb_3 pf h0 i, .inr (Affine.block_words_dvd (s := S2x32x512x1024) (p := EltTy.packing .bf16) (by decide) (by decide))⟩,
    fun i => ⟨inb_4 pf h1 i, .inr (Affine.block_words_dvd (s := S2x32x1024x512) (p := EltTy.packing .bf16) (by decide) (by decide))⟩,
    fun i => ⟨inb_5 pf h1 i, .inr (Affine.block_words_dvd (s := S2x32x1024x512) (p := EltTy.packing .bf16) (by decide) (by decide))⟩,
    fun i => ⟨inb_6 pf h1 i, .inr (Affine.block_words_dvd (s := S2x32x512x1024) (p := EltTy.packing .bf16) (by decide) (by decide))⟩⟩

theorem cond1_iff (v : BitVec 32) : k0_cond1 v = 1#1 ↔ 0 < v.toInt := by
  have e : k0_cond1 v = Scalar.cmpi .ne (Scalar.extui (BitVec.ofBool ((0#32).slt v)) : BitVec 32) 0#32 := rfl
  rw [e, BitVec.slt_eq_decide, show (0#32).toInt = 0 from by decide]
  by_cases h : 0 < v.toInt
  · simp only [h, decide_true, iff_true]; decide
  · simp only [h, decide_false, iff_false]; decide

theorem cond2_iff (v : BitVec 32) : k0_cond2 v = 1#1 ↔ v = 0#32 := by
  have e : k0_cond2 v = Scalar.cmpi .ne (Scalar.extui (BitVec.ofBool (decide (v = 0#32))) : BitVec 32) 0#32 := rfl
  rw [e]
  by_cases h : v = 0#32
  · simp only [h, decide_true, iff_true]; decide
  · simp only [h, decide_false, iff_false]; decide

/-- No row count is negative, so a tile has valid rows or none. -/
theorem decided_of (h : ∀ j, 0 ≤ (tb2 pf j).toInt) : Decided (tb2 pf) := fun i => by
  have h0 := h (fun | 0 => ⟨(i 0).val, (i 0).isLt⟩)
  rw [cond1_iff, cond2_iff]
  by_cases hp : 0 < (wordOf (tb2 pf) i).toInt
  · exact .inl ⟨hp, fun e => by rw [e] at hp; exact absurd hp (by decide)⟩
  · exact .inr ⟨hp, BitVec.toInt_inj.1 (by have : (0#32).toInt = 0 := by decide
                                           rw [this]; exact le_antisymm (not_lt.1 hp) h0)⟩

end Tables

variable (m : (ℓ : Loc nD τ sig) → Buf (Elt F) ℓ) (ρ : Dev nD → PrngReg)

/-- The tables the launch memory holds. -/
def pfOf : pre0.Contents (Elt F) := fun k => m (((0 : Dev nD).tc : Thread nD τ).loc (pre0.ref k))

/-- The launch memory satisfies the precondition. -/
def Pre : Prop := ∀ c : Dev nD,
  Cert.Pre_experts_in_range.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1

theorem inRange (h : Pre m) : Cert.ExpertsPre.InRange (tb0 (pfOf m)) (tb1 (pfOf m)) (tb2 (pfOf m)) := Cert.ExpertsPre.inRange _ _ _ _ _ _ _ (h 0)

theorem ok_of (h : Pre m) : ok0 (pfOf m) := ok0_of _ (inRange m h).lo_lt (inRange m h).hi_lt

theorem tables : Tables (pfOf m) m := fun c k => by
  rw [Subsingleton.elim c 0]
  rfl

/-- The run under the precondition. -/
theorem run_pre (h : Pre m) :
    θ_run defs (onTc (τ := τ) (main (F := F))) ⟨m, fun _ => 0, ρ⟩ (fun r => (Pipeline.FramePost (pcs (pfOf m) (ok_of m h)) (dats (pfOf m) (ok_of m h) m) 0 (V m)) r
      ∧ r.2.sem = fun _ => 0) :=
  run_main (pfOf m) (ok_of m h) m ρ (decided_of _ (inRange m h).nv_nonneg) (tables m)

/-- The arguments are as they were. -/
theorem kept (h : Pre m) (r : PUnit × MemSt nD τ sig (Elt F))
    (hr : Pipeline.FramePost (pcs (pfOf m) (ok_of m h)) (dats (pfOf m) (ok_of m h) m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((hr c).1 (0 : Fin 8)).trans ((dats (pfOf m) (ok_of m h) m 0 c).arrAt_in (0 : Fin 8) rfl _),
    (hr c).2 main_arg1 (show main_arg1 ∈ Pipeline.restRefs sig spec0 from Pipeline.mem_restRefs_of main_arg1 (by decide) (by decide)),
    (hr c).2 main_arg2 (show main_arg2 ∈ Pipeline.restRefs sig spec0 from Pipeline.mem_restRefs_of main_arg2 (by decide) (by decide)),
    (hr c).2 main_arg3 (show main_arg3 ∈ Pipeline.restRefs sig spec0 from Pipeline.mem_restRefs_of main_arg3 (by decide) (by decide)),
    ((hr c).1 (1 : Fin 8)).trans ((dats (pfOf m) (ok_of m h) m 0 c).arrAt_in (1 : Fin 8) rfl _),
    ((hr c).1 (2 : Fin 8)).trans ((dats (pfOf m) (ok_of m h) m 0 c).arrAt_in (2 : Fin 8) rfl _),
    ((hr c).1 (3 : Fin 8)).trans ((dats (pfOf m) (ok_of m h) m 0 c).arrAt_in (3 : Fin 8) rfl _)⟩

/-- The frame: the program runs, its arguments end as they were, every counter at zero. -/
theorem frame (h : Pre m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r hr => ⟨fun c => kept m h r hr.1 c, hr.2⟩) (run_pre m ρ h)

end Cert.ExpertsIdeal.Hand

end
-- ==== Proof.ExpertsSpec.lean ====
/- The experts on numbers: the SwiGLU feed-forward of one expert on one row, and the choice of an expert by a one-hot sum. -/
module

public import Idealize.ShloMosaic.PureOps
public import Idealize.ShloMosaic.Lib.Pointwise

@[expose] public section

noncomputable section

namespace Cert.Swiglu

open Idealize.ShloMosaic

/-- The gated product of two features. -/
def glu (g u : EReal) : EReal := g * Ideal.logistic g * u

/-- One expert's result at one place: the row against the gate and up weights, the gated products against the down weights. -/
def expert (x : Fin 1024 → EReal) (g u : Fin 1024 → Fin 512 → EReal) (d : Fin 512 → Fin 1024 → EReal) (n : Fin 1024) : EReal :=
  ∑ f : Fin 512, glu (∑ k : Fin 1024, x k * g k f) (∑ k : Fin 1024, x k * u k f) * d f n

/-- A sum over the experts weighted by a one-hot choice is the chosen expert's term. -/
theorem one_hot {n : Nat} (w y : Fin n → EReal) (e : Fin n) (h1 : w e = 1) (h0 : ∀ j, j ≠ e → w j = 0) : ∑ j, w j * y j = y e := by
  rw [Finset.sum_eq_single e (fun j _ hj => by rw [h0 j hj, zero_mul]) (fun h => absurd (Finset.mem_univ e) h), h1, one_mul]

/-- Weighted by nothing it is zero. -/
theorem none_hot {n : Nat} (w y : Fin n → EReal) (h0 : ∀ j, w j = 0) : ∑ j, w j * y j = 0 :=
  Finset.sum_eq_zero fun j _ => by rw [h0 j, zero_mul]

end Cert.Swiglu

end
-- ==== Proof.ExpertsTile.lean ====
/- One tile of the expert kernel on numbers: its two results are the two experts' feed-forwards of the tile's rows. -/
module

public import proofs.«01_k».proof.Proof.ExpertsSpec
public import proofs.«01_k».proof.Proof.ExpertsIdealRun

@[expose] public section

set_option maxRecDepth 16384

noncomputable section

namespace Cert.ExpertsTile

open Idealize.ShloMosaic Cert.ExpertsIdeal Cert.ExpertsIdeal.Gen Cert.ExpertsIdeal.Hand

/-- A strided read of the features takes every eighth row. -/
theorem rows_apply (x : Vec Ideal S2048x128 .f32) (k : ℕ) (h) (r : Fin 256) (l : Fin 128) (hk : k < 8) :
    rows x k h (ix2 r l) = x (ix2 ⟨r.val * 8 + k, by omega⟩ l) := by
  unfold rows
  refine congrArg x (funext fun a => Fin.ext ?_)
  match a with
  | ⟨0, _⟩ => show k + 8 * r.val = r.val * 8 + k; omega
  | ⟨1, _⟩ => show 0 + 1 * l.val = l.val; omega

theorem wgt_apply (w : Vec Ideal S1x1x1024x512 .bf16) (k : Fin 1024) (f : Fin 512) : wgt w (ix4 0 0 k f) = w (ix4 0 0 k f) := by
  unfold wgt
  refine congrArg w (funext fun a => Fin.ext ?_)
  match a with
  | ⟨0, _⟩ => rfl
  | ⟨1, _⟩ => rfl
  | ⟨2, _⟩ => show 0 + 1 * k.val = k.val; omega
  | ⟨3, _⟩ => show 0 + 1 * f.val = f.val; omega

theorem wgtD_apply (w : Vec Ideal S1x1x512x1024 .bf16) (f : Fin 512) (n : Fin 1024) : wgtD w (ix4 0 0 f n) = w (ix4 0 0 f n) := by
  unfold wgtD
  refine congrArg w (funext fun a => Fin.ext ?_)
  match a with
  | ⟨0, _⟩ => rfl
  | ⟨1, _⟩ => rfl
  | ⟨2, _⟩ => show 0 + 1 * f.val = f.val; omega
  | ⟨3, _⟩ => show 0 + 1 * n.val = n.val; omega

/-- The row of features of a slot: its eight rows of lanes side by side. -/
def feat (x : Vec Ideal S2048x128 .f32) (r : Fin 256) (k : Fin 1024) : EReal := x (ix2 ⟨r.val * 8 + k.val / 128, by omega⟩ ⟨k.val % 128, by omega⟩)

/-- The slots' features, gathered. -/
abbrev gathered (x : Vec Ideal S2048x128 .f32) : FVec Ideal S256x1024 .bf16 :=
  k0_pay10 (rows x 0 inb_S2048x128_S256x128_0_0_s_8_1) (rows x 1 inb_S2048x128_S256x128_1_0_s_8_1) (rows x 2 inb_S2048x128_S256x128_2_0_s_8_1) (rows x 3 inb_S2048x128_S256x128_3_0_s_8_1)
    (rows x 4 inb_S2048x128_S256x128_4_0_s_8_1) (rows x 5 inb_S2048x128_S256x128_5_0_s_8_1) (rows x 6 inb_S2048x128_S256x128_6_0_s_8_1) (rows x 7 inb_S2048x128_S256x128_7_0_s_8_1)

theorem gathered_apply (x : Vec Ideal S2048x128 .f32) (r : Fin 256) (k : Fin 1024) : gathered x (ix2 r k) = feat x r k := by
  have key : ∀ (j : ℕ) (hj : j < 8) (h) (l : Fin 128), k.val = j * 128 + l.val → rows x j h (ix2 r l) = feat x r k := by
    intro j hj h l e
    rw [rows_apply x j h r l hj]
    unfold feat
    refine congrArg₂ (fun a b => x (ix2 a b)) (Fin.ext ?_) (Fin.ext ?_)
    · show r.val * 8 + j = r.val * 8 + k.val / 128; omega
    · show l.val = k.val % 128; omega
  unfold gathered
  pointwise [k0_pay10]
  split
  · exact key 0 (by omega) _ _ (by simp)
  split
  · exact key 1 (by omega) _ _ (by simp only; omega)
  split
  · exact key 2 (by omega) _ _ (by simp only; omega)
  split
  · exact key 3 (by omega) _ _ (by simp only; omega)
  split
  · exact key 4 (by omega) _ _ (by simp only; omega)
  split
  · exact key 5 (by omega) _ _ (by simp only; omega)
  split
  · exact key 6 (by omega) _ _ (by simp only; omega)
  · exact key 7 (by omega) _ _ (by simp only; omega)

/-- A feature against one weight matrix. -/
theorem pay11_apply (v0 v1 v2 v3 v4 v5 v6 v7 : Vec Ideal S256x128 .f32) (w : Vec Ideal S1x1x1024x512 .bf16) (r : Fin 256) (f : Fin 512) :
    k0_pay11 v0 v1 v2 v3 v4 v5 v6 v7 w (ix2 r f) = ∑ k : Fin 1024, k0_pay10 v0 v1 v2 v3 v4 v5 v6 v7 (ix2 r k) * w (ix4 0 0 k f) := by
  unfold k0_pay11
  generalize k0_pay10 v0 v1 v2 v3 v4 v5 v6 v7 = z
  pointwise
theorem pay12_apply (v0 v1 v2 v3 v4 v5 v6 v7 : Vec Ideal S256x128 .f32) (w : Vec Ideal S1x1x1024x512 .bf16) (r : Fin 256) (f : Fin 512) :
    k0_pay12 v0 v1 v2 v3 v4 v5 v6 v7 w (ix2 r f) = ∑ k : Fin 1024, k0_pay10 v0 v1 v2 v3 v4 v5 v6 v7 (ix2 r k) * w (ix4 0 0 k f) := pay11_apply v0 v1 v2 v3 v4 v5 v6 v7 w r f
theorem pay13_apply (v0 v1 v2 v3 v4 v5 v6 v7 : Vec Ideal S256x128 .f32) (w : Vec Ideal S1x1x1024x512 .bf16) (r : Fin 256) (f : Fin 512) :
    k0_pay13 v0 v1 v2 v3 v4 v5 v6 v7 w (ix2 r f) = ∑ k : Fin 1024, k0_pay10 v0 v1 v2 v3 v4 v5 v6 v7 (ix2 r k) * w (ix4 0 0 k f) := pay11_apply v0 v1 v2 v3 v4 v5 v6 v7 w r f

/-- The gated feature of the first expert. -/
theorem pay14_apply (v0 v1 v2 v3 v4 v5 v6 v7 : Vec Ideal S256x128 .f32) (w : Vec Ideal S1x1x1024x512 .bf16) (r : Fin 256) (f : Fin 512) :
    k0_pay14 v0 v1 v2 v3 v4 v5 v6 v7 w (ix2 r f) = (∑ k : Fin 1024, k0_pay10 v0 v1 v2 v3 v4 v5 v6 v7 (ix2 r k) * w (ix4 0 0 k f))
      * Ideal.logistic (∑ k : Fin 1024, k0_pay10 v0 v1 v2 v3 v4 v5 v6 v7 (ix2 r k) * w (ix4 0 0 k f)) := by
  unfold k0_pay14
  generalize k0_pay10 v0 v1 v2 v3 v4 v5 v6 v7 = z
  pointwise

theorem pay15_apply (a b : FVec Ideal S256x512 .f32) (w : Vec Ideal S1x1x512x1024 .bf16) (r : Fin 256) (n : Fin 1024) :
    k0_pay15 a b w (ix2 r n) = ∑ f : Fin 512, b (ix2 r f) * a (ix2 r f) * w (ix4 0 0 f n) := by
  pointwise [k0_pay15]

theorem pay16_apply (a b : FVec Ideal S256x512 .f32) (w : Vec Ideal S1x1x512x1024 .bf16) (r : Fin 256) (n : Fin 1024) :
    k0_pay16 a b w (ix2 r n) = ∑ f : Fin 512, Swiglu.glu (a (ix2 r f)) (b (ix2 r f)) * w (ix4 0 0 f n) := by
  unfold Swiglu.glu
  pointwise [k0_pay16]

/-- The first expert's result. -/
theorem yLo_apply (x : Vec Ideal S2048x128 .f32) (g u : Vec Ideal S1x1x1024x512 .bf16) (d : Vec Ideal S1x1x512x1024 .bf16) (r : Fin 256) (n : Fin 1024) :
    yLo x g u d (ix2 r n) = Swiglu.expert (feat x r) (fun k f => g (ix4 0 0 k f)) (fun k f => u (ix4 0 0 k f)) (fun f n => d (ix4 0 0 f n)) n := by
  unfold yLo Swiglu.expert Swiglu.glu
  rw [pay15_apply]
  refine Finset.sum_congr rfl fun f _ => ?_
  rw [pay14_apply, pay12_apply, wgtD_apply]
  simp only [gathered_apply, wgt_apply]

/-- The second expert's result. -/
theorem yHi_apply (x : Vec Ideal S2048x128 .f32) (g u : Vec Ideal S1x1x1024x512 .bf16) (d : Vec Ideal S1x1x512x1024 .bf16) (r : Fin 256) (n : Fin 1024) :
    yHi x g u d (ix2 r n) = Swiglu.expert (feat x r) (fun k f => g (ix4 0 0 k f)) (fun k f => u (ix4 0 0 k f)) (fun f n => d (ix4 0 0 f n)) n := by
  unfold yHi Swiglu.expert
  rw [pay16_apply]
  refine Finset.sum_congr rfl fun f _ => ?_
  rw [pay11_apply, pay13_apply, wgtD_apply]
  simp only [gathered_apply, wgt_apply]

theorem pay9_apply (j : S4096x128.Idx) : (k0_pay9 : FVec Ideal S4096x128 .f32) j = 0 := by
  pointwise [k0_pay9]

/-- A block of two results, at a row and a lane. -/
theorem tileOut_apply (lo hi : FVec Ideal S256x1024 .f32) (r : Fin 4096) (l : Fin 128) :
    tileOut lo hi (ix2 r l) = if r.val % 16 < 8 then lo (ix2 ⟨r.val / 16, by omega⟩ ⟨r.val % 8 * 128 + l.val, by omega⟩) else hi (ix2 ⟨r.val / 16, by omega⟩ ⟨r.val % 8 * 128 + l.val, by omega⟩) := by
  unfold tileOut
  by_cases h : r.val % 16 < 8
  · rw [if_pos h]
    refine (dif_pos (show ((ix2 r l : S4096x128.Idx) 0).val % 16 < 8 from h)).trans (congrArg lo (funext fun a => Fin.ext ?_))
    match a with
    | ⟨0, _⟩ => rfl
    | ⟨1, _⟩ => show r.val % 16 * 128 + l.val = r.val % 8 * 128 + l.val; omega
  · rw [if_neg h]
    refine (dif_neg (show ¬ ((ix2 r l : S4096x128.Idx) 0).val % 16 < 8 from h)).trans (congrArg hi (funext fun a => Fin.ext ?_))
    match a with
    | ⟨0, _⟩ => rfl
    | ⟨1, _⟩ => show (r.val % 16 - 8) * 128 + l.val = r.val % 8 * 128 + l.val; omega

end Cert.ExpertsTile

end
-- ==== Proof.ExpertsReads.lean ====
/- Where each block of the expert call lies in its array. -/
module

public import proofs.«01_k».proof.Proof.ExpertsIdealPost
public import proofs.«01_k».proof.Proof.ExpertsTile
public import Idealize.ShloMosaic.Lib.Pipeline.ValueKit

@[expose] public section

set_option maxRecDepth 16384

noncomputable section

namespace Cert.ExpertsReads

open Idealize.ShloMosaic Idealize.ShloMosaic.TcCoe Cert.ExpertsIdeal Cert.ExpertsIdeal.Gen Cert.ExpertsIdeal.Hand

variable {F : FTy → Type} [FloatOps F]

/-- The maps of a tile's rows, and the points that write their block back. -/
theorem row_maps : ∀ t : Fin grid0.N, cc0_transform_0 (grid0.coords t) = ![t.val, 0] ∧ cc0_transform_7 (grid0.coords t) = ![t.val, 0] ∧ (grid0.coords t 0).val = t.val
    ∧ Pipeline.Window.flushOf grid0 true cc0_transform_7 t = true := by
  decide +kernel

variable (pf : pre0.Contents (Elt F)) (hok : ok0 pf)

theorem flush7 (t : Fin (cfgA pf hok).N) : ((cfgA pf hok).win (7 : Fin 8)).flush t = true := (row_maps t).2.2.2

theorem index0 (t : Fin (cfgA pf hok).N) : ((cfgA pf hok).win (0 : Fin 8)).index t = ![t.val, 0] := (row_maps t).1
theorem index7 (t : Fin (cfgA pf hok).N) : ((cfgA pf hok).win (7 : Fin 8)).index t = ![t.val, 0] := (row_maps t).2.1
theorem index1 (t : Fin (cfgA pf hok).N) : ((cfgA pf hok).win (1 : Fin 8)).index t = ![0, (wordOf (tb0 pf) (crd pf hok t)).toNat, 0, 0] := transform_1 pf (crd pf hok t)
theorem index2 (t : Fin (cfgA pf hok).N) : ((cfgA pf hok).win (2 : Fin 8)).index t = ![0, (wordOf (tb0 pf) (crd pf hok t)).toNat, 0, 0] := transform_2 pf (crd pf hok t)
theorem index3 (t : Fin (cfgA pf hok).N) : ((cfgA pf hok).win (3 : Fin 8)).index t = ![0, (wordOf (tb0 pf) (crd pf hok t)).toNat, 0, 0] := transform_3 pf (crd pf hok t)
theorem index4 (t : Fin (cfgA pf hok).N) : ((cfgA pf hok).win (4 : Fin 8)).index t = ![0, (wordOf (tb1 pf) (crd pf hok t)).toNat, 0, 0] := transform_4 pf (crd pf hok t)
theorem index5 (t : Fin (cfgA pf hok).N) : ((cfgA pf hok).win (5 : Fin 8)).index t = ![0, (wordOf (tb1 pf) (crd pf hok t)).toNat, 0, 0] := transform_5 pf (crd pf hok t)
theorem index6 (t : Fin (cfgA pf hok).N) : ((cfgA pf hok).win (6 : Fin 8)).index t = ![0, (wordOf (tb1 pf) (crd pf hok t)).toNat, 0, 0] := transform_6 pf (crd pf hok t)

theorem lt240 (t : Fin (cfgA pf hok).N) : t.val < 240 := t.isLt

/-- The rows of a tile. -/
theorem rows_block (A : S491520x128.Idx → Elt F .f32) (t : Fin (cfgA pf hok).N) (r : Fin 2048) (l : Fin 128) :
    (((cfgA pf hok).win (0 : Fin 8)).blk t).view.read (Elt F) A (ix2 r l) = A (ix2 ⟨t.val * 2048 + r.val, by have := lt240 pf hok t; omega⟩ l) := by
  blk_ext [index0 pf hok t]

/-- The element of the result array at row `r`, lane `l` of a tile. -/
theorem place (t : Fin (cfgA pf hok).N) (r : Fin 4096) (l : Fin 128) :
    (((cfgA pf hok).win (7 : Fin 8)).blk t).view.emb (ix2 r l) = ix2 ⟨t.val * 4096 + r.val, by have := lt240 pf hok t; omega⟩ l := by
  blk_ext [index7 pf hok t]

/-! The weights of a tile's experts. -/

theorem gateLo_block (A : S2x32x1024x512.Idx → Elt F .bf16) (t : Fin (cfgA pf hok).N) (e : Fin 32) (he : (wordOf (tb0 pf) (crd pf hok t)).toNat = e.val) (k : Fin 1024) (f : Fin 512) :
    (((cfgA pf hok).win (1 : Fin 8)).blk t).view.read (Elt F) A (ix4 0 0 k f) = A (ix4 0 e k f) := by
  have h := index1 pf hok t
  rw [he] at h
  blk_ext [h]

theorem upLo_block (A : S2x32x1024x512.Idx → Elt F .bf16) (t : Fin (cfgA pf hok).N) (e : Fin 32) (he : (wordOf (tb0 pf) (crd pf hok t)).toNat = e.val) (k : Fin 1024) (f : Fin 512) :
    (((cfgA pf hok).win (2 : Fin 8)).blk t).view.read (Elt F) A (ix4 0 0 k f) = A (ix4 0 e k f) := by
  have h := index2 pf hok t
  rw [he] at h
  blk_ext [h]

theorem downLo_block (A : S2x32x512x1024.Idx → Elt F .bf16) (t : Fin (cfgA pf hok).N) (e : Fin 32) (he : (wordOf (tb0 pf) (crd pf hok t)).toNat = e.val) (k : Fin 512) (f : Fin 1024) :
    (((cfgA pf hok).win (3 : Fin 8)).blk t).view.read (Elt F) A (ix4 0 0 k f) = A (ix4 0 e k f) := by
  have h := index3 pf hok t
  rw [he] at h
  blk_ext [h]

theorem gateHi_block (A : S2x32x1024x512.Idx → Elt F .bf16) (t : Fin (cfgA pf hok).N) (e : Fin 32) (he : (wordOf (tb1 pf) (crd pf hok t)).toNat = e.val) (k : Fin 1024) (f : Fin 512) :
    (((cfgA pf hok).win (4 : Fin 8)).blk t).view.read (Elt F) A (ix4 0 0 k f) = A (ix4 0 e k f) := by
  have h := index4 pf hok t
  rw [he] at h
  blk_ext [h]

theorem upHi_block (A : S2x32x1024x512.Idx → Elt F .bf16) (t : Fin (cfgA pf hok).N) (e : Fin 32) (he : (wordOf (tb1 pf) (crd pf hok t)).toNat = e.val) (k : Fin 1024) (f : Fin 512) :
    (((cfgA pf hok).win (5 : Fin 8)).blk t).view.read (Elt F) A (ix4 0 0 k f) = A (ix4 0 e k f) := by
  have h := index5 pf hok t
  rw [he] at h
  blk_ext [h]

theorem downHi_block (A : S2x32x512x1024.Idx → Elt F .bf16) (t : Fin (cfgA pf hok).N) (e : Fin 32) (he : (wordOf (tb1 pf) (crd pf hok t)).toNat = e.val) (k : Fin 512) (f : Fin 1024) :
    (((cfgA pf hok).win (6 : Fin 8)).blk t).view.read (Elt F) A (ix4 0 0 k f) = A (ix4 0 e k f) := by
  have h := index6 pf hok t
  rw [he] at h
  blk_ext [h]

/-- The grid point of a number. -/
def point (n : ℕ) (h : n < 240) : Fin (cfgA pf hok).N := ⟨n, h⟩

/-- An element at a place of a block is under it. -/
theorem covers (t : Fin (cfgA pf hok).N) (i : S983040x128.Idx) (r : Fin 4096) (l : Fin 128) (e : (((cfgA pf hok).win (7 : Fin 8)).blk t).view.emb (ix2 r l) = i) :
    i ∈ (((cfgA pf hok).win (7 : Fin 8)).blk t).view.set := e ▸ View.emb_mem_set _ _

/-- The blocks cover the result array. -/
theorem covered (i : S983040x128.Idx) : ∃ t : Fin (cfgA pf hok).N, ((cfgA pf hok).win (7 : Fin 8)).flush t = true ∧ i ∈ (((cfgA pf hok).win (7 : Fin 8)).blk t).view.set := by
  have h0 : (i 0).val < 983040 := (i 0).isLt
  have h1 : (i 1).val < 128 := (i 1).isLt
  refine ⟨point pf hok ((i 0).val / 4096) (by omega), flush7 pf hok _, ?_⟩
  refine covers pf hok _ i (⟨(i 0).val % 4096, by omega⟩ : Fin 4096) (⟨(i 1).val, h1⟩ : Fin 128) ?_
  refine (place pf hok _ _ _).trans (funext fun a => Fin.ext ?_)
  match a with
  | ⟨0, _⟩ => show (i 0).val / 4096 * 4096 + (i 0).val % 4096 = (i 0).val; omega
  | ⟨1, _⟩ => rfl

/-- A block is written back whole. -/
theorem cut_whole (t : Fin (cfgA pf hok).N) (x : S4096x128.Idx → Elt F .f32) : ((cfgA pf hok).win (7 : Fin 8)).cut (crd pf hok t) x = x := by
  funext y
  blk_simp

end Cert.ExpertsReads

end
-- ==== Proof.ExpertsRef.lean ====
/- The experts' reference: its composed term cut into stages, each read at an index; the last is the chosen expert's feed-forward. -/
module

public import proofs.«01_k».proof.Proof.ExpertsSpec
public import proofs.«01_k».proof.Proof.Gen.ExpertsRefIdeal.Run
public import Idealize.ShloMosaic.Lib.Pointwise

@[expose] public section

set_option maxRecDepth 16384

noncomputable section

namespace Cert.ExpertsRef

open Idealize.ShloMosaic Idealize.ShloMosaic.TcCoe Cert.ExpertsRefIdeal Cert.ExpertsRefIdeal.Gen

section Stages

variable {F : FTy → Type} [FloatOps F]

/-- The rows against every expert's gate or up weights. -/
def against (x : FVec F S491520x128 .f32) (w : FVec F S2x32x1024x512 .bf16) : FVec F S32x61440x512 .f32 :=
  transpose S32x61440x512 [0, 2, 1] (Host.dotGeneral dot_S32x1024x512_S61440x1024_S32x512x61440_1_1_02_0_n_n none (shapeCast _ (extractStridedSlice S1x32x1024x512 ![0, 0, 0, 0] (extf .f32 w bitsLt_bf16_f32) slices_S2x32x1024x512_S1x32x1024x512_0_0_0_0) shapeCasts_S1x32x1024x512_S32x1024x512) (shapeCast _ x shapeCasts_S491520x128_S61440x1024)) transposes_S32x512x61440_S32x61440x512_0_2_1

/-- The gated products. -/
def gate (g u : FVec F S32x61440x512 .f32) : FVec F S32x61440x512 .f32 :=
  mulf (mulf g (Host.divf (broadcastInDim S32x61440x512 ![] bcast_S_S32x61440x512 (constant S_ .f32 0x3F800000#32)) (addf (broadcastInDim S32x61440x512 ![] bcast_S_S32x61440x512 (constant S_ .f32 0x3F800000#32)) (Host.exp (Host.negf g))))) u

/-- Every expert's result of every row. -/
def every (h : FVec F S32x61440x512 .f32) (d : FVec F S2x32x512x1024 .bf16) : FVec F S32x61440x1024 .f32 :=
  Host.dotGeneral dot_S32x61440x512_S32x512x1024_S32x61440x1024_2_1_1_2_0_0 none h (shapeCast _ (extractStridedSlice S1x32x512x1024 ![0, 0, 0, 0] (extf .f32 d bitsLt_bf16_f32) slices_S2x32x512x1024_S1x32x512x1024_0_0_0_0) shapeCasts_S1x32x512x1024_S32x512x1024)

/-- The expert number where the tile has valid rows, minus one elsewhere. -/
def marked (nv e : IVec S240 32) : IVec S240 32 :=
  select (cmpi .sgt nv (broadcastInDim S240 ![] bcast_S_S240 (constantI S_ 32 0#32))) e (broadcastInDim S240 ![] bcast_S_S240 (id (constantI S_ 32 4294967295#32)))

/-- Its one-hot row, for each row of the tile. -/
def hot (k : IVec S240 32) : FVec F S61440x32 .f32 :=
  shapeCast _ (broadcastInDim S240x256x32 ![0, 2] bcast_S240x32_S240x256x32_0_2 (uitofp .f32 (cmpi .eq (broadcastInDim S240x32 ![0, 1] bcast_S240x1_S240x32_0_1 (broadcastInDim S240x1 ![0] bcast_S240_S240x1_0 k)) (broadcastInDim S240x32 ![0, 1] bcast_S1x32_S240x32_0_1 (iotaInDim S1x32 32 1))))) shapeCasts_S240x256x32_S61440x32

/-- The choice. -/
def choose (w : FVec F S61440x32 .f32) (y : FVec F S32x61440x1024 .f32) : FVec F S61440x1x1024 .f32 :=
  broadcastInDim S61440x1x1024 ![0, 2] bcast_S61440x1024_S61440x1x1024_0_2 (Host.dotGeneral dot_S61440x32_S32x61440x1024_S61440x1024_1_0_n_2_0_1 none w y)

/-- The two choices, side by side. -/
def paired (a b : FVec F S61440x1x1024 .f32) : FVec F S983040x128 .f32 :=
  shapeCast _ (concatenate S61440x2x1024 1 [⟨S61440x1x1024, a⟩, ⟨S61440x1x1024, b⟩] concatenates_S61440x1x1024_S61440x1x1024_S61440x2x1024_d1) shapeCasts_S61440x2x1024_S983040x128

/-- The reference, stage by stage. -/
def composed (x : FVec F S491520x128 .f32) (lo hi nv : IVec S240 32) (g u : FVec F S2x32x1024x512 .bf16) (d : FVec F S2x32x512x1024 .bf16) : FVec F S983040x128 .f32 :=
  paired (choose (hot (marked nv lo)) (every (gate (against x g) (against x u)) d)) (choose (hot (marked nv hi)) (every (gate (against x g) (against x u)) d))

theorem composed_eq (m : (ℓ : Loc nD τ sig) → Buf (Elt F) ℓ) (c : Dev nD) :
    Cert.ExpertsRefIdeal.Value.res_main_v34 m c = composed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Stages

/-- The features of a slot: its eight rows of lanes side by side. -/
def feat (x : FVec Ideal S491520x128 .f32) (n : Fin 61440) (k : Fin 1024) : EReal := x (ix2 ⟨n.val * 8 + k.val / 128, by omega⟩ ⟨k.val % 128, by omega⟩)

theorem against_apply (x : FVec Ideal S491520x128 .f32) (w : FVec Ideal S2x32x1024x512 .bf16) (e : Fin 32) (n : Fin 61440) (f : Fin 512) :
    against x w (ix3 e n f) = ∑ k : Fin 1024, feat x n k * w (ix4 0 e k f) := by
  pointwise [against]
  exact Finset.sum_congr rfl fun k _ => mul_comm _ _

theorem gate_apply (g u : FVec Ideal S32x61440x512 .f32) (e : Fin 32) (n : Fin 61440) (f : Fin 512) :
    gate g u (ix3 e n f) = Swiglu.glu (g (ix3 e n f)) (u (ix3 e n f)) := by
  unfold Swiglu.glu Ideal.logistic
  pointwise [gate]

theorem every_apply (h : FVec Ideal S32x61440x512 .f32) (d : FVec Ideal S2x32x512x1024 .bf16) (e : Fin 32) (n : Fin 61440) (k : Fin 1024) :
    every h d (ix3 e n k) = ∑ f : Fin 512, h (ix3 e n f) * d (ix4 0 e f k) := by
  pointwise [every]

/-- A bit as a number. -/
theorem bit_one : FloatOps.uitofp (F := Ideal) .f32 1#1 = (1 : EReal) := by
  show (((1#1).toNat : ℝ) : EReal) = 1
  simp
theorem bit_zero : FloatOps.uitofp (F := Ideal) .f32 0#1 = (0 : EReal) := by
  show (((0#1).toNat : ℝ) : EReal) = 0
  simp

theorem hot_apply (k : IVec S240 32) (n : Fin 61440) (e : Fin 32) :
    (hot k : FVec Ideal S61440x32 .f32) (ix2 n e) = if k (ix1 ⟨n.val / 256, by omega⟩) = BitVec.ofNat 32 e.val then 1 else 0 := by
  pointwise [hot]
  by_cases h : k (ix1 ⟨n.val / 256, by omega⟩) = BitVec.ofNat 32 e.val
  · rw [if_pos h, show IntOp.cmpi .eq (k (ix1 ⟨n.val / 256, by omega⟩)) (BitVec.ofNat 32 e.val) = 1#1 from by rw [h]; simp [IntOp.cmpi]]
    exact bit_one
  · rw [if_neg h, show IntOp.cmpi .eq (k (ix1 ⟨n.val / 256, by omega⟩)) (BitVec.ofNat 32 e.val) = 0#1 from by simp only [IntOp.cmpi, beq_eq_false_iff_ne.2 h]; rfl]
    exact bit_zero

theorem choose_apply (w : FVec Ideal S61440x32 .f32) (y : FVec Ideal S32x61440x1024 .f32) (n : Fin 61440) (k : Fin 1024) :
    choose w y (ix3 n 0 k) = ∑ e : Fin 32, w (ix2 n e) * y (ix3 e n k) := by
  pointwise [choose]

theorem paired_apply (a b : FVec Ideal S61440x1x1024 .f32) (r : Fin 983040) (l : Fin 128) :
    paired a b (ix2 r l) = if r.val % 16 < 8 then a (ix3 ⟨r.val / 16, by omega⟩ 0 ⟨r.val % 8 * 128 + l.val, by omega⟩) else b (ix3 ⟨r.val / 16, by omega⟩ 0 ⟨r.val % 8 * 128 + l.val, by omega⟩) := by
  pointwise [paired]
  by_cases h : r.val % 16 < 8
  · rw [if_pos h, dif_pos (show r.val / 8 % 2 < 1 by omega)]
    exact congrArg (fun z => a (ix3 _ z _)) (Subsingleton.elim _ _)
  · rw [if_neg h, dif_neg (show ¬ r.val / 8 % 2 < 1 by omega)]
    exact congrArg (fun z => b (ix3 _ z _)) (Subsingleton.elim _ _)

theorem marked_apply (nv e : IVec S240 32) (t : Fin 240) : marked nv e (ix1 t) = if 0 < (nv (ix1 t)).toInt then e (ix1 t) else 4294967295#32 := by
  pointwise [marked]
  by_cases h : 0 < (nv (ix1 t)).toInt
  · rw [if_pos h, show IntOp.cmpi .sgt (nv (ix1 t)) 0#32 = 1#1 from by simp [IntOp.cmpi, BitVec.slt_eq_decide, h]]
    rfl
  · rw [if_neg h, show IntOp.cmpi .sgt (nv (ix1 t)) 0#32 = 0#1 from by simp [IntOp.cmpi, BitVec.slt_eq_decide, h]]
    rfl

/-- One expert on one slot's row. -/
def expertAt (x : FVec Ideal S491520x128 .f32) (g u : FVec Ideal S2x32x1024x512 .bf16) (d : FVec Ideal S2x32x512x1024 .bf16) (e : Fin 32) (n : Fin 61440) : Fin 1024 → EReal :=
  Swiglu.expert (feat x n) (fun k f => g (ix4 0 e k f)) (fun k f => u (ix4 0 e k f)) (fun f k => d (ix4 0 e f k))

theorem every_expert (x : FVec Ideal S491520x128 .f32) (g u : FVec Ideal S2x32x1024x512 .bf16) (d : FVec Ideal S2x32x512x1024 .bf16) (e : Fin 32) (n : Fin 61440) (k : Fin 1024) :
    every (gate (against x g) (against x u)) d (ix3 e n k) = expertAt x g u d e n k := by
  unfold expertAt Swiglu.expert
  rw [every_apply]
  refine Finset.sum_congr rfl fun f _ => ?_
  rw [gate_apply, against_apply, against_apply]

/-- The chosen expert's result of a slot, or zero where the tile has no valid rows. -/
theorem choose_expert (x : FVec Ideal S491520x128 .f32) (nv e : IVec S240 32) (g u : FVec Ideal S2x32x1024x512 .bf16) (d : FVec Ideal S2x32x512x1024 .bf16) (n : Fin 61440) (k : Fin 1024)
    (he : (e (ix1 ⟨n.val / 256, by omega⟩)).toNat < 32) :
    choose (hot (marked nv e)) (every (gate (against x g) (against x u)) d) (ix3 n 0 k)
      = if 0 < (nv (ix1 ⟨n.val / 256, by omega⟩)).toInt then expertAt x g u d ⟨(e (ix1 ⟨n.val / 256, by omega⟩)).toNat, he⟩ n k else 0 := by
  rw [choose_apply]
  simp only [every_expert, hot_apply, marked_apply]
  split
  · refine Swiglu.one_hot _ (fun j => expertAt x g u d j n k) _ (if_pos ?_) fun j hj => if_neg fun h => hj (Fin.ext ?_)
    · exact BitVec.eq_of_toNat_eq (by rw [BitVec.toNat_ofNat]; exact (Nat.mod_eq_of_lt (by omega)).symm)
    · have h' := congrArg BitVec.toNat h
      rw [BitVec.toNat_ofNat] at h'
      show j.val = (e (ix1 ⟨n.val / 256, by omega⟩)).toNat
      omega
  · refine Swiglu.none_hot _ _ fun j => if_neg fun h => ?_
    have h' := congrArg BitVec.toNat h
    rw [BitVec.toNat_ofNat, BitVec.toNat_ofNat] at h'
    omega

/-- The expert of a row of the result: of its tile's two, the first for the slot's first eight rows, the second for the others. -/
def expertOf (lo hi : IVec S240 32) (r : Fin 983040) : Fin 32 :=
  ⟨(if r.val % 16 < 8 then lo (ix1 ⟨r.val / 4096, by omega⟩) else hi (ix1 ⟨r.val / 4096, by omega⟩)).toNat % 32, by omega⟩

/-- The experts' feed-forward as an array. -/
def result (x : FVec Ideal S491520x128 .f32) (lo hi nv : IVec S240 32) (g u : FVec Ideal S2x32x1024x512 .bf16) (d : FVec Ideal S2x32x512x1024 .bf16) (r : Fin 983040) (l : Fin 128) : EReal :=
  if 0 < (nv (ix1 ⟨r.val / 4096, by omega⟩)).toInt then expertAt x g u d (expertOf lo hi r) ⟨r.val / 16, by omega⟩ ⟨r.val % 8 * 128 + l.val, by omega⟩ else 0

theorem composed_apply (x : FVec Ideal S491520x128 .f32) (lo hi nv : IVec S240 32) (g u : FVec Ideal S2x32x1024x512 .bf16) (d : FVec Ideal S2x32x512x1024 .bf16)
    (hlo : ∀ j, (lo j).toNat < 32) (hhi : ∀ j, (hi j).toNat < 32) (r : Fin 983040) (l : Fin 128) :
    composed x lo hi nv g u d (ix2 r l) = result x lo hi nv g u d r l := by
  have ht : (⟨r.val / 16 / 256, by omega⟩ : Fin 240) = ⟨r.val / 4096, by omega⟩ := Fin.ext (by show r.val / 16 / 256 = r.val / 4096; omega)
  unfold composed result expertOf
  rw [paired_apply]
  by_cases h : r.val % 16 < 8
  · simp only [if_pos h]
    rw [choose_expert _ _ _ _ _ _ _ _ (hlo _)]
    simp only [ht, Nat.mod_eq_of_lt (hlo _)]
  · simp only [if_neg h]
    rw [choose_expert _ _ _ _ _ _ _ _ (hhi _)]
    simp only [ht, Nat.mod_eq_of_lt (hhi _)]

end Cert.ExpertsRef

end
-- ==== Proof.ExpertsValue.lean ====
/- The expert kernel's result array after the run is the experts' feed-forward of its arguments. -/
module

public import proofs.«01_k».proof.Proof.ExpertsReads
public import proofs.«01_k».proof.Proof.ExpertsRef

@[expose] public section

set_option maxRecDepth 16384

noncomputable section

namespace Cert.ExpertsValue

open Idealize.ShloMosaic Idealize.ShloMosaic.TcCoe Cert.ExpertsIdeal Cert.ExpertsIdeal.Gen Cert.ExpertsIdeal.Hand Cert.ExpertsReads

variable (m : (ℓ : Loc nD τ sig) → Buf (Elt Ideal) ℓ)

/-- The experts' feed-forward of the launch's arguments. -/
def result (c : Dev nD) : FVec Ideal S983040x128 .f32 := fun j =>
  ExpertsRef.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (j 0) (j 1)

variable (h : Pre m)

/-- A tile's word of a table is the table's entry of that number. -/
theorem word_apply (T : Vec Ideal S240 .i32) (t : Fin (cfgA (pfOf m) (ok_of m h)).N) : wordOf T (crd (pfOf m) (ok_of m h) t) = T (ix1 ⟨t.val, lt240 _ _ t⟩) := by
  refine congrArg T (funext fun a => Fin.ext ?_)
  match a with | ⟨0, _⟩ => exact (row_maps t).2.2.1

/-- A tile's features are the array's. -/
theorem feat_eq (c : Dev nD) (t : Fin (cfgA (pfOf m) (ok_of m h)).N) (r : Fin 256) (n : Fin 61440) (hn : n.val = t.val * 256 + r.val) :
    ExpertsTile.feat (iblk (pfOf m) (ok_of m h) m c (0 : Fin 8) t) r = ExpertsRef.feat (m ((c.tc : Thread nD τ).loc main_arg0)) n := by
  funext k
  unfold ExpertsTile.feat ExpertsRef.feat
  refine (rows_block (pfOf m) (ok_of m h) _ t _ _).trans ?_
  refine congrArg (fun z => m ((c.tc : Thread nD τ).loc main_arg0) (ix2 z _)) (Fin.ext ?_)
  show t.val * 2048 + (r.val * 8 + k.val / 128) = n.val * 8 + k.val / 128
  omega

/-- The first expert's result of a tile. -/
theorem lo_eq (c : Dev nD) (t : Fin (cfgA (pfOf m) (ok_of m h)).N) (e : Fin 32) (he : (wordOf (tb0 (pfOf m)) (crd (pfOf m) (ok_of m h) t)).toNat = e.val) (r : Fin 256) (n : Fin 61440) (hn : n.val = t.val * 256 + r.val) (k : Fin 1024) :
    yLo (iblk (pfOf m) (ok_of m h) m c (0 : Fin 8) t) (iblk (pfOf m) (ok_of m h) m c (1 : Fin 8) t) (iblk (pfOf m) (ok_of m h) m c (2 : Fin 8) t) (iblk (pfOf m) (ok_of m h) m c (3 : Fin 8) t) (ix2 r k)
      = ExpertsRef.expertAt (m ((c.tc : Thread nD τ).loc main_arg0)) (m ((c.tc : Thread nD τ).loc main_arg4)) (m ((c.tc : Thread nD τ).loc main_arg5)) (m ((c.tc : Thread nD τ).loc main_arg6)) e n k := by
  refine (ExpertsTile.yLo_apply _ _ _ _ r k).trans ?_
  unfold ExpertsRef.expertAt
  rw [feat_eq m h c t r n hn]
  refine congr (congr (congr (congrArg _ ?_) ?_) ?_) rfl
  · exact funext fun k => funext fun f => gateLo_block _ _ _ t e he k f
  · exact funext fun k => funext fun f => upLo_block _ _ _ t e he k f
  · exact funext fun f => funext fun k => downLo_block _ _ _ t e he f k

/-- The second expert's result of a tile. -/
theorem hi_eq (c : Dev nD) (t : Fin (cfgA (pfOf m) (ok_of m h)).N) (e : Fin 32) (he : (wordOf (tb1 (pfOf m)) (crd (pfOf m) (ok_of m h) t)).toNat = e.val) (r : Fin 256) (n : Fin 61440) (hn : n.val = t.val * 256 + r.val) (k : Fin 1024) :
    yHi (iblk (pfOf m) (ok_of m h) m c (0 : Fin 8) t) (iblk (pfOf m) (ok_of m h) m c (4 : Fin 8) t) (iblk (pfOf m) (ok_of m h) m c (5 : Fin 8) t) (iblk (pfOf m) (ok_of m h) m c (6 : Fin 8) t) (ix2 r k)
      = ExpertsRef.expertAt (m ((c.tc : Thread nD τ).loc main_arg0)) (m ((c.tc : Thread nD τ).loc main_arg4)) (m ((c.tc : Thread nD τ).loc main_arg5)) (m ((c.tc : Thread nD τ).loc main_arg6)) e n k := by
  refine (ExpertsTile.yHi_apply _ _ _ _ r k).trans ?_
  unfold ExpertsRef.expertAt
  rw [feat_eq m h c t r n hn]
  refine congr (congr (congr (congrArg _ ?_) ?_) ?_) rfl
  · exact funext fun k => funext fun f => gateHi_block _ _ _ t e he k f
  · exact funext fun k => funext fun f => upHi_block _ _ _ t e he k f
  · exact funext fun f => funext fun k => downHi_block _ _ _ t e he f k

/-- What a tile leaves in its output block is the result array at the place of the element. -/
theorem out_apply (c : Dev nD) (t : Fin (cfgA (pfOf m) (ok_of m h)).N) (r : Fin 4096) (l : Fin 128) :
    outAt (pfOf m) (ok_of m h) m c t (ix2 r l) = result m c (ix2 ⟨t.val * 4096 + r.val, by have := lt240 _ _ t; omega⟩ l) := by
  have ht := lt240 _ _ t
  have hc : c = 0 := Subsingleton.elim _ _
  have e0 : (⟨(t.val * 4096 + r.val) / 4096, by omega⟩ : Fin 240) = ⟨t.val, ht⟩ := Fin.ext (by show (t.val * 4096 + r.val) / 4096 = t.val; omega)
  unfold outAt result
  show _ = ExpertsRef.result _ _ _ _ _ _ _ (⟨t.val * 4096 + r.val, by omega⟩ : Fin 983040) l
  unfold ExpertsRef.result ExpertsRef.expertOf
  simp only [e0]
  have w0 := word_apply m h (tb0 (pfOf m)) t
  have w1 := word_apply m h (tb1 (pfOf m)) t
  have w2 := word_apply m h (tb2 (pfOf m)) t
  have r0 := (inRange m h).lo_lt (ix1 ⟨t.val, ht⟩)
  have r1 := (inRange m h).hi_lt (ix1 ⟨t.val, ht⟩)
  subst hc
  by_cases hv : k0_cond1 (wordOf (tb2 (pfOf m)) (crd (pfOf m) (ok_of m h) t)) = 1#1
  · rw [if_pos hv, if_pos (by rw [cond1_iff, w2] at hv; exact hv)]
    refine (ExpertsTile.tileOut_apply _ _ r l).trans ?_
    have e1 : (⟨(t.val * 4096 + r.val) % 8 * 128 + l.val, by omega⟩ : Fin 1024) = ⟨r.val % 8 * 128 + l.val, by omega⟩ := Fin.ext (by show (t.val * 4096 + r.val) % 8 * 128 + l.val = r.val % 8 * 128 + l.val; omega)
    have em : (t.val * 4096 + r.val) % 16 = r.val % 16 := by omega
    simp only [e1, em]
    by_cases hr : r.val % 16 < 8
    · simp only [if_pos hr]
      refine lo_eq m h 0 t _ ?_ _ _ ?_ _
      · rw [w0]; exact (Nat.mod_eq_of_lt r0).symm
      · show (t.val * 4096 + r.val) / 16 = t.val * 256 + r.val / 16; omega
    · simp only [if_neg hr]
      refine hi_eq m h 0 t _ ?_ _ _ ?_ _
      · rw [w1]; exact (Nat.mod_eq_of_lt r1).symm
      · show (t.val * 4096 + r.val) / 16 = t.val * 256 + r.val / 16; omega
  · rw [if_neg hv, if_neg (by rw [cond1_iff, w2] at hv; exact hv)]
    exact ExpertsTile.pay9_apply _

/-- The result array. -/
theorem array (c : Dev nD) : (dats (pfOf m) (ok_of m h) m 0 c).arrAt (7 : Fin 8) (cfgA (pfOf m) (ok_of m h)).N = result m c := by
  refine (dats (pfOf m) (ok_of m h) m 0 c).arrAt_eq_of_cover (7 : Fin 8) _ (fun t _ => ?_) (covered _ _)
  show ((cfgA (pfOf m) (ok_of m h)).win (7 : Fin 8)).cut (crd (pfOf m) (ok_of m h) t) (outAt (pfOf m) (ok_of m h) m c t) = _
  rw [cut_whole]
  funext y
  obtain ⟨r, l, rfl⟩ : ∃ (r : Fin 4096) (l : Fin 128), y = ix2 r l := ⟨y 0, y 1, by
    funext a
    match a with
    | ⟨0, _⟩ => rfl
    | ⟨1, _⟩ => rfl⟩
  refine (out_apply m h c t r l).trans ?_
  show _ = result m c ((((cfgA (pfOf m) (ok_of m h)).win (7 : Fin 8)).blk t).view.emb (ix2 r l))
  rw [place]

end Cert.ExpertsValue

end
-- ==== Proof.OutABValue.lean ====
/- The projection out of mixers A and B: the kernel's result array, and the reference's, are the residual stream plus the product. -/
module

public import proofs.«01_k».proof.Proof.Gen.OutABIdeal.Value
public import proofs.«01_k».proof.Proof.Gen.OutABRefIdeal.Run
public import Idealize.ShloMosaic.Lib.Pipeline.ValueKit
public import Idealize.ShloMosaic.Lib.StableHlo.Run

@[expose] public section

set_option maxRecDepth 16384

noncomputable section

namespace Cert.OutABValue

open Idealize.ShloMosaic Idealize.ShloMosaic.TcCoe Cert.OutABIdeal Cert.OutABIdeal.Gen

/-- The residual stream plus the product of the two mixers' rows with the two halves of the weights. -/
def result (h : FVec Ideal S32768x1024 .f32) (ya yb : FVec Ideal S32768x512 .bf16) (w : FVec Ideal S1024x1024 .f32) (r : Fin 32768) (l : Fin 1024) : EReal :=
  h (ix2 r l) + ((∑ k : Fin 512, ya (ix2 r k) * w (ix2 ⟨k.val, by omega⟩ l)) + ∑ k : Fin 512, yb (ix2 r k) * w (ix2 ⟨512 + k.val, by omega⟩ l))

/-! ## The kernel -/

/-- One block of the body. -/
theorem block_apply (x0 : Vec Ideal S512x1024 .f32) (x1 x2 : Vec Ideal S512x512 .bf16) (x3 x4 : Vec Ideal S512x1024 .bf16) (r : Fin 512) (l : Fin 1024) :
    out0_5 x0 x1 x2 x3 x4 (ix2 r l) = x0 (ix2 r l) + ((∑ k : Fin 512, x1 (ix2 r k) * x3 (ix2 k l)) + ∑ k : Fin 512, x2 (ix2 r k) * x4 (ix2 k l)) := by
  unfold out0_5
  frame_out
  pointwise [k0_pay1]

/-- The blocks that a grid point takes. -/
theorem index_maps : ∀ t : Fin cfg0.N,
    win0_0.index t = ![t.val, 0] ∧ win0_1.index t = ![t.val, 0] ∧ win0_2.index t = ![t.val, 0] ∧ win0_3.index t = ![0, 0] ∧ win0_4.index t = ![1, 0]
    ∧ win0_5.index t = ![t.val, 0] := by
  decide +kernel

theorem points (t : Fin cfg0.N) : t.val < 64 := t.isLt

section Reads

variable {F : FTy → Type} [FloatOps F]

/-- The row of the arrays that row `r` of the blocks of point `t` is. -/
def row (t : Fin cfg0.N) (r : Fin 512) : Fin 32768 := ⟨512 * t.val + r.val, by have := points t; omega⟩

theorem place_eq (t : Fin cfg0.N) (r : Fin 512) (l : Fin 1024) : ((cfg0.win 5).blk t).view.emb (ix2 r l) = (ix2 (row t r) l : S32768x1024.Idx) := by
  obtain ⟨-, -, -, -, -, i⟩ := index_maps t
  unfold row
  blk_ext [i]

theorem stream_block (A : S32768x1024.Idx → Elt F .f32) (t : Fin cfg0.N) (r : Fin 512) (l : Fin 1024) :
    ((cfg0.win 0).blk t).view.read (Elt F) A (ix2 r l) = A (ix2 (row t r) l) := by
  obtain ⟨i, -, -, -, -, -⟩ := index_maps t
  unfold row
  blk_ext [i]

theorem first_block (A : S32768x512.Idx → Elt F .bf16) (t : Fin cfg0.N) (r : Fin 512) (k : Fin 512) :
    ((cfg0.win 1).blk t).view.read (Elt F) A (ix2 r k) = A (ix2 (row t r) k) := by
  obtain ⟨-, i, -, -, -, -⟩ := index_maps t
  unfold row
  blk_ext [i]

theorem second_block (A : S32768x512.Idx → Elt F .bf16) (t : Fin cfg0.N) (r : Fin 512) (k : Fin 512) :
    ((cfg0.win 2).blk t).view.read (Elt F) A (ix2 r k) = A (ix2 (row t r) k) := by
  obtain ⟨-, -, i, -, -, -⟩ := index_maps t
  unfold row
  blk_ext [i]

theorem upper_block (A : S1024x1024.Idx → Elt F .bf16) (t : Fin cfg0.N) (k : Fin 512) (l : Fin 1024) :
    ((cfg0.win 3).blk t).view.read (Elt F) A (ix2 k l) = A (ix2 ⟨k.val, by omega⟩ l) := by
  obtain ⟨-, -, -, i, -, -⟩ := index_maps t
  blk_ext [i]

theorem lower_block (A : S1024x1024.Idx → Elt F .bf16) (t : Fin cfg0.N) (k : Fin 512) (l : Fin 1024) :
    ((cfg0.win 4).blk t).view.read (Elt F) A (ix2 k l) = A (ix2 ⟨512 + k.val, by omega⟩ l) := by
  obtain ⟨-, -, -, -, i, -⟩ := index_maps t
  blk_ext [i]

/-- A block is written back whole. -/
theorem cut_whole (t : Fin cfg0.N) (x : S512x1024.Idx → Elt F .f32) : (cfg0.win 5).cut (grid0.coords t) x = x := by
  funext y
  blk_simp

variable (m : (ℓ : Loc nD τ sig) → Buf (Elt F) ℓ)

/-- The weights that the kernel is given. -/
theorem weights_eq (c : Dev nD) : V m c main_v0 = truncf .bf16 (m ((c.tc : Thread nD τ).loc main_arg3)) bitsLt_bf16_f32 := by
  unfold V
  after_results

theorem stream_iblk (c : Dev nD) (t : Fin cfg0.N) : iblk m c 0 t = ((cfg0.win 0).blk t).view.read (Elt F) (m ((c.tc : Thread nD τ).loc main_arg0)) :=
  congrArg (((cfg0.win 0).blk t).view.read (Elt F)) (V_main_arg0 m c)

theorem first_iblk (c : Dev nD) (t : Fin cfg0.N) : iblk m c 1 t = ((cfg0.win 1).blk t).view.read (Elt F) (m ((c.tc : Thread nD τ).loc main_arg1)) :=
  congrArg (((cfg0.win 1).blk t).view.read (Elt F)) (V_main_arg1 m c)

theorem second_iblk (c : Dev nD) (t : Fin cfg0.N) : iblk m c 2 t = ((cfg0.win 2).blk t).view.read (Elt F) (m ((c.tc : Thread nD τ).loc main_arg2)) :=
  congrArg (((cfg0.win 2).blk t).view.read (Elt F)) (V_main_arg2 m c)

theorem upper_iblk (c : Dev nD) (t : Fin cfg0.N) :
    iblk m c 3 t = ((cfg0.win 3).blk t).view.read (Elt F) (truncf .bf16 (m ((c.tc : Thread nD τ).loc main_arg3)) bitsLt_bf16_f32) :=
  congrArg (((cfg0.win 3).blk t).view.read (Elt F)) (weights_eq m c)

theorem lower_iblk (c : Dev nD) (t : Fin cfg0.N) :
    iblk m c 4 t = ((cfg0.win 4).blk t).view.read (Elt F) (truncf .bf16 (m ((c.tc : Thread nD τ).loc main_arg3)) bitsLt_bf16_f32) :=
  congrArg (((cfg0.win 4).blk t).view.read (Elt F)) (weights_eq m c)

end Reads

variable (m : (ℓ : Loc nD τ sig) → Buf (Elt Ideal) ℓ)

/-- The result of the launch's arguments, as an array. -/
def launched (c : Dev nD) : FVec Ideal S32768x1024 .f32 := fun j =>
  result (m ((c.tc : Thread nD τ).loc main_arg0)) (m ((c.tc : Thread nD τ).loc main_arg1)) (m ((c.tc : Thread nD τ).loc main_arg2)) (m ((c.tc : Thread nD τ).loc main_arg3)) (j 0) (j 1)

/-- What a grid point leaves in its output block is the result at the place of the element. -/
theorem outs_apply (c : Dev nD) (t : Fin cfg0.N) (r : Fin 512) (l : Fin 1024) :
    out0_5 (iblk m c 0 t) (iblk m c 1 t) (iblk m c 2 t) (iblk m c 3 t) (iblk m c 4 t) (ix2 r l) = launched m c (ix2 (row t r) l) := by
  refine (block_apply _ _ _ _ _ r l).trans ?_
  rw [stream_iblk, first_iblk, second_iblk, upper_iblk, lower_iblk]
  refine congrArg₂ (· + ·) (stream_block _ t r l) (congrArg₂ (· + ·) (Finset.sum_congr rfl fun k _ => ?_) (Finset.sum_congr rfl fun k _ => ?_))
  · exact congrArg₂ (· * ·) (first_block _ t r k) (upper_block _ t k l)
  · exact congrArg₂ (· * ·) (second_block _ t r k) (lower_block _ t k l)

/-- The blocks cover the result array. -/
theorem covered (i : S32768x1024.Idx) : ∃ t : Fin cfg0.N, (cfg0.win 5).flush t = true ∧ i ∈ ((cfg0.win 5).blk t).view.set := by
  have h : (cfg0.win 5).Covers := by decide +kernel
  exact Pipeline.Window.Covers.cover (cfg0.win 5) h (Memref.isWhole_whole _) i

/-- The kernel's result array. -/
theorem array (c : Dev nD) : (dats m 0 c).arrAt 5 cfg0.N = launched m c := by
  refine (dats m 0 c).arrAt_eq_of_cover 5 _ (fun t _ => ?_) covered
  rw [Value.flushed5, cut_whole]
  funext y
  obtain ⟨r, l, rfl⟩ : ∃ (r : Fin 512) (l : Fin 1024), y = ix2 r l := ⟨y 0, y 1, by
    funext a
    fin_cases a <;> rfl⟩
  refine (outs_apply m c t r l).trans ?_
  exact congrArg (launched m c) (place_eq t r l).symm

/-! ## The reference -/

/-- The reference's operations, composed. -/
def composed (h : FVec Ideal S32768x1024 .f32) (ya yb : FVec Ideal S32768x512 .bf16) (w : FVec Ideal S1024x1024 .f32) : FVec Ideal S32768x1024 .f32 :=
  addf h (Host.dotGeneral OutABRefIdeal.dot_S32768x1024_S1024x1024_S32768x1024_1_0_0_1_n_n none
    (extf .f32 (concatenate S32768x1024 1 [⟨S32768x512, ya⟩, ⟨S32768x512, yb⟩] OutABRefIdeal.Gen.concatenates_S32768x512_S32768x512_S32768x1024_d1) OutABRefIdeal.Gen.bitsLt_bf16_f32) w)

theorem composed_apply (h : FVec Ideal S32768x1024 .f32) (ya yb : FVec Ideal S32768x512 .bf16) (w : FVec Ideal S1024x1024 .f32) (r : Fin 32768) (l : Fin 1024) :
    composed h ya yb w (ix2 r l) = result h ya yb w r l := by
  unfold composed
  pointwise
  rfl

end Cert.OutABValue

end
-- ==== Proof.ProjSums.lean ====
/- Sums over the features of a row: split in halves, and scaled; the normed row and its product with a column. -/
module

public import Idealize.ShloMosaic.Lib.Pointwise

@[expose] public section

noncomputable section

namespace Cert.Proj

/-- A sum over 1024 features is the sum over the first half and the sum over the second. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- A factor of finite size that is not negative may be taken out of a sum of extended reals. -/
theorem sum_scaled {ι : Type} (t : Finset ι) (f : ι → EReal) (s : EReal) (h0 : 0 ≤ s) (h1 : s ≠ ⊤) : ∑ k ∈ t, f k * s = (∑ k ∈ t, f k) * s := by
  induction t using Finset.cons_induction with
  | empty => simp
  | cons a t ha ih => rw [Finset.sum_cons, Finset.sum_cons, ih, EReal.right_distrib_of_nonneg_of_ne_top h0 h1]

/-- Scaling the weights of a product scales it. -/
theorem product_scaled (a w : Fin 1024 → EReal) (s : EReal) (h0 : 0 ≤ s) (h1 : s ≠ ⊤) : ∑ k, a k * (w k * s) = (∑ k, a k * w k) * s := by
  rw [← sum_scaled _ _ s h0 h1]
  exact Finset.sum_congr rfl fun k _ => (mul_assoc _ _ _).symm

open Idealize.ShloMosaic in
/-- A row over the root of the mean of its squares, times the gains. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- The normed row's product with a column of weights. -/
def column (x g w : Fin 1024 → EReal) : EReal := ∑ k, normed x g k * w k

open Idealize.ShloMosaic in
/-- The scale of the queries, an eighth. -/
def eighth : EReal := Ideal.ofBits .f32 0x3E000000#32

theorem eighth_nonneg : 0 ≤ eighth := by
  unfold eighth
  simp [Idealize.ShloMosaic.Ideal.ofBits, Idealize.ShloMosaic.Ideal.ieee]
  rw [← EReal.coe_mul]
  exact EReal.coe_nonneg.mpr (by positivity)

theorem eighth_ne_top : eighth ≠ ⊤ := by
  unfold eighth
  simp [Idealize.ShloMosaic.Ideal.ofBits, Idealize.ShloMosaic.Ideal.ieee]
  rw [← EReal.coe_mul]
  exact EReal.coe_ne_top _

/-- Scaling a column of weights scales the normed row's product with it. -/
theorem column_scaled (x g w : Fin 1024 → EReal) : column x g (fun k => w k * eighth) = column x g w * eighth :=
  product_scaled (normed x g) w eighth eighth_nonneg eighth_ne_top

/-- The product with a column of zeros. -/
theorem column_zero (x g : Fin 1024 → EReal) : column x g (fun _ => 0) = 0 := by
  unfold column
  simp

end Cert.Proj

end
-- ==== Proof.OutCValue.lean ====
/- The projection out of mixer C: the kernel's result array, and the reference's, are the residual stream plus the product. -/
module

public import proofs.«01_k».proof.Proof.ProjSums
public import proofs.«01_k».proof.Proof.Gen.OutCIdeal.Value
public import proofs.«01_k».proof.Proof.Gen.OutCRefIdeal.Run
public import Idealize.ShloMosaic.Lib.Pipeline.ValueKit
public import Idealize.ShloMosaic.Lib.StableHlo.Run

@[expose] public section

set_option maxRecDepth 16384

noncomputable section

namespace Cert.OutCValue

open Idealize.ShloMosaic Idealize.ShloMosaic.TcCoe Cert.OutCIdeal Cert.OutCIdeal.Gen

/-- The residual stream plus the product of the mixer's rows with the weights. -/
def result (h : FVec Ideal S32768x1024 .f32) (z : FVec Ideal S32768x1024 .bf16) (w : FVec Ideal S1024x1024 .f32) (r : Fin 32768) (l : Fin 1024) : EReal :=
  h (ix2 r l) + ∑ k : Fin 1024, z (ix2 r k) * w (ix2 k l)

/-! ## The kernel -/

/-- One block of the body. -/
theorem block_apply (x0 : Vec Ideal S512x1024 .f32) (x1 x2 : Vec Ideal S512x512 .bf16) (x3 x4 : Vec Ideal S512x1024 .bf16) (r : Fin 512) (l : Fin 1024) :
    out0_5 x0 x1 x2 x3 x4 (ix2 r l) = x0 (ix2 r l) + ((∑ k : Fin 512, x1 (ix2 r k) * x3 (ix2 k l)) + ∑ k : Fin 512, x2 (ix2 r k) * x4 (ix2 k l)) := by
  unfold out0_5
  frame_out
  pointwise [k0_pay1]

/-- The blocks that a grid point takes. -/
theorem index_maps : ∀ t : Fin cfg0.N,
    win0_0.index t = ![t.val, 0] ∧ win0_1.index t = ![t.val, 0] ∧ win0_2.index t = ![t.val, 1] ∧ win0_3.index t = ![0, 0] ∧ win0_4.index t = ![1, 0]
    ∧ win0_5.index t = ![t.val, 0] := by
  decide +kernel

theorem points (t : Fin cfg0.N) : t.val < 64 := t.isLt

section Reads

variable {F : FTy → Type} [FloatOps F]

/-- The row of the arrays that row `r` of the blocks of point `t` is. -/
def row (t : Fin cfg0.N) (r : Fin 512) : Fin 32768 := ⟨512 * t.val + r.val, by have := points t; omega⟩

theorem place_eq (t : Fin cfg0.N) (r : Fin 512) (l : Fin 1024) : ((cfg0.win 5).blk t).view.emb (ix2 r l) = (ix2 (row t r) l : S32768x1024.Idx) := by
  obtain ⟨-, -, -, -, -, i⟩ := index_maps t
  unfold row
  blk_ext [i]

theorem stream_block (A : S32768x1024.Idx → Elt F .f32) (t : Fin cfg0.N) (r : Fin 512) (l : Fin 1024) :
    ((cfg0.win 0).blk t).view.read (Elt F) A (ix2 r l) = A (ix2 (row t r) l) := by
  obtain ⟨i, -, -, -, -, -⟩ := index_maps t
  unfold row
  blk_ext [i]

theorem first_block (A : S32768x1024.Idx → Elt F .bf16) (t : Fin cfg0.N) (r : Fin 512) (k : Fin 512) :
    ((cfg0.win 1).blk t).view.read (Elt F) A (ix2 r k) = A (ix2 (row t r) ⟨k.val, by omega⟩) := by
  obtain ⟨-, i, -, -, -, -⟩ := index_maps t
  unfold row
  blk_ext [i]

theorem second_block (A : S32768x1024.Idx → Elt F .bf16) (t : Fin cfg0.N) (r : Fin 512) (k : Fin 512) :
    ((cfg0.win 2).blk t).view.read (Elt F) A (ix2 r k) = A (ix2 (row t r) ⟨512 + k.val, by omega⟩) := by
  obtain ⟨-, -, i, -, -, -⟩ := index_maps t
  unfold row
  blk_ext [i]

theorem upper_block (A : S1024x1024.Idx → Elt F .bf16) (t : Fin cfg0.N) (k : Fin 512) (l : Fin 1024) :
    ((cfg0.win 3).blk t).view.read (Elt F) A (ix2 k l) = A (ix2 ⟨k.val, by omega⟩ l) := by
  obtain ⟨-, -, -, i, -, -⟩ := index_maps t
  blk_ext [i]

theorem lower_block (A : S1024x1024.Idx → Elt F .bf16) (t : Fin cfg0.N) (k : Fin 512) (l : Fin 1024) :
    ((cfg0.win 4).blk t).view.read (Elt F) A (ix2 k l) = A (ix2 ⟨512 + k.val, by omega⟩ l) := by
  obtain ⟨-, -, -, -, i, -⟩ := index_maps t
  blk_ext [i]

/-- A block is written back whole. -/
theorem cut_whole (t : Fin cfg0.N) (x : S512x1024.Idx → Elt F .f32) : (cfg0.win 5).cut (grid0.coords t) x = x := by
  funext y
  blk_simp

variable (m : (ℓ : Loc nD τ sig) → Buf (Elt F) ℓ)

/-- The weights that the kernel is given. -/
theorem weights_eq (c : Dev nD) : V m c main_v0 = truncf .bf16 (m ((c.tc : Thread nD τ).loc main_arg2)) bitsLt_bf16_f32 := by
  unfold V
  after_results

theorem stream_iblk (c : Dev nD) (t : Fin cfg0.N) : iblk m c 0 t = ((cfg0.win 0).blk t).view.read (Elt F) (m ((c.tc : Thread nD τ).loc main_arg0)) :=
  congrArg (((cfg0.win 0).blk t).view.read (Elt F)) (V_main_arg0 m c)

theorem first_iblk (c : Dev nD) (t : Fin cfg0.N) : iblk m c 1 t = ((cfg0.win 1).blk t).view.read (Elt F) (m ((c.tc : Thread nD τ).loc main_arg1)) :=
  congrArg (((cfg0.win 1).blk t).view.read (Elt F)) (V_main_arg1 m c)

theorem second_iblk (c : Dev nD) (t : Fin cfg0.N) : iblk m c 2 t = ((cfg0.win 2).blk t).view.read (Elt F) (m ((c.tc : Thread nD τ).loc main_arg1)) :=
  congrArg (((cfg0.win 2).blk t).view.read (Elt F)) (V_main_arg1 m c)

theorem upper_iblk (c : Dev nD) (t : Fin cfg0.N) :
    iblk m c 3 t = ((cfg0.win 3).blk t).view.read (Elt F) (truncf .bf16 (m ((c.tc : Thread nD τ).loc main_arg2)) bitsLt_bf16_f32) :=
  congrArg (((cfg0.win 3).blk t).view.read (Elt F)) (weights_eq m c)

theorem lower_iblk (c : Dev nD) (t : Fin cfg0.N) :
    iblk m c 4 t = ((cfg0.win 4).blk t).view.read (Elt F) (truncf .bf16 (m ((c.tc : Thread nD τ).loc main_arg2)) bitsLt_bf16_f32) :=
  congrArg (((cfg0.win 4).blk t).view.read (Elt F)) (weights_eq m c)

end Reads

variable (m : (ℓ : Loc nD τ sig) → Buf (Elt Ideal) ℓ)

/-- The result of the launch's arguments, as an array. -/
def launched (c : Dev nD) : FVec Ideal S32768x1024 .f32 := fun j =>
  result (m ((c.tc : Thread nD τ).loc main_arg0)) (m ((c.tc : Thread nD τ).loc main_arg1)) (m ((c.tc : Thread nD τ).loc main_arg2)) (j 0) (j 1)

/-- What a grid point leaves in its output block is the result at the place of the element. -/
theorem outs_apply (c : Dev nD) (t : Fin cfg0.N) (r : Fin 512) (l : Fin 1024) :
    out0_5 (iblk m c 0 t) (iblk m c 1 t) (iblk m c 2 t) (iblk m c 3 t) (iblk m c 4 t) (ix2 r l) = launched m c (ix2 (row t r) l) := by
  refine (block_apply _ _ _ _ _ r l).trans ?_
  rw [stream_iblk, first_iblk, second_iblk, upper_iblk, lower_iblk]
  refine congrArg₂ (· + ·) (stream_block _ t r l) ((?_ : _ = _).trans (Proj.sum_halves _).symm)
  refine (congrArg₂ (· + ·) (Finset.sum_congr rfl fun k _ => ?_) (Finset.sum_congr rfl fun k _ => ?_))
  · exact congrArg₂ (· * ·) (first_block _ t r k) (upper_block _ t k l)
  · exact congrArg₂ (· * ·) (second_block _ t r k) (lower_block _ t k l)

/-- The blocks cover the result array. -/
theorem covered (i : S32768x1024.Idx) : ∃ t : Fin cfg0.N, (cfg0.win 5).flush t = true ∧ i ∈ ((cfg0.win 5).blk t).view.set := by
  have h : (cfg0.win 5).Covers := by decide +kernel
  exact Pipeline.Window.Covers.cover (cfg0.win 5) h (Memref.isWhole_whole _) i

/-- The kernel's result array. -/
theorem array (c : Dev nD) : (dats m 0 c).arrAt 5 cfg0.N = launched m c := by
  refine (dats m 0 c).arrAt_eq_of_cover 5 _ (fun t _ => ?_) covered
  rw [Value.flushed5, cut_whole]
  funext y
  obtain ⟨r, l, rfl⟩ : ∃ (r : Fin 512) (l : Fin 1024), y = ix2 r l := ⟨y 0, y 1, by
    funext a
    fin_cases a <;> rfl⟩
  refine (outs_apply m c t r l).trans ?_
  exact congrArg (launched m c) (place_eq t r l).symm

/-! ## The reference -/

/-- The reference's operations, composed. -/
def composed (h : FVec Ideal S32768x1024 .f32) (z : FVec Ideal S32768x1024 .bf16) (w : FVec Ideal S1024x1024 .f32) : FVec Ideal S32768x1024 .f32 :=
  addf h (Host.dotGeneral OutCRefIdeal.dot_S32768x1024_S1024x1024_S32768x1024_1_0_0_1_n_n none (extf .f32 z OutCRefIdeal.Gen.bitsLt_bf16_f32) w)

theorem composed_apply (h : FVec Ideal S32768x1024 .f32) (z : FVec Ideal S32768x1024 .bf16) (w : FVec Ideal S1024x1024 .f32) (r : Fin 32768) (l : Fin 1024) :
    composed h z w (ix2 r l) = result h z w r l := by
  unfold composed
  pointwise
  rfl

end Cert.OutCValue

end
-- ==== Proof.ProjABValue.lean ====
/- The projection into mixers A and B: the kernel's two result arrays, and the reference's, are the normed row's products with
   the weights. -/
module

public import proofs.«01_k».proof.Proof.ProjSums
public import proofs.«01_k».proof.Proof.Gen.ProjABIdeal.Value
public import proofs.«01_k».proof.Proof.Gen.ProjABRefIdeal.Run
public import Idealize.ShloMosaic.Lib.Pipeline.ValueKit
public import Idealize.ShloMosaic.Lib.StableHlo.Run

@[expose] public section

set_option maxRecDepth 4096

noncomputable section

namespace Cert.ProjABValue

open Idealize.ShloMosaic Idealize.ShloMosaic.TcCoe

section Kernel

open Cert.ProjABIdeal Cert.ProjABIdeal.Gen

/-- The normed row `r` of the residual stream times column `l` of the weights. -/
def column (h : FVec Ideal S32768x1024 .f32) (g : FVec Ideal S1024 .f32) (w : FVec Ideal S1024x2500 .f32) (r : Fin 32768) (l : Fin 2500) : EReal :=
  Proj.column (fun k => h (ix2 r k)) (fun k => g (ix1 k)) (fun k => w (ix2 k l))

/-- The column of the weights that column `l` of the first result comes from: mixer B's single key head, its single value
    head and the indexer's single key are given twice. -/
def source (l : Fin 2688) : Fin 2500 :=
  ⟨if l.val < 2112 then l.val else if l.val < 2240 then l.val - 64 else if l.val < 2624 then l.val - 128 else l.val - 192, by
    have := l.isLt
    split_ifs <;> omega⟩

/-- The queries of mixers A and B are scaled. -/
def IsQuery (l : Fin 2688) : Prop := l.val < 512 ∨ (1536 ≤ l.val ∧ l.val < 2048)

instance (l : Fin 2688) : Decidable (IsQuery l) := by unfold IsQuery; infer_instance

/-- The queries, keys, values and the indexer's queries and key. -/
def result (h : FVec Ideal S32768x1024 .f32) (g : FVec Ideal S1024 .f32) (w : FVec Ideal S1024x2500 .f32) (r : Fin 32768) (l : Fin 2688) : EReal :=
  if IsQuery l then column h g w r (source l) * Proj.eighth else column h g w r (source l)

/-- The indexer's weights, in the first four lanes of 128. -/
def lanes (h : FVec Ideal S32768x1024 .f32) (g : FVec Ideal S1024 .f32) (w : FVec Ideal S1024x2500 .f32) (r : Fin 32768) (l : Fin 128) : EReal :=
  if hl : l.val < 4 then column h g w r ⟨2496 + l.val, by omega⟩ else 0

theorem source_cases (l : Fin 2688) : (l.val < 2112 ∧ (source l).val = l.val) ∨ (2112 ≤ l.val ∧ l.val < 2240 ∧ (source l).val = l.val - 64)
    ∨ (2240 ≤ l.val ∧ l.val < 2624 ∧ (source l).val = l.val - 128) ∨ (2624 ≤ l.val ∧ (source l).val = l.val - 192) := by
  have hs : (source l).val = if l.val < 2112 then l.val else if l.val < 2240 then l.val - 64 else if l.val < 2624 then l.val - 128 else l.val - 192 := rfl
  generalize (source l).val = v at hs ⊢
  split_ifs at hs <;> omega

theorem either {α : Type} {p : Prop} [Decidable p] {a : p → α} {b : ¬p → α} {x : α} (ha : ∀ h, a h = x) (hb : ∀ h, b h = x) : dite p a b = x := by
  by_cases h : p
  · rw [dif_pos h, ha h]
  · rw [dif_neg h, hb h]

/-- Eleven pieces of a row, side by side, are the row's columns at their sources, the queries' scaled. -/
theorem arranged (f : Fin 2500 → EReal) (s : EReal) (l : Fin 2688) :
    (if h : l.val < 512 then f ⟨l.val, by omega⟩ * s
    else if h : l.val - 512 < 512 then f ⟨512 + (l.val - 512), by omega⟩
    else if h : l.val - 512 - 512 < 512 then f ⟨1024 + (l.val - 512 - 512), by omega⟩
    else if h : l.val - 512 - 512 - 512 < 512 then f ⟨1536 + (l.val - 512 - 512 - 512), by omega⟩ * s
    else if h : l.val - 512 - 512 - 512 - 512 < 64 then f ⟨2048 + (l.val - 512 - 512 - 512 - 512), by omega⟩
    else if h : l.val - 512 - 512 - 512 - 512 - 64 < 64 then f ⟨2048 + (l.val - 512 - 512 - 512 - 512 - 64), by omega⟩
    else if h : l.val - 512 - 512 - 512 - 512 - 64 - 64 < 64 then f ⟨2112 + (l.val - 512 - 512 - 512 - 512 - 64 - 64), by omega⟩
    else if h : l.val - 512 - 512 - 512 - 512 - 64 - 64 - 64 < 64 then f ⟨2112 + (l.val - 512 - 512 - 512 - 512 - 64 - 64 - 64), by omega⟩
    else if h : l.val - 512 - 512 - 512 - 512 - 64 - 64 - 64 - 64 < 256 then f ⟨2176 + (l.val - 512 - 512 - 512 - 512 - 64 - 64 - 64 - 64), by omega⟩
    else if h : l.val - 512 - 512 - 512 - 512 - 64 - 64 - 64 - 64 - 256 < 64 then
      f ⟨2432 + (l.val - 512 - 512 - 512 - 512 - 64 - 64 - 64 - 64 - 256), by omega⟩
    else f ⟨2432 + (l.val - 512 - 512 - 512 - 512 - 64 - 64 - 64 - 64 - 256 - 64), by omega⟩)
      = if IsQuery l then f (source l) * s else f (source l) := by
  obtain ⟨R, hR⟩ : ∃ R, R = if IsQuery l then f (source l) * s else f (source l) := ⟨_, rfl⟩
  rw [← hR]
  have hs := source_cases l
  have query : ∀ a : Fin 2500, (l.val < 512 ∨ (1536 ≤ l.val ∧ l.val < 2048)) → a.val = (source l).val → f a * s = R := fun a q h => by
    rw [hR, if_pos (show IsQuery l from q), show a = source l from Fin.ext h]
  have plain : ∀ a : Fin 2500, ¬ (l.val < 512 ∨ (1536 ≤ l.val ∧ l.val < 2048)) → a.val = (source l).val → f a = R := fun a q h => by
    rw [hR, if_neg (show ¬ IsQuery l from q), show a = source l from Fin.ext h]
  clear hR
  repeat' refine either (fun _ => ?_) (fun _ => ?_)
  all_goals first
    | refine query _ ?_ ?_ <;> (try dsimp only) <;> omega
    | refine plain _ ?_ ?_ <;> (try dsimp only) <;> omega

/-! ## The kernel -/

/-- One block of the body, for the first result. -/
theorem block_apply (x0 : Vec Ideal S256x1024 .f32) (x1 : Vec Ideal S1x1024 .f32) (x2 : Vec Ideal S1024x2816 .bf16) (r : Fin 256) (l : Fin 2688) :
    out0_3 x0 x1 x2 (ix2 r l) = Proj.column (fun k => x0 (ix2 r k)) (fun k => x1 (ix2 0 k)) (fun k => x2 (ix2 k ⟨l.val, by omega⟩)) := by
  unfold out0_3
  frame_out
  pointwise [k0_pay1, k0_pay2]
  rfl

/-- One block of the body, for the second result. -/
theorem lanes_block_apply (x0 : Vec Ideal S256x1024 .f32) (x1 : Vec Ideal S1x1024 .f32) (x2 : Vec Ideal S1024x2816 .bf16) (r : Fin 256) (l : Fin 128) :
    out0_4 x0 x1 x2 (ix2 r l) = Proj.column (fun k => x0 (ix2 r k)) (fun k => x1 (ix2 0 k)) (fun k => x2 (ix2 k ⟨2688 + l.val, by omega⟩)) := by
  unfold out0_4
  frame_out
  pointwise [k0_pay1, k0_pay3]
  rfl

/-- The blocks that a grid point takes. -/
theorem index_maps : ∀ t : Fin cfg0.N,
    win0_0.index t = ![t.val, 0] ∧ win0_1.index t = ![0, 0] ∧ win0_2.index t = ![0, 0] ∧ win0_3.index t = ![t.val, 0] ∧ win0_4.index t = ![t.val, 0] := by
  decide +kernel

theorem points (t : Fin cfg0.N) : t.val < 128 := t.isLt

section Reads

variable {F : FTy → Type} [FloatOps F]

/-- The row of the arrays that row `r` of the blocks of point `t` is. -/
def row (t : Fin cfg0.N) (r : Fin 256) : Fin 32768 := ⟨256 * t.val + r.val, by have := points t; omega⟩

theorem place_eq (t : Fin cfg0.N) (r : Fin 256) (l : Fin 2688) : ((cfg0.win 3).blk t).view.emb (ix2 r l) = (ix2 (row t r) l : S32768x2688.Idx) := by
  obtain ⟨-, -, -, i, -⟩ := index_maps t
  unfold row
  blk_ext [i]

theorem lanes_place_eq (t : Fin cfg0.N) (r : Fin 256) (l : Fin 128) : ((cfg0.win 4).blk t).view.emb (ix2 r l) = (ix2 (row t r) l : S32768x128.Idx) := by
  obtain ⟨-, -, -, -, i⟩ := index_maps t
  unfold row
  blk_ext [i]

theorem stream_block (A : S32768x1024.Idx → Elt F .f32) (t : Fin cfg0.N) (r : Fin 256) (k : Fin 1024) :
    ((cfg0.win 0).blk t).view.read (Elt F) A (ix2 r k) = A (ix2 (row t r) k) := by
  obtain ⟨i, -, -, -, -⟩ := index_maps t
  unfold row
  blk_ext [i]

theorem gains_block (A : S1x1024.Idx → Elt F .f32) (t : Fin cfg0.N) (k : Fin 1024) :
    ((cfg0.win 1).blk t).view.read (Elt F) A (ix2 0 k) = A (ix2 0 k) := by
  obtain ⟨-, i, -, -, -⟩ := index_maps t
  blk_ext [i]

theorem weights_block (A : S1024x2816.Idx → Elt F .bf16) (t : Fin cfg0.N) (k : Fin 1024) (l : Fin 2816) :
    ((cfg0.win 2).blk t).view.read (Elt F) A (ix2 k l) = A (ix2 k l) := by
  obtain ⟨-, -, i, -, -⟩ := index_maps t
  blk_ext [i]

/-- A block of the first result is written back whole. -/
theorem cut_whole (t : Fin cfg0.N) (x : S256x2688.Idx → Elt F .bf16) : (cfg0.win 3).cut (grid0.coords t) x = x := by
  funext y
  blk_simp

/-- A block of the second result is written back whole. -/
theorem lanes_cut_whole (t : Fin cfg0.N) (x : S256x128.Idx → Elt F .f32) : (cfg0.win 4).cut (grid0.coords t) x = x := by
  funext y
  blk_simp

/-- The columns of the first result's weights, the queries' scaled. -/
def mainWeights (w : FVec F S1024x2500 .f32) : FVec F S1024x2688 .f32 :=
  concatenate S1024x2688 1 [
    ⟨S1024x512, mulf (extractStridedSlice S1024x512 ![0, 0] w slices_S1024x2500_S1024x512_0_0) (broadcastInDim S1024x512 ![] bcast_S_S1024x512 (constant S_ .f32 0x3E000000#32))⟩,
    ⟨S1024x512, extractStridedSlice S1024x512 ![0, 512] w slices_S1024x2500_S1024x512_0_512⟩,
    ⟨S1024x512, extractStridedSlice S1024x512 ![0, 1024] w slices_S1024x2500_S1024x512_0_1024⟩,
    ⟨S1024x512, mulf (extractStridedSlice S1024x512 ![0, 1536] w slices_S1024x2500_S1024x512_0_1536) (broadcastInDim S1024x512 ![] bcast_S_S1024x512 (constant S_ .f32 0x3E000000#32))⟩,
    ⟨S1024x64, extractStridedSlice S1024x64 ![0, 2048] w slices_S1024x2500_S1024x64_0_2048⟩,
    ⟨S1024x64, extractStridedSlice S1024x64 ![0, 2048] w slices_S1024x2500_S1024x64_0_2048⟩,
    ⟨S1024x64, extractStridedSlice S1024x64 ![0, 2112] w slices_S1024x2500_S1024x64_0_2112⟩,
    ⟨S1024x64, extractStridedSlice S1024x64 ![0, 2112] w slices_S1024x2500_S1024x64_0_2112⟩,
    ⟨S1024x256, extractStridedSlice S1024x256 ![0, 2176] w slices_S1024x2500_S1024x256_0_2176⟩,
    ⟨S1024x64, extractStridedSlice S1024x64 ![0, 2432] w slices_S1024x2500_S1024x64_0_2432⟩,
    ⟨S1024x64, extractStridedSlice S1024x64 ![0, 2432] w slices_S1024x2500_S1024x64_0_2432⟩]
    concatenates_S1024x512_S1024x512_S1024x512_S1024x512_S1024x64_S1024x64_S1024x64_S1024x64_S1024x256_S1024x64_S1024x64_S1024x2688_d1

/-- The weights that the kernel is given: the first result's, the indexer's, and zeros. -/
def weights (w : FVec F S1024x2500 .f32) : FVec F S1024x2816 .bf16 :=
  truncf .bf16 (concatenate S1024x2816 1 [⟨S1024x2688, mainWeights w⟩, ⟨S1024x4, extractStridedSlice S1024x4 ![0, 2496] w slices_S1024x2500_S1024x4_0_2496⟩,
    ⟨S1024x124, broadcastInDim S1024x124 ![] bcast_S_S1024x124 (constant S_ .f32 0x00000000#32)⟩] concatenates_S1024x2688_S1024x4_S1024x124_S1024x2816_d1) bitsLt_bf16_f32

/-- The gains that the kernel is given, as one row. -/
def gains (g : FVec F S1024 .f32) : FVec F S1x1024 .f32 := shapeCast S1x1024 g shapeCasts_S1024_S1x1024

variable (m : (ℓ : Loc nD τ sig) → Buf (Elt F) ℓ)

set_option maxHeartbeats 2000000 in
theorem weights_eq (c : Dev nD) : V m c main_v16 = weights (m ((c.tc : Thread nD τ).loc main_arg2)) := by
  unfold V
  after_results
  rfl

theorem gains_eq (c : Dev nD) : V m c main_v17 = gains (m ((c.tc : Thread nD τ).loc main_arg1)) := by
  unfold V
  after_results
  rfl

theorem stream_iblk (c : Dev nD) (t : Fin cfg0.N) : iblk m c 0 t = ((cfg0.win 0).blk t).view.read (Elt F) (m ((c.tc : Thread nD τ).loc main_arg0)) :=
  congrArg (((cfg0.win 0).blk t).view.read (Elt F)) (V_main_arg0 m c)

theorem gains_iblk (c : Dev nD) (t : Fin cfg0.N) : iblk m c 1 t = ((cfg0.win 1).blk t).view.read (Elt F) (gains (m ((c.tc : Thread nD τ).loc main_arg1))) :=
  congrArg (((cfg0.win 1).blk t).view.read (Elt F)) (gains_eq m c)

theorem weights_iblk (c : Dev nD) (t : Fin cfg0.N) : iblk m c 2 t = ((cfg0.win 2).blk t).view.read (Elt F) (weights (m ((c.tc : Thread nD τ).loc main_arg2))) :=
  congrArg (((cfg0.win 2).blk t).view.read (Elt F)) (weights_eq m c)

end Reads

theorem mainWeights_apply (w : FVec Ideal S1024x2500 .f32) (k : Fin 1024) (l : Fin 2688) :
    mainWeights w (ix2 k l) = if IsQuery l then w (ix2 k (source l)) * Proj.eighth else w (ix2 k (source l)) := by
  pointwise [mainWeights]
  exact arranged (fun a => w (ix2 k a)) Proj.eighth l

theorem weights_main (w : FVec Ideal S1024x2500 .f32) (k : Fin 1024) (l : Fin 2688) :
    weights w (ix2 k ⟨l.val, by omega⟩) = mainWeights w (ix2 k l) := by
  unfold weights
  generalize mainWeights w = z
  pointwise

theorem weights_lanes (w : FVec Ideal S1024x2500 .f32) (k : Fin 1024) (l : Fin 128) :
    weights w (ix2 k ⟨2688 + l.val, by omega⟩) = if hl : l.val < 4 then w (ix2 k ⟨2496 + l.val, by omega⟩) else 0 := by
  unfold weights
  generalize mainWeights w = z
  pointwise

theorem gains_apply (g : FVec Ideal S1024 .f32) (k : Fin 1024) : gains g (ix2 0 k) = g (ix1 k) := by
  pointwise [gains]

/-- Products with the kernel's weights for the first result are products with the weights, scaled where they are the queries'. -/
theorem scaled (x g : Fin 1024 → EReal) (w : FVec Ideal S1024x2500 .f32) (l : Fin 2688) :
    Proj.column x g (fun k => weights w (ix2 k ⟨l.val, by omega⟩))
      = if IsQuery l then Proj.column x g (fun k => w (ix2 k (source l))) * Proj.eighth else Proj.column x g (fun k => w (ix2 k (source l))) := by
  simp only [weights_main, mainWeights_apply]
  split
  · exact Proj.column_scaled x g _
  · rfl

/-- Products with the kernel's weights for the second result are products with the indexer's weights, or zero. -/
theorem laned (x g : Fin 1024 → EReal) (w : FVec Ideal S1024x2500 .f32) (l : Fin 128) :
    Proj.column x g (fun k => weights w (ix2 k ⟨2688 + l.val, by omega⟩))
      = if hl : l.val < 4 then Proj.column x g (fun k => w (ix2 k ⟨2496 + l.val, by omega⟩)) else 0 := by
  simp only [weights_lanes]
  split
  · rfl
  · exact Proj.column_zero x g

variable (m : (ℓ : Loc nD τ sig) → Buf (Elt Ideal) ℓ)

/-- The first result of the launch's arguments, as an array. -/
def launched (c : Dev nD) : FVec Ideal S32768x2688 .bf16 := fun j =>
  result (m ((c.tc : Thread nD τ).loc main_arg0)) (m ((c.tc : Thread nD τ).loc main_arg1)) (m ((c.tc : Thread nD τ).loc main_arg2)) (j 0) (j 1)

/-- The second. -/
def launchedLanes (c : Dev nD) : FVec Ideal S32768x128 .f32 := fun j =>
  lanes (m ((c.tc : Thread nD τ).loc main_arg0)) (m ((c.tc : Thread nD τ).loc main_arg1)) (m ((c.tc : Thread nD τ).loc main_arg2)) (j 0) (j 1)

/-- What a grid point leaves in its first output block is the first result at the place of the element. -/
theorem outs_apply (c : Dev nD) (t : Fin cfg0.N) (r : Fin 256) (l : Fin 2688) :
    out0_3 (iblk m c 0 t) (iblk m c 1 t) (iblk m c 2 t) (ix2 r l) = launched m c (ix2 (row t r) l) := by
  refine (block_apply _ _ _ r l).trans ?_
  rw [stream_iblk, gains_iblk, weights_iblk]
  refine (congr (congr (congrArg Proj.column (funext fun k => ?_)) (funext fun k => ?_)) (funext fun k => ?_)).trans (scaled _ _ _ l)
  · exact stream_block _ t r k
  · exact (gains_block _ t k).trans (gains_apply _ k)
  · exact weights_block _ t k _

/-- What a grid point leaves in its second output block is the second result at the place of the element. -/
theorem lanes_outs_apply (c : Dev nD) (t : Fin cfg0.N) (r : Fin 256) (l : Fin 128) :
    out0_4 (iblk m c 0 t) (iblk m c 1 t) (iblk m c 2 t) (ix2 r l) = launchedLanes m c (ix2 (row t r) l) := by
  refine (lanes_block_apply _ _ _ r l).trans ?_
  rw [stream_iblk, gains_iblk, weights_iblk]
  refine (congr (congr (congrArg Proj.column (funext fun k => ?_)) (funext fun k => ?_)) (funext fun k => ?_)).trans (laned _ _ _ l)
  · exact stream_block _ t r k
  · exact (gains_block _ t k).trans (gains_apply _ k)
  · exact weights_block _ t k _

/-- The blocks cover the first result array. -/
theorem covered (i : S32768x2688.Idx) : ∃ t : Fin cfg0.N, (cfg0.win 3).flush t = true ∧ i ∈ ((cfg0.win 3).blk t).view.set := by
  have h : (cfg0.win 3).Covers := by decide +kernel
  exact Pipeline.Window.Covers.cover (cfg0.win 3) h (Memref.isWhole_whole _) i

/-- The blocks cover the second result array. -/
theorem lanes_covered (i : S32768x128.Idx) : ∃ t : Fin cfg0.N, (cfg0.win 4).flush t = true ∧ i ∈ ((cfg0.win 4).blk t).view.set := by
  have h : (cfg0.win 4).Covers := by decide +kernel
  exact Pipeline.Window.Covers.cover (cfg0.win 4) h (Memref.isWhole_whole _) i

/-- The kernel's first result array. -/
theorem array (c : Dev nD) : (dats m 0 c).arrAt 3 cfg0.N = launched m c := by
  refine (dats m 0 c).arrAt_eq_of_cover 3 _ (fun t _ => ?_) covered
  rw [Value.flushed3, cut_whole]
  funext y
  obtain ⟨r, l, rfl⟩ : ∃ (r : Fin 256) (l : Fin 2688), y = ix2 r l := ⟨y 0, y 1, by
    funext a
    fin_cases a <;> rfl⟩
  refine (outs_apply m c t r l).trans ?_
  exact congrArg (launched m c) (place_eq t r l).symm

/-- The kernel's second result array. -/
theorem lanes_array (c : Dev nD) : (dats m 0 c).arrAt 4 cfg0.N = launchedLanes m c := by
  refine (dats m 0 c).arrAt_eq_of_cover 4 _ (fun t _ => ?_) lanes_covered
  rw [Value.flushed4, lanes_cut_whole]
  funext y
  obtain ⟨r, l, rfl⟩ : ∃ (r : Fin 256) (l : Fin 128), y = ix2 r l := ⟨y 0, y 1, by
    funext a
    fin_cases a <;> rfl⟩
  refine (lanes_outs_apply m c t r l).trans ?_
  exact congrArg (launchedLanes m c) (lanes_place_eq t r l).symm

end Kernel

/-! ## The reference -/

section Reference

open Cert.ProjABRefIdeal Cert.ProjABRefIdeal.Gen

/-- The reference's product of the normed rows with the weights. -/
def product (h : FVec Ideal S32768x1024 .f32) (g : FVec Ideal S1024 .f32) (w : FVec Ideal S1024x2500 .f32) : FVec Ideal S32768x2500 .f32 :=
  Host.dotGeneral dot_S32768x1024_S1024x2500_S32768x2500_1_0_0_1_n_n none (mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

theorem product_apply (h : FVec Ideal S32768x1024 .f32) (g : FVec Ideal S1024 .f32) (w : FVec Ideal S1024x2500 .f32) (r : Fin 32768) (l : Fin 2500) :
    product h g w (ix2 r l) = column h g w r l := by
  pointwise [product]
  rfl

/-- The reference's queries, keys, values and the indexer's queries and key, side by side. -/
def pieces (z : FVec Ideal S32768x2500 .f32) : FVec Ideal S32768x2688 .bf16 :=
  truncf .bf16 (concatenate S32768x2688 1 [
    ⟨S32768x512, mulf (extractStridedSlice S32768x512 ![0, 0] z slices_S32768x2500_S32768x512_0_0) (broadcastInDim S32768x512 ![] bcast_S_S32768x512 (constant S_ .f32 0x3E000000#32))⟩,
    ⟨S32768x512, extractStridedSlice S32768x512 ![0, 512] z slices_S32768x2500_S32768x512_0_512⟩,
    ⟨S32768x512, extractStridedSlice S32768x512 ![0, 1024] z slices_S32768x2500_S32768x512_0_1024⟩,
    ⟨S32768x512, mulf (extractStridedSlice S32768x512 ![0, 1536] z slices_S32768x2500_S32768x512_0_1536) (broadcastInDim S32768x512 ![] bcast_S_S32768x512 (constant S_ .f32 0x3E000000#32))⟩,
    ⟨S32768x64, extractStridedSlice S32768x64 ![0, 2048] z slices_S32768x2500_S32768x64_0_2048⟩,
    ⟨S32768x64, extractStridedSlice S32768x64 ![0, 2048] z slices_S32768x2500_S32768x64_0_2048⟩,
    ⟨S32768x64, extractStridedSlice S32768x64 ![0, 2112] z slices_S32768x2500_S32768x64_0_2112⟩,
    ⟨S32768x64, extractStridedSlice S32768x64 ![0, 2112] z slices_S32768x2500_S32768x64_0_2112⟩,
    ⟨S32768x256, extractStridedSlice S32768x256 ![0, 2176] z slices_S32768x2500_S32768x256_0_2176⟩,
    ⟨S32768x64, extractStridedSlice S32768x64 ![0, 2432] z slices_S32768x2500_S32768x64_0_2432⟩,
    ⟨S32768x64, extractStridedSlice S32768x64 ![0, 2432] z slices_S32768x2500_S32768x64_0_2432⟩]
    concatenates_S32768x512_S32768x512_S32768x512_S32768x512_S32768x64_S32768x64_S32768x64_S32768x64_S32768x256_S32768x64_S32768x64_S32768x2688_d1) bitsLt_bf16_f32

theorem pieces_apply (z : FVec Ideal S32768x2500 .f32) (r : Fin 32768) (l : Fin 2688) :
    pieces z (ix2 r l) = if IsQuery l then z (ix2 r (source l)) * Proj.eighth else z (ix2 r (source l)) := by
  pointwise [pieces]
  exact arranged (fun a => z (ix2 r a)) Proj.eighth l

/-- The reference's indexer weights, with zeros after them. -/
def padded (z : FVec Ideal S32768x2500 .f32) : FVec Ideal S32768x128 .f32 :=
  pad S32768x128 ![0, 0] ![0, 124] ![0, 0] (extractStridedSlice S32768x4 ![0, 2496] z slices_S32768x2500_S32768x4_0_2496) (sitofp .f32 (constantI S_ 32 0#32)) pads_S32768x4_S32768x128_000_01240 h_S_

theorem padded_apply (z : FVec Ideal S32768x2500 .f32) (r : Fin 32768) (l : Fin 128) :
    padded z (ix2 r l) = if hl : l.val < 4 then z (ix2 r ⟨2496 + l.val, by omega⟩) else 0 := by
  pointwise [padded]
  split
  · rfl
  · simp [FloatOps.sitofp]

/-- The first result's operations, composed. -/
def composed (h : FVec Ideal S32768x1024 .f32) (g : FVec Ideal S1024 .f32) (w : FVec Ideal S1024x2500 .f32) : FVec Ideal S32768x2688 .bf16 :=
  pieces (product h g w)

theorem composed_apply (h : FVec Ideal S32768x1024 .f32) (g : FVec Ideal S1024 .f32) (w : FVec Ideal S1024x2500 .f32) (r : Fin 32768) (l : Fin 2688) :
    composed h g w (ix2 r l) = result h g w r l := by
  refine (pieces_apply _ r l).trans ?_
  rw [product_apply]
  rfl

/-- The second result's operations, composed. -/
def composedLanes (h : FVec Ideal S32768x1024 .f32) (g : FVec Ideal S1024 .f32) (w : FVec Ideal S1024x2500 .f32) : FVec Ideal S32768x128 .f32 :=
  padded (product h g w)

theorem composedLanes_apply (h : FVec Ideal S32768x1024 .f32) (g : FVec Ideal S1024 .f32) (w : FVec Ideal S1024x2500 .f32) (r : Fin 32768) (l : Fin 128) :
    composedLanes h g w (ix2 r l) = lanes h g w r l := by
  refine (padded_apply _ r l).trans ?_
  simp only [product_apply]
  rfl

end Reference

end Cert.ProjABValue

end
-- ==== Proof.ProjCValue.lean ====
/- The projection into mixer C: the kernel's result array, and the reference's, are the normed row's products with the weights. -/
module

public import proofs.«01_k».proof.Proof.ProjSums
public import proofs.«01_k».proof.Proof.Gen.ProjCIdeal.Value
public import proofs.«01_k».proof.Proof.Gen.ProjCRefIdeal.Run
public import Idealize.ShloMosaic.Lib.Pipeline.ValueKit
public import Idealize.ShloMosaic.Lib.StableHlo.Run

@[expose] public section

set_option maxRecDepth 4096

noncomputable section

namespace Cert.ProjCValue

open Idealize.ShloMosaic Idealize.ShloMosaic.TcCoe

section Kernel

open Cert.ProjCIdeal Cert.ProjCIdeal.Gen

/-- The normed row `r` of the residual stream times column `l` of the weights. -/
def column (h : FVec Ideal S32768x1024 .f32) (g : FVec Ideal S1024 .f32) (w : FVec Ideal S1024x3072 .f32) (r : Fin 32768) (l : Fin 3072) : EReal :=
  Proj.column (fun k => h (ix2 r k)) (fun k => g (ix1 k)) (fun k => w (ix2 k l))

/-- The normed rows times the weights, the queries scaled. -/
def result (h : FVec Ideal S32768x1024 .f32) (g : FVec Ideal S1024 .f32) (w : FVec Ideal S1024x3072 .f32) (r : Fin 32768) (l : Fin 3072) : EReal :=
  if l.val < 1024 then column h g w r l * Proj.eighth else column h g w r l

/-! ## The kernel -/

/-- One block of the body. -/
theorem block_apply (x0 : Vec Ideal S256x1024 .f32) (x1 : Vec Ideal S1x1024 .f32) (x2 : Vec Ideal S1024x3072 .bf16) (r : Fin 256) (l : Fin 3072) :
    out0_3 x0 x1 x2 (ix2 r l) = Proj.column (fun k => x0 (ix2 r k)) (fun k => x1 (ix2 0 k)) (fun k => x2 (ix2 k l)) := by
  unfold out0_3
  frame_out
  pointwise [k0_pay1]
  rfl

/-- The blocks that a grid point takes. -/
theorem index_maps : ∀ t : Fin cfg0.N,
    win0_0.index t = ![t.val, 0] ∧ win0_1.index t = ![0, 0] ∧ win0_2.index t = ![0, 0] ∧ win0_3.index t = ![t.val, 0] := by
  decide +kernel

theorem points (t : Fin cfg0.N) : t.val < 128 := t.isLt

section Reads

variable {F : FTy → Type} [FloatOps F]

/-- The row of the arrays that row `r` of the blocks of point `t` is. -/
def row (t : Fin cfg0.N) (r : Fin 256) : Fin 32768 := ⟨256 * t.val + r.val, by have := points t; omega⟩

theorem place_eq (t : Fin cfg0.N) (r : Fin 256) (l : Fin 3072) : ((cfg0.win 3).blk t).view.emb (ix2 r l) = (ix2 (row t r) l : S32768x3072.Idx) := by
  obtain ⟨-, -, -, i⟩ := index_maps t
  unfold row
  blk_ext [i]

theorem stream_block (A : S32768x1024.Idx → Elt F .f32) (t : Fin cfg0.N) (r : Fin 256) (k : Fin 1024) :
    ((cfg0.win 0).blk t).view.read (Elt F) A (ix2 r k) = A (ix2 (row t r) k) := by
  obtain ⟨i, -, -, -⟩ := index_maps t
  unfold row
  blk_ext [i]

theorem gains_block (A : S1x1024.Idx → Elt F .f32) (t : Fin cfg0.N) (k : Fin 1024) :
    ((cfg0.win 1).blk t).view.read (Elt F) A (ix2 0 k) = A (ix2 0 k) := by
  obtain ⟨-, i, -, -⟩ := index_maps t
  blk_ext [i]

theorem weights_block (A : S1024x3072.Idx → Elt F .bf16) (t : Fin cfg0.N) (k : Fin 1024) (l : Fin 3072) :
    ((cfg0.win 2).blk t).view.read (Elt F) A (ix2 k l) = A (ix2 k l) := by
  obtain ⟨-, -, i, -⟩ := index_maps t
  blk_ext [i]

/-- A block is written back whole. -/
theorem cut_whole (t : Fin cfg0.N) (x : S256x3072.Idx → Elt F .bf16) : (cfg0.win 3).cut (grid0.coords t) x = x := by
  funext y
  blk_simp

/-- The weights that the kernel is given: the queries' are scaled. -/
def weights (w : FVec F S1024x3072 .f32) : FVec F S1024x3072 .bf16 :=
  truncf .bf16 (concatenate S1024x3072 1 [⟨S1024x1024, mulf (extractStridedSlice S1024x1024 ![0, 0] w slices_S1024x3072_S1024x1024_0_0) (broadcastInDim S1024x1024 ![] bcast_S_S1024x1024 (constant S_ .f32 0x3E000000#32))⟩,
    ⟨S1024x2048, extractStridedSlice S1024x2048 ![0, 1024] w slices_S1024x3072_S1024x2048_0_1024⟩] concatenates_S1024x1024_S1024x2048_S1024x3072_d1) bitsLt_bf16_f32

/-- The gains that the kernel is given, as one row. -/
def gains (g : FVec F S1024 .f32) : FVec F S1x1024 .f32 := shapeCast S1x1024 g shapeCasts_S1024_S1x1024

variable (m : (ℓ : Loc nD τ sig) → Buf (Elt F) ℓ)

theorem weights_eq (c : Dev nD) : V m c main_v5 = weights (m ((c.tc : Thread nD τ).loc main_arg2)) := by
  unfold V
  after_results
  rfl

theorem gains_eq (c : Dev nD) : V m c main_v6 = gains (m ((c.tc : Thread nD τ).loc main_arg1)) := by
  unfold V
  after_results
  rfl

theorem stream_iblk (c : Dev nD) (t : Fin cfg0.N) : iblk m c 0 t = ((cfg0.win 0).blk t).view.read (Elt F) (m ((c.tc : Thread nD τ).loc main_arg0)) :=
  congrArg (((cfg0.win 0).blk t).view.read (Elt F)) (V_main_arg0 m c)

theorem gains_iblk (c : Dev nD) (t : Fin cfg0.N) : iblk m c 1 t = ((cfg0.win 1).blk t).view.read (Elt F) (gains (m ((c.tc : Thread nD τ).loc main_arg1))) :=
  congrArg (((cfg0.win 1).blk t).view.read (Elt F)) (gains_eq m c)

theorem weights_iblk (c : Dev nD) (t : Fin cfg0.N) : iblk m c 2 t = ((cfg0.win 2).blk t).view.read (Elt F) (weights (m ((c.tc : Thread nD τ).loc main_arg2))) :=
  congrArg (((cfg0.win 2).blk t).view.read (Elt F)) (weights_eq m c)

end Reads

theorem weights_apply (w : FVec Ideal S1024x3072 .f32) (k : Fin 1024) (l : Fin 3072) :
    weights w (ix2 k l) = if l.val < 1024 then w (ix2 k l) * Proj.eighth else w (ix2 k l) := by
  pointwise [weights]
  split
  · rfl
  · exact congrArg (fun a => w (ix2 k a)) (Fin.ext (by show 1024 + (l.val - 1024) = l.val; omega))

theorem gains_apply (g : FVec Ideal S1024 .f32) (k : Fin 1024) : gains g (ix2 0 k) = g (ix1 k) := by
  pointwise [gains]

variable (m : (ℓ : Loc nD τ sig) → Buf (Elt Ideal) ℓ)

/-- The result of the launch's arguments, as an array. -/
def launched (c : Dev nD) : FVec Ideal S32768x3072 .bf16 := fun j =>
  result (m ((c.tc : Thread nD τ).loc main_arg0)) (m ((c.tc : Thread nD τ).loc main_arg1)) (m ((c.tc : Thread nD τ).loc main_arg2)) (j 0) (j 1)

/-- Products with the kernel's weights are products with the weights, scaled where they are the queries'. -/
theorem scaled (x g : Fin 1024 → EReal) (w : FVec Ideal S1024x3072 .f32) (l : Fin 3072) :
    Proj.column x g (fun k => weights w (ix2 k l))
      = if l.val < 1024 then Proj.column x g (fun k => w (ix2 k l)) * Proj.eighth else Proj.column x g (fun k => w (ix2 k l)) := by
  simp only [weights_apply]
  split
  · exact Proj.column_scaled x g _
  · rfl

/-- What a grid point leaves in its output block is the result at the place of the element. -/
theorem outs_apply (c : Dev nD) (t : Fin cfg0.N) (r : Fin 256) (l : Fin 3072) :
    out0_3 (iblk m c 0 t) (iblk m c 1 t) (iblk m c 2 t) (ix2 r l) = launched m c (ix2 (row t r) l) := by
  refine (block_apply _ _ _ r l).trans ?_
  rw [stream_iblk, gains_iblk, weights_iblk]
  refine (congr (congr (congrArg Proj.column (funext fun k => ?_)) (funext fun k => ?_)) (funext fun k => ?_)).trans (scaled _ _ _ l)
  · exact stream_block _ t r k
  · exact (gains_block _ t k).trans (gains_apply _ k)
  · exact weights_block _ t k l

/-- The blocks cover the result array. -/
theorem covered (i : S32768x3072.Idx) : ∃ t : Fin cfg0.N, (cfg0.win 3).flush t = true ∧ i ∈ ((cfg0.win 3).blk t).view.set := by
  have h : (cfg0.win 3).Covers := by decide +kernel
  exact Pipeline.Window.Covers.cover (cfg0.win 3) h (Memref.isWhole_whole _) i

/-- The kernel's result array. -/
theorem array (c : Dev nD) : (dats m 0 c).arrAt 3 cfg0.N = launched m c := by
  refine (dats m 0 c).arrAt_eq_of_cover 3 _ (fun t _ => ?_) covered
  rw [Value.flushed3, cut_whole]
  funext y
  obtain ⟨r, l, rfl⟩ : ∃ (r : Fin 256) (l : Fin 3072), y = ix2 r l := ⟨y 0, y 1, by
    funext a
    fin_cases a <;> rfl⟩
  refine (outs_apply m c t r l).trans ?_
  exact congrArg (launched m c) (place_eq t r l).symm

end Kernel

/-! ## The reference -/

section Reference

open Cert.ProjCRefIdeal Cert.ProjCRefIdeal.Gen

/-- The reference's product of the normed rows with the weights. -/
def product (h : FVec Ideal S32768x1024 .f32) (g : FVec Ideal S1024 .f32) (w : FVec Ideal S1024x3072 .f32) : FVec Ideal S32768x3072 .f32 :=
  Host.dotGeneral dot_S32768x1024_S1024x3072_S32768x3072_1_0_0_1_n_n none (mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

theorem product_apply (h : FVec Ideal S32768x1024 .f32) (g : FVec Ideal S1024 .f32) (w : FVec Ideal S1024x3072 .f32) (r : Fin 32768) (l : Fin 3072) :
    product h g w (ix2 r l) = column h g w r l := by
  pointwise [product]
  rfl

/-- The reference's queries, keys and values, side by side. -/
def pieces (z : FVec Ideal S32768x3072 .f32) : FVec Ideal S32768x3072 .bf16 :=
  truncf .bf16 (concatenate S32768x3072 1 [⟨S32768x1024, mulf (extractStridedSlice S32768x1024 ![0, 0] z slices_S32768x3072_S32768x1024_0_0) (broadcastInDim S32768x1024 ![] bcast_S_S32768x1024 (constant S_ .f32 0x3E000000#32))⟩,
    ⟨S32768x1024, extractStridedSlice S32768x1024 ![0, 1024] z slices_S32768x3072_S32768x1024_0_1024⟩,
    ⟨S32768x1024, extractStridedSlice S32768x1024 ![0, 2048] z slices_S32768x3072_S32768x1024_0_2048⟩] concatenates_S32768x1024_S32768x1024_S32768x1024_S32768x3072_d1) bitsLt_bf16_f32

theorem pieces_apply (z : FVec Ideal S32768x3072 .f32) (r : Fin 32768) (l : Fin 3072) :
    pieces z (ix2 r l) = if l.val < 1024 then z (ix2 r l) * Proj.eighth else z (ix2 r l) := by
  pointwise [pieces]
  split
  · rfl
  · split
    · exact congrArg (fun a => z (ix2 r a)) (Fin.ext (by show 1024 + (l.val - 1024) = l.val; omega))
    · exact congrArg (fun a => z (ix2 r a)) (Fin.ext (by show 2048 + (l.val - 1024 - 1024) = l.val; omega))

/-- The reference's operations, composed. -/
def composed (h : FVec Ideal S32768x1024 .f32) (g : FVec Ideal S1024 .f32) (w : FVec Ideal S1024x3072 .f32) : FVec Ideal S32768x3072 .bf16 :=
  pieces (product h g w)

theorem composed_apply (h : FVec Ideal S32768x1024 .f32) (g : FVec Ideal S1024 .f32) (w : FVec Ideal S1024x3072 .f32) (r : Fin 32768) (l : Fin 3072) :
    composed h g w (ix2 r l) = result h g w r l := by
  refine (pieces_apply _ r l).trans ?_
  rw [product_apply]
  rfl

end Reference

end Cert.ProjCValue

end
-- ==== Proof.RouterChoice.lean ====
/- The router's choices on one row: the first of the greatest elements of a row of logits, however it is found, and the weights of the two experts
   that are chosen. -/
module

public import Idealize.ShloMosaic.PureOps.Ideal
public import Idealize.ShloMosaic.Lib.Pointwise
public import proofs.«01_k».proof.Proof.Softmax

@[expose] public section

noncomputable section

namespace Cert.Choice

open Idealize.ShloMosaic

/-- Position `i` is the first of the greatest elements. -/
def IsFirst {n : Nat} (f : Fin n → EReal) (i : Fin n) : Prop := (∀ j, f j ≤ f i) ∧ ∀ j, f j = f i → i ≤ j

theorem exists_first {n : Nat} [NeZero n] (f : Fin n → EReal) : ∃ i, IsFirst f i := by
  obtain ⟨m, hm⟩ := Finite.exists_max f
  obtain ⟨i, hi, hmin⟩ := (Finset.univ.filter fun j => f j = f m).exists_min_image id ⟨m, by simp⟩
  have e : f i = f m := (Finset.mem_filter.mp hi).2
  refine ⟨i, fun j => e ▸ hm j, fun j hj => hmin j ?_⟩
  simp [hj, e]

/-- The first of the greatest elements. -/
def first {n : Nat} [NeZero n] (f : Fin n → EReal) : Fin n := Classical.choose (exists_first f)

theorem first_spec {n : Nat} [NeZero n] (f : Fin n → EReal) : IsFirst f (first f) := Classical.choose_spec (exists_first f)

section Found

variable {n : Nat} {f : Fin n → EReal} {i : Fin n}

theorem fold_max (h : IsFirst f i) : Finset.univ.fold max ⊥ f = f i :=
  le_antisymm (Finset.fold_max_le _ |>.mpr ⟨bot_le, fun j _ => h.1 j⟩) (Finset.le_fold_max _ |>.mpr (.inr ⟨i, Finset.mem_univ i, le_rfl⟩))

/-- The least label of a greatest element, where labels grow. -/
theorem fold_min (h : IsFirst f i) (w : Fin n → EReal) (b : EReal) (hw : ∀ j k, j ≤ k → w j ≤ w k) (hb : ∀ j, w j ≤ b) :
    Finset.univ.fold min ⊤ (fun x => if f x = f i then w x else b) = w i := by
  apply le_antisymm
  · exact Finset.fold_min_le _ |>.mpr (.inr ⟨i, Finset.mem_univ i, by simp⟩)
  · refine Finset.le_fold_min _ |>.mpr ⟨le_top, fun j _ => ?_⟩
    split
    · exact hw _ _ (h.2 j ‹_›)
    · exact hb i

theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.mp h]

theorem toInt_ofNat (k : Nat) (h : k < 2 ^ 31) : (BitVec.ofNat 32 k).toInt = k := by
  rw [BitVec.toInt_eq_toNat_cond, BitVec.toNat_ofNat, Nat.mod_eq_of_lt (by omega), if_pos (by omega)]

/-- The least index, as a word, of a greatest element. -/
theorem fold_minsi (h : IsFirst f i) (hn : n < 2 ^ 31) (b : BitVec 32) (hb : b = BitVec.ofNat 32 n) :
    Finset.univ.fold IntOp.minsi 2147483647#32 (fun x : Fin n => if f x = f i then BitVec.ofNat 32 x.val else b) = BitVec.ofNat 32 i.val := by
  apply BitVec.eq_of_toInt_eq
  rw [toInt_ofNat _ (by omega)]
  apply le_antisymm
  · have key := (Finset.fold_op_rel_iff_or (op := IntOp.minsi) (r := fun c x : BitVec 32 => x.toInt ≤ c.toInt) (fun {x y z} => by
      show (IntOp.minsi y z).toInt ≤ x.toInt ↔ _
      rw [toInt_minsi]; exact min_le_iff) (b := 2147483647#32) (f := fun x : Fin n => if f x = f i then BitVec.ofNat 32 x.val else b)
      (s := Finset.univ) (c := BitVec.ofNat 32 i.val)).mpr (.inr ⟨i, Finset.mem_univ i, by simp⟩)
    rw [toInt_ofNat _ (by omega)] at key
    exact key
  · have key := (Finset.fold_op_rel_iff_and (op := IntOp.minsi) (r := fun c x : BitVec 32 => c.toInt ≤ x.toInt) (fun {x y z} => by
      show x.toInt ≤ (IntOp.minsi y z).toInt ↔ _
      rw [toInt_minsi]; exact le_min_iff) (b := 2147483647#32) (f := fun x : Fin n => if f x = f i then BitVec.ofNat 32 x.val else b)
      (s := Finset.univ) (c := BitVec.ofNat 32 i.val)).mpr ⟨by
        rw [toInt_ofNat _ (by omega)]
        have : (2147483647#32 : BitVec 32).toInt = 2147483647 := by decide
        omega, fun j _ => by
        rw [toInt_ofNat _ (by omega)]
        split
        · rw [toInt_ofNat _ (by omega)]
          have := h.2 j ‹_›
          exact_mod_cast this
        · rw [hb, toInt_ofNat _ (by omega)]
          omega⟩
    rw [toInt_ofNat _ (by omega)] at key
    exact key

/-- The first greatest element of a row, found in a wider row that holds it in order and nothing else. -/
theorem IsFirst.wider (h : IsFirst f i) {k : Nat} (σ : Fin n → Fin k) (F : Fin k → EReal) (hσ : ∀ a b, a ≤ b → σ a ≤ σ b)
    (hF : ∀ a, F (σ a) = f a) (hout : ∀ x, (∀ a, σ a ≠ x) → F x = ⊥) (hi : f i ≠ ⊥) : IsFirst F (σ i) := by
  rw [IsFirst, hF]
  refine ⟨fun x => ?_, fun x hx => ?_⟩
  · by_cases hx : ∀ a, σ a ≠ x
    · rw [hout x hx]; exact bot_le
    · push Not at hx
      obtain ⟨a, rfl⟩ := hx
      rw [hF]; exact h.1 a
  · by_cases hn : ∀ a, σ a ≠ x
    · exact absurd ((hout x hn).symm.trans hx).symm hi
    · push Not at hn
      obtain ⟨a, rfl⟩ := hn
      rw [hF] at hx
      exact hσ _ _ (h.2 a hx)

/-- The order of a row decides its first greatest element. -/
theorem IsFirst.order (h : IsFirst f i) (g : Fin n → EReal) (hg : ∀ a b, g a ≤ g b ↔ f a ≤ f b) : IsFirst g i := by
  refine ⟨fun j => (hg j i).mpr (h.1 j), fun j hj => h.2 j (le_antisymm (h.1 j) ?_)⟩
  exact (hg i j).mp hj.ge

end Found

/-- A row without its element `i`. -/
def without {n : Nat} (f : Fin n → EReal) (i : Fin n) (j : Fin n) : EReal := if j = i then ⊥ else f j

theorem first_ne {e : Fin 8 → EReal} {i k : Fin 8} (he : ∀ j, e j ≠ ⊥) (h : IsFirst (without e i) k) : k ≠ i := by
  rintro rfl
  obtain ⟨j, hj⟩ : ∃ j : Fin 8, j ≠ k := by
    have all : ∀ k : Fin 8, ∃ j, j ≠ k := by decide
    exact all k
  have := h.1 j
  simp only [without, if_neg hj, if_true, le_bot_iff] at this
  exact he j this

/-- The probability of the group `g`. -/
def chance (L : Fin 4 → EReal) (g : Fin 4) : EReal := Ideal.div 1 (∑ j, Ideal.exp (L j - L g))

/-- The second expert's weight over the first's. -/
def odds (e : Fin 8 → EReal) (i k : Fin 8) : EReal := Ideal.exp (e k - e i)

/-- The weights of the first expert `i` and of the second expert `k`, in a group of probability `p`. -/
def weight (p : EReal) (e : Fin 8 → EReal) (i k : Fin 8) : EReal := Ideal.div p (1 + odds e i k)
def weight' (p : EReal) (e : Fin 8 → EReal) (i k : Fin 8) : EReal := Ideal.div (p * odds e i k) (1 + odds e i k)

/-- The weight in lane `l`: lane 0 has the lower expert's, the others the higher's. -/
def laned (l : Fin 128) (i k : Fin 8) (w w' : EReal) : EReal :=
  if l = 0 then (if i < k then w else w') else (if i < k then w' else w)

/-- The number of the class of group `g` and experts `i`, `k`. -/
def number (g : Fin 4) (i k : Fin 8) : Nat := 28 * g.val + ((min i k).val * (15 - (min i k).val) / 2 + ((max i k).val - (min i k).val - 1))

/-- The choices of a row: a group, and two of its experts. -/
structure Chosen (L : Fin 4 → EReal) (E : Fin 4 → Fin 8 → EReal) (g : Fin 4) (i k : Fin 8) : Prop where
  group : IsFirst L g
  one : IsFirst (E g) i
  two : IsFirst (without (E g) i) k

def group (L : Fin 4 → EReal) : Fin 4 := first L
def one (L : Fin 4 → EReal) (E : Fin 4 → Fin 8 → EReal) : Fin 8 := first (E (group L))
def two (L : Fin 4 → EReal) (E : Fin 4 → Fin 8 → EReal) : Fin 8 := first (without (E (group L)) (one L E))

theorem chosen (L : Fin 4 → EReal) (E : Fin 4 → Fin 8 → EReal) : Chosen L E (group L) (one L E) (two L E) :=
  ⟨first_spec _, first_spec _, first_spec _⟩

/-- The class of a row. -/
def classWord (L : Fin 4 → EReal) (E : Fin 4 → Fin 8 → EReal) : BitVec 32 := BitVec.ofNat 32 (number (group L) (one L E) (two L E))

/-- The weight of a row in lane `l`. -/
def laneWeight (L : Fin 4 → EReal) (E : Fin 4 → Fin 8 → EReal) (l : Fin 128) : EReal :=
  laned l (one L E) (two L E) (weight (chance L (group L)) (E (group L)) (one L E) (two L E))
    (weight' (chance L (group L)) (E (group L)) (one L E) (two L E))

/-! ## The reference's probabilities -/

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_real (a : ℝ) : Ideal.exp (a : EReal) = ((Real.exp a : ℝ) : EReal) := rfl

/-- The probability of element `j` in a row whose greatest element is `f i`. -/
def soft {n : Nat} (f : Fin n → EReal) (i j : Fin n) : EReal := Ideal.div (Ideal.exp (f j - f i)) (∑ k, Ideal.exp (f k - f i))

section Soft

variable {n : Nat} (x : Fin n → ℝ) (i : Fin n)

def total : ℝ := ∑ k, Real.exp (x k - x i)

theorem total_pos : 0 < total x i := Finset.sum_pos (fun _ _ => Real.exp_pos _) ⟨i, Finset.mem_univ i⟩

theorem sum_exp : ∑ k, Ideal.exp ((x k : EReal) - (x i : EReal)) = ((total x i : ℝ) : EReal) := by
  unfold total
  rw [Softmax.coe_sum]
  exact Finset.sum_congr rfl fun k _ => by rw [← EReal.coe_sub, exp_real]

theorem soft_real (j : Fin n) : soft (fun k => (x k : EReal)) i j = ((Real.exp (x j - x i) / total x i : ℝ) : EReal) := by
  unfold soft
  simp only []
  rw [sum_exp, ← EReal.coe_sub, exp_real, div_real _ _ (total_pos x i).ne']

theorem soft_le (a b : Fin n) : soft (fun k => (x k : EReal)) i a ≤ soft (fun k => (x k : EReal)) i b ↔ (x a : EReal) ≤ (x b : EReal) := by
  rw [soft_real, soft_real, EReal.coe_le_coe_iff, EReal.coe_le_coe_iff, div_le_div_iff_of_pos_right (total_pos x i), Real.exp_le_exp]
  exact sub_le_sub_iff_right _

theorem soft_first {f : Fin n → EReal} (hf : ∀ k, f k = (x k : EReal)) {a : Fin n} (h : IsFirst f a) : IsFirst (soft f i) a := by
  obtain rfl : f = fun k => (x k : EReal) := funext hf
  exact h.order _ fun a b => soft_le x i a b

theorem soft_second {f : Fin n → EReal} (hf : ∀ k, f k = (x k : EReal)) {j a : Fin n} (h : IsFirst (without f j) a) : IsFirst (without (soft f i) j) a := by
  obtain rfl : f = fun k => (x k : EReal) := funext hf
  refine h.order _ fun a b => ?_
  unfold without
  by_cases ha : a = j
  · simp [ha]
  · by_cases hb : b = j
    · simp [ha, hb, soft_real]
    · simpa [ha, hb] using soft_le x i a b

end Soft

theorem soft_self {n : Nat} {f : Fin n → EReal} (x : Fin n → ℝ) (hf : ∀ k, f k = (x k : EReal)) (i : Fin n) :
    soft f i i = Ideal.div 1 (∑ k, Ideal.exp (f k - f i)) := by
  unfold soft
  rw [hf i, ← EReal.coe_sub, sub_self, exp_real, Real.exp_zero]
  rfl

section Weights

variable {e : Fin 8 → EReal} (x : Fin 8 → ℝ) (hx : ∀ j, e j = (x j : EReal)) (i k : Fin 8)

include hx

theorem weight_eq (p : ℝ) : Ideal.div (soft e i i) (soft e i i + soft e i k) * (p : EReal) = weight (p : EReal) e i k := by
  obtain rfl : e = fun j => (x j : EReal) := funext hx
  unfold weight odds
  have ht := total_pos x i
  have he := Real.exp_pos (x k - x i)
  rw [soft_real, soft_real, ← EReal.coe_add, ← EReal.coe_sub, exp_real, ← EReal.coe_one, ← EReal.coe_add, sub_self, Real.exp_zero,
    div_real _ _ (by positivity), div_real _ _ (by positivity), ← EReal.coe_mul]
  congr 1
  field_simp

theorem weight'_eq (p : ℝ) : Ideal.div (soft e i k) (soft e i i + soft e i k) * (p : EReal) = weight' (p : EReal) e i k := by
  obtain rfl : e = fun j => (x j : EReal) := funext hx
  unfold weight' odds
  have ht := total_pos x i
  have he := Real.exp_pos (x k - x i)
  rw [soft_real, soft_real, ← EReal.coe_add, ← EReal.coe_sub, exp_real, ← EReal.coe_one, ← EReal.coe_add, sub_self, Real.exp_zero, ← EReal.coe_mul,
    div_real _ _ (by positivity), div_real _ _ (by positivity), ← EReal.coe_mul]
  congr 1
  field_simp

end Weights

theorem chance_real {L : Fin 4 → EReal} (x : Fin 4 → ℝ) (hx : ∀ j, L j = (x j : EReal)) (g : Fin 4) : ∃ p : ℝ, chance L g = (p : EReal) := by
  obtain rfl : L = fun j => (x j : EReal) := funext hx
  refine ⟨1 / total x g, ?_⟩
  unfold chance
  rw [sum_exp, ← EReal.coe_one, div_real _ _ (total_pos x g).ne']

/-! ## The class from the lanes -/

/-- A number as an extended real. -/
abbrev num (k : Nat) : EReal := ((k : ℝ) : EReal)

/-- The lane of expert `a` of group `g`. -/
def lane (g : Fin 4) (a : Fin 8) : Fin 128 := ⟨4 + 8 * g.val + a.val, by omega⟩

theorem lane_le (g : Fin 4) (a b : Fin 8) : lane g a ≤ lane g b ↔ a ≤ b := by
  show 4 + 8 * g.val + a.val ≤ 4 + 8 * g.val + b.val ↔ a.val ≤ b.val
  omega

theorem num_le (a b : Nat) : num a ≤ num b ↔ a ≤ b := by
  rw [EReal.coe_le_coe_iff, Nat.cast_le]

theorem num_lt (a b : Nat) : num a < num b ↔ a < b := by
  rw [EReal.coe_lt_coe_iff, Nat.cast_lt]

theorem num_inj (a b : Nat) : num a = num b ↔ a = b := by
  rw [EReal.coe_eq_coe_iff, Nat.cast_inj]

theorem min_lane (g : Fin 4) (i k : Fin 8) : min (num (lane g i).val) (num (lane g k).val) = num (lane g (min i k)).val := by
  rcases le_total i k with h | h
  · rw [min_eq_left h, min_eq_left ((num_le _ _).mpr ((lane_le g i k).mpr h))]
  · rw [min_eq_right h, min_eq_right ((num_le _ _).mpr ((lane_le g k i).mpr h))]

theorem max_lane (g : Fin 4) (i k : Fin 8) : max (num (lane g i).val) (num (lane g k).val) = num (lane g (max i k)).val := by
  rcases le_total i k with h | h
  · rw [max_eq_right h, max_eq_right ((num_le _ _).mpr ((lane_le g i k).mpr h))]
  · rw [max_eq_left h, max_eq_left ((num_le _ _).mpr ((lane_le g k i).mpr h))]

/-- The expert of a lane. -/
theorem offset (g : Fin 4) (a : Fin 8) : num (lane g a).val - num 4 - num 8 * num g.val = num a.val := by
  unfold num lane
  rw [← EReal.coe_sub, ← EReal.coe_mul, ← EReal.coe_sub]
  congr 1
  push_cast
  ring

theorem halves : ∀ a : Fin 8, 2 * (a.val * (15 - a.val) / 2) = a.val * (15 - a.val) := by decide

/-- The number of the class, in the numbers that the lanes are. -/
theorem number_eq (g : Fin 4) (i k : Fin 8) (hne : k ≠ i) :
    num g.val * num 28 + (num (min i k).val * (num 15 - num (min i k).val) * ((1 / 2 : ℝ) : EReal) + (num (max i k).val - num (min i k).val - 1))
      = num (number g i k) := by
  have hlt : (min i k).val + 1 ≤ (max i k).val := by
    have : min i k < max i k := min_lt_max.mpr hne.symm
    exact this
  have h0 := halves (min i k)
  unfold num number
  generalize min i k = lo at *
  generalize max i k = hi at *
  have h2 : (2 : ℝ) * ((lo.val * (15 - lo.val) / 2 : ℕ) : ℝ) = (lo.val : ℝ) * (15 - (lo.val : ℝ)) := by
    have := h0
    have h15 : (((15 - lo.val : ℕ)) : ℝ) = 15 - (lo.val : ℝ) := by
      rw [Nat.cast_sub (by omega)]; norm_num
    rw [← h15]
    exact_mod_cast this
  have h3 : (((hi.val - lo.val - 1 : ℕ)) : ℝ) = (hi.val : ℝ) - (lo.val : ℝ) - 1 := by
    rw [Nat.cast_sub (by omega), Nat.cast_sub (by omega)]; norm_num
  rw [← EReal.coe_one, ← EReal.coe_mul, ← EReal.coe_sub, ← EReal.coe_mul, ← EReal.coe_mul, ← EReal.coe_sub, ← EReal.coe_sub, ← EReal.coe_add, ← EReal.coe_add]
  congr 1
  push_cast [h3]
  push_cast at h2
  linarith

theorem number_lt (g : Fin 4) (i k : Fin 8) : number g i k < 2 ^ 31 := by
  have h := halves (min i k)
  have : (min i k).val * (15 - (min i k).val) ≤ 8 * 15 := Nat.mul_le_mul (by omega) (by omega)
  unfold number
  omega

end Cert.Choice

end
-- ==== Proof.RouterKernel.lean ====
/- The router's body on one row of its block: the class of the row's choices, and their weights. -/
module

public import proofs.«01_k».proof.Proof.RouterChoice
public import proofs.«01_k».proof.Proof.ProjSums
public import proofs.«01_k».proof.Proof.Gen.RouterIdeal.Value
public import Idealize.ShloMosaic.Lib.Pipeline.ValueKit

@[expose] public section

set_option maxRecDepth 4096

noncomputable section

namespace Cert.RouterKernel

open Idealize.ShloMosaic Idealize.ShloMosaic.TcCoe Cert.Choice
open Cert.RouterIdeal Cert.RouterIdeal.Gen

/-- The lane of group `j`. -/
def low (j : Fin 4) : Fin 128 := ⟨j.val, by omega⟩

/-- A row of logits: those of the groups `L`, then those of the experts `E`. -/
structure Row (x : Fin 128 → EReal) (L : Fin 4 → EReal) (E : Fin 4 → Fin 8 → EReal) : Prop where
  group : ∀ j, x (low j) = L j
  expert : ∀ g a, x (lane g a) = E g a
  group_ne : ∀ j, L j ≠ ⊥
  expert_ne : ∀ g a, E g a ≠ ⊥

/-! ## Constants -/

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_128 : Ideal.ofBits .f32 0x43000000#32 = num 128 := by
  simp [Ideal.ofBits, Ideal.ieee]; rw [← EReal.coe_mul]; norm_num; try rfl
theorem bits_4 : Ideal.ofBits .f32 0x40800000#32 = num 4 := by
  simp [Ideal.ofBits, Ideal.ieee]; rw [← EReal.coe_mul]; norm_num; try rfl
theorem bits_8 : Ideal.ofBits .f32 0x41000000#32 = num 8 := by
  simp [Ideal.ofBits, Ideal.ieee]; rw [← EReal.coe_mul]; norm_num; try rfl
theorem bits_15 : Ideal.ofBits .f32 0x41700000#32 = num 15 := by
  simp [Ideal.ofBits, Ideal.ieee]; rw [← EReal.coe_mul]; norm_num; try rfl
theorem bits_28 : Ideal.ofBits .f32 0x41E00000#32 = num 28 := by
  simp [Ideal.ofBits, Ideal.ieee]; rw [← EReal.coe_mul]; norm_num; try rfl
theorem bits_half : Ideal.ofBits .f32 0x3F000000#32 = ((1 / 2 : ℝ) : EReal) := by
  simp [Ideal.ofBits, Ideal.ieee]; rw [← EReal.coe_mul]; norm_num; try rfl

theorem select_bit {α : Type} (p : Prop) [Decidable p] (a b : α) : Scalar.select (BitVec.ofBool (decide p)) a b = if p then a else b := by
  by_cases h : p <;> simp [h, Scalar.select]

theorem word (k : Nat) (h : k < 2 ^ 31) : FloatOps.sitofp (F := Ideal) .f32 (BitVec.ofNat 32 k) = num k := by
  show (((BitVec.ofNat 32 k).toInt : ℝ) : EReal) = num k
  rw [toInt_ofNat k h]
  rfl

/-- A number's word. -/
theorem to_word (k : Nat) (h : k < 2 ^ 31) : FloatOps.fptosi (F := Ideal) (φ := .f32) 32 (num k) = BitVec.ofNat 32 k := by
  show Ideal.fptosi 32 (num k) = _
  unfold Ideal.fptosi
  rw [Ideal.toIntClamped_coe, if_pos (Nat.cast_nonneg k), Int.floor_natCast, min_eq_right (by norm_num; omega), max_eq_right (by norm_num)]
  exact BitVec.ofInt_natCast ..

/-! ## The group -/

section Body

variable (y0 : Vec Ideal S256x1024 .f32) (y1 : Vec Ideal S1x1024 .f32) (y2 : Vec Ideal S1024x128 .f32) (y3 : Vec Ideal S1x128 .f32) (r : Fin 256)
variable {L : Fin 4 → EReal} {E : Fin 4 → Fin 8 → EReal} {g : Fin 4} {i k : Fin 8}
variable (hx : Row (fun l => k0_pay3 y0 y1 y2 y3 (ix2 r l)) L E) (hc : Chosen L E g i k)

theorem number_lane (l : Fin 128) : k0_pay4 (F := Ideal) (ix2 0 l) = num l.val := by
  pointwise [k0_pay4]
  exact word _ (by omega)

theorem is_low : ∀ l : Fin 128, IntOp.cmpi CmpIPredicate.slt (BitVec.ofNat 32 l.val) 4#32 = BitVec.ofBool (decide (l.val < 4)) := by decide

theorem is_zero : ∀ l : Fin 128, IntOp.cmpi CmpIPredicate.eq (BitVec.ofNat 32 l.val) 0#32 = BitVec.ofBool (decide (l = 0)) := by decide

theorem masked_low (l : Fin 128) : k0_pay6 y0 y1 y2 y3 (ix2 r l) = if l.val < 4 then k0_pay3 y0 y1 y2 y3 (ix2 r l) else ⊥ := by
  pointwise [k0_pay6, k0_pay5]
  rw [is_low, select_bit, bits_bot]

include hx hc

theorem group_first : IsFirst (fun l => k0_pay6 y0 y1 y2 y3 (ix2 r l)) (low g) := by
  refine hc.group.wider low _ (fun a b h => h) (fun a => ?_) (fun x h => ?_) (hx.group_ne g)
  · rw [masked_low, if_pos (show (low a).val < 4 from a.isLt)]
    exact hx.group a
  · rw [masked_low, if_neg fun h4 => h ⟨x.val, h4⟩ rfl]

theorem group_logit : k0_pay7 y0 y1 y2 y3 (ix2 r 0) = L g := by
  pointwise [k0_pay7]
  rw [bits_bot, fold_max (group_first y0 y1 y2 y3 r hx hc), masked_low, if_pos (show (low g).val < 4 from g.isLt)]
  exact hx.group g

theorem group_masked : k0_pay6 y0 y1 y2 y3 (ix2 r (low g)) = L g := by
  rw [masked_low, if_pos (show (low g).val < 4 from g.isLt)]
  exact hx.group g

theorem group_number : k0_pay8 y0 y1 y2 y3 (ix2 r 0) = num g.val := by
  pointwise [k0_pay8]
  rw [group_logit y0 y1 y2 y3 r hx hc, bits_top, bits_128]
  rw [← group_masked y0 y1 y2 y3 r hx hc]
  refine (fold_min (group_first y0 y1 y2 y3 r hx hc) (fun x => k0_pay4 (F := Ideal) (ix2 0 x)) _ (fun a b h => ?_) fun a => ?_).trans (number_lane _)
  · rw [number_lane, number_lane]; exact (num_le _ _).mpr h
  · rw [number_lane]; exact (num_le _ _).mpr (by omega)

theorem group_chance : k0_pay10 k0_pay5 (k0_pay9 y0 y1 y2 y3) (ix2 r 0) = chance L g := by
  pointwise [k0_pay10, k0_pay5, k0_pay9]
  unfold chance
  congr 1
  rw [group_logit y0 y1 y2 y3 r hx hc]
  simp only [is_low, select_bit]
  refine (Fin.sum_univ_add (a := 4) (b := 124) _).trans ?_
  rw [Finset.sum_eq_zero (s := (Finset.univ : Finset (Fin 124))) fun j _ => if_neg (by simp), add_zero]
  refine Finset.sum_congr rfl fun j _ => ?_
  rw [if_pos (by simp)]
  exact congrArg (fun z => Ideal.exp (z - L g)) (hx.group j)

omit hx hc

/-! ## The experts -/

/-- The group of a lane's expert, as the body computes it from the lane's word. -/
def groupWord (w : BitVec 32) : BitVec 32 :=
  Scalar.select
    (IntOp.andi
      (IntOp.cmpi CmpIPredicate.ne
        (IntOp.subi (BitVec.setWidth 32 (IntOp.cmpi CmpIPredicate.sgt (IntOp.subi w 4#32) 0#32)) (BitVec.setWidth 32 (IntOp.cmpi CmpIPredicate.slt (IntOp.subi w 4#32) 0#32)))
        (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector (IntOp.subi w 4#32) 8#32) 0#32))
    (IntOp.subi (IntOp.divsi ArithUnit.vector (IntOp.subi w 4#32) 8#32) 1#32)
    (IntOp.divsi ArithUnit.vector (IntOp.subi w 4#32) 8#32)

theorem groupWord_eq : ∀ l : Fin 128, 4 ≤ l.val → l.val < 36 → groupWord (BitVec.ofNat 32 l.val) = BitVec.ofNat 32 ((l.val - 4) / 8) := by decide +kernel

theorem is_expert : ∀ l : Fin 128, IntOp.andi (IntOp.cmpi CmpIPredicate.sge (BitVec.ofNat 32 l.val) 4#32) (IntOp.cmpi CmpIPredicate.slt (BitVec.ofNat 32 l.val) 36#32)
    = BitVec.ofBool (decide (4 ≤ l.val ∧ l.val < 36)) := by decide +kernel

/-- The lanes of the experts of group `g`. -/
def Inside (g : Fin 4) (l : Fin 128) : Prop := 4 + 8 * g.val ≤ l.val ∧ l.val < 12 + 8 * g.val

instance (g : Fin 4) (l : Fin 128) : Decidable (Inside g l) := by unfold Inside; infer_instance

theorem inside_lane (g : Fin 4) (a : Fin 8) : Inside g (lane g a) := by
  unfold Inside lane
  simp only []
  omega

theorem outside (g : Fin 4) (z : Fin 128) (h : ∀ a, lane g a ≠ z) : ¬Inside g z := by
  unfold Inside
  intro hz
  exact h ⟨z.val - (4 + 8 * g.val), by omega⟩ (Fin.ext (by show 4 + 8 * g.val + (z.val - (4 + 8 * g.val)) = z.val; omega))

theorem bits_and : ∀ p q : Bool, IntOp.andi (BitVec.ofBool p) (BitVec.ofBool q) = BitVec.ofBool (p && q) := by decide

theorem inside_apply (v39 : FVec Ideal S256x1 .f32) (h : v39 (ix2 r 0) = num g.val) (l : Fin 128) :
    k0_pay11 (F := Ideal) (iota .tc S1x128 32 [1] iota_S1x128_d1_w32) v39 (ix2 r l) = BitVec.ofBool (decide (Inside g l)) := by
  pointwise [k0_pay11]
  rw [is_expert, h]
  show IntOp.andi _ (BitVec.ofBool (decide (FloatOps.sitofp (F := Ideal) FTy.f32 (groupWord (BitVec.ofNat 32 l.val)) = num g.val))) = _
  rw [bits_and]
  congr 1
  by_cases hl : 4 ≤ l.val ∧ l.val < 36
  · rw [groupWord_eq l hl.1 hl.2, word _ (by omega), decide_eq_true hl, Bool.true_and]
    refine decide_eq_decide.mpr ((num_inj _ _).trans ?_)
    unfold Inside
    omega
  · rw [decide_eq_false hl, Bool.false_and, decide_eq_false]
    unfold Inside
    omega

variable (x : FVec Ideal S256x128 .f32) (v23 : FVec Ideal S1x128 .f32) (v50 v39 : FVec Ideal S256x1 .f32) (v87 : IVec S256x128 1) (cst : EReal) (p : EReal)
variable (hr : Row (fun l => x (ix2 r l)) L E) (hb : cst = ⊥) (h87 : ∀ l, v87 (ix2 r l) = BitVec.ofBool (decide (Inside g l)))
variable (h23 : ∀ l, v23 (ix2 0 l) = num l.val) (h50 : v50 (ix2 r 0) = p) (h39 : v39 (ix2 r 0) = num g.val)

include hb h87

theorem masked_experts (l : Fin 128) : k0_pay12 (F := Ideal) x v87 cst (ix2 r l) = if Inside g l then x (ix2 r l) else ⊥ := by
  pointwise [k0_pay12]
  rw [h87, select_bit, hb]

include hr

theorem expert_masked (a : Fin 8) : k0_pay12 (F := Ideal) x v87 cst (ix2 r (lane g a)) = E g a := by
  rw [masked_experts r x v87 cst hb h87, if_pos (inside_lane g a)]
  exact hr.expert g a

include hc

theorem one_first : IsFirst (fun l => k0_pay12 (F := Ideal) x v87 cst (ix2 r l)) (lane g i) := by
  refine hc.one.wider (lane g) _ (fun a b h => (lane_le g a b).mpr h) (fun a => expert_masked r x v87 cst hr hb h87 a) (fun z h => ?_) (hr.expert_ne g i)
  exact (masked_experts r x v87 cst hb h87 z).trans (if_neg (outside g z h))

theorem one_logit : k0_pay13 (F := Ideal) x v87 cst (ix2 r 0) = E g i := by
  pointwise [k0_pay13]
  rw [bits_bot, fold_max (one_first r hc x v87 cst hr hb h87)]
  exact expert_masked r x v87 cst hr hb h87 i

include h23

theorem one_lane : k0_pay14 (F := Ideal) x v23 v87 cst (ix2 r 0) = num (lane g i).val := by
  pointwise [k0_pay14]
  rw [one_logit r hc x v87 cst hr hb h87, bits_top, bits_128, ← expert_masked r x v87 cst hr hb h87 i]
  refine (fold_min (one_first r hc x v87 cst hr hb h87) (fun z => v23 (ix2 0 z)) _ (fun a b h => ?_) fun a => ?_).trans (h23 _)
  · rw [h23, h23]; exact (num_le _ _).mpr h
  · rw [h23]; exact (num_le _ _).mpr (by omega)

theorem rest_apply (l : Fin 128) : k0_pay15 (F := Ideal) x v23 v87 cst (ix2 r l) = if l = lane g i then ⊥ else k0_pay12 (F := Ideal) x v87 cst (ix2 r l) := by
  pointwise [k0_pay15]
  rw [one_lane r hc x v23 v87 cst hr hb h87 h23, h23, bits_bot]
  by_cases h : l = lane g i
  · rw [if_pos h, if_pos (by rw [h])]
  · rw [if_neg h, if_neg fun e => h (Fin.ext ((num_inj _ _).mp e))]

theorem rest_masked (a : Fin 8) : k0_pay15 (F := Ideal) x v23 v87 cst (ix2 r (lane g a)) = without (E g) i a := by
  rw [rest_apply r hc x v23 v87 cst hr hb h87 h23, expert_masked r x v87 cst hr hb h87]
  unfold without
  by_cases h : a = i
  · rw [if_pos h, if_pos (by rw [h])]
  · rw [if_neg h, if_neg fun e => h (le_antisymm ((lane_le g _ _).mp e.le) ((lane_le g _ _).mp e.ge))]

theorem second_ne : k ≠ i := first_ne (hr.expert_ne g) hc.two

theorem two_first : IsFirst (fun l => k0_pay15 (F := Ideal) x v23 v87 cst (ix2 r l)) (lane g k) := by
  refine hc.two.wider (lane g) _ (fun a b h => (lane_le g a b).mpr h) (fun a => rest_masked r hc x v23 v87 cst hr hb h87 h23 a) (fun z h => ?_) ?_
  · refine (rest_apply r hc x v23 v87 cst hr hb h87 h23 z).trans ?_
    rw [if_neg fun e => h i e.symm, masked_experts r x v87 cst hb h87 z, if_neg (outside g z h)]
  · unfold without
    rw [if_neg (second_ne r hc x v23 v87 cst hr hb h87 h23)]
    exact hr.expert_ne g k

theorem two_logit : k0_pay16 (F := Ideal) x v23 v87 cst (ix2 r 0) = E g k := by
  pointwise [k0_pay16]
  rw [bits_bot, fold_max (two_first r hc x v23 v87 cst hr hb h87 h23)]
  refine (rest_masked r hc x v23 v87 cst hr hb h87 h23 k).trans ?_
  unfold without
  exact if_neg (second_ne r hc x v23 v87 cst hr hb h87 h23)

theorem two_masked : k0_pay15 (F := Ideal) x v23 v87 cst (ix2 r (lane g k)) = E g k := by
  refine (rest_masked r hc x v23 v87 cst hr hb h87 h23 k).trans ?_
  unfold without
  exact if_neg (second_ne r hc x v23 v87 cst hr hb h87 h23)

theorem two_lane : k0_pay17 (F := Ideal) x v23 v87 cst (ix2 r 0) = num (lane g k).val := by
  pointwise [k0_pay17]
  rw [two_logit r hc x v23 v87 cst hr hb h87 h23, bits_top, bits_128, ← two_masked r hc x v23 v87 cst hr hb h87 h23]
  refine (fold_min (two_first r hc x v23 v87 cst hr hb h87 h23) (fun z => v23 (ix2 0 z)) _ (fun a b h => ?_) fun a => ?_).trans (h23 _)
  · rw [h23, h23]; exact (num_le _ _).mpr h
  · rw [h23]; exact (num_le _ _).mpr (by omega)

theorem odds_apply : k0_pay18 (F := Ideal) x v23 v87 cst (ix2 r 0) = odds (E g) i k := by
  pointwise [k0_pay18]
  rw [two_logit r hc x v23 v87 cst hr hb h87 h23, one_logit r hc x v87 cst hr hb h87]
  rfl

include h50 in
theorem weight_apply : k0_pay19 (F := Ideal) x v23 v50 v87 cst (ix2 r 0) = weight p (E g) i k := by
  pointwise [k0_pay19]
  rw [odds_apply r hc x v23 v87 cst hr hb h87 h23, h50]
  rfl

include h50 in
theorem weight'_apply : k0_pay20 (F := Ideal) x v23 v50 v87 cst (ix2 r 0) = weight' p (E g) i k := by
  pointwise [k0_pay20]
  rw [odds_apply r hc x v23 v87 cst hr hb h87 h23, h50]
  rfl

include h39 in
theorem lower_apply : k0_pay21 (F := Ideal) x v23 v39 v87 cst (ix2 r 0) = num (min i k).val := by
  pointwise [k0_pay21]
  rw [one_lane r hc x v23 v87 cst hr hb h87 h23, two_lane r hc x v23 v87 cst hr hb h87 h23, h39, bits_4, bits_8, min_lane, offset]

theorem higher_apply : k0_pay22 (F := Ideal) x v23 v87 cst (ix2 r 0) = num (lane g (max i k)).val - num 4 := by
  pointwise [k0_pay22]
  rw [one_lane r hc x v23 v87 cst hr hb h87 h23, two_lane r hc x v23 v87 cst hr hb h87 h23, bits_4, max_lane]

include h39 in
theorem class_apply (l : Fin 128) : k0_pay1 (F := Ideal) v39 (k0_pay21 x v23 v39 v87 cst) (k0_pay22 x v23 v87 cst) (k0_pay23 v39) (ix2 r l) = BitVec.ofNat 32 (number g i k) := by
  pointwise [k0_pay1]
  rw [lower_apply r hc x v23 v39 v87 cst hr hb h87 h23 h39, higher_apply r hc x v23 v87 cst hr hb h87 h23]
  pointwise [k0_pay23]
  rw [h39, bits_8, offset, bits_28, bits_15, bits_half, number_eq g i k (second_ne r hc x v23 v87 cst hr hb h87 h23)]
  exact to_word _ (number_lt g i k)

include h50 in
theorem weights_apply (l : Fin 128) : k0_pay2 (F := Ideal) (iota .tc S1x128 32 [1] iota_S1x128_d1_w32) (k0_pay14 x v23 v87 cst) (k0_pay17 x v23 v87 cst) (k0_pay19 x v23 v50 v87 cst)
    (k0_pay20 x v23 v50 v87 cst) (ix2 r l) = laned l i k (weight p (E g) i k) (weight' p (E g) i k) := by
  pointwise [k0_pay2]
  rw [weight_apply r hc x v23 v50 v87 cst p hr hb h87 h23 h50, weight'_apply r hc x v23 v50 v87 cst p hr hb h87 h23 h50,
    one_lane r hc x v23 v87 cst hr hb h87 h23, two_lane r hc x v23 v87 cst hr hb h87 h23]
  have e : num (lane g i).val < num (lane g k).val ↔ i < k := by
    rw [num_lt]
    show 4 + 8 * g.val + i.val < 4 + 8 * g.val + k.val ↔ i.val < k.val
    omega
  rw [is_zero, select_bit]
  unfold laned
  simp only [e]

end Body

section Block

variable (x0 : Vec Ideal S256x1024 .f32) (x1 : Vec Ideal S1x1024 .f32) (x2 : Vec Ideal S1024x128 .f32) (x3 : Vec Ideal S1x128 .f32) (r : Fin 256)
variable {L : Fin 4 → EReal} {E : Fin 4 → Fin 8 → EReal} {g : Fin 4} {i k : Fin 8}

/-- The logits of a row of the block. -/
def logit (x g w : Fin 1024 → EReal) (b : EReal) : EReal := Proj.column x g w + b

theorem logits_apply (l : Fin 128) : k0_pay25 x0 x1 x2 x3 (ix2 r l)
    = logit (fun k => x0 (ix2 r k)) (fun k => x1 (ix2 0 k)) (fun k => x2 (ix2 k l)) (x3 (ix2 0 l)) := by
  pointwise [k0_pay25, k0_pay3]
  rfl

variable (hx : Row (fun l => k0_pay25 x0 x1 x2 x3 (ix2 r l)) L E) (hc : Chosen L E g i k)

include hx hc

theorem inside_block (l : Fin 128) : k0_pay29 x0 x1 x2 x3 (ix2 r l) = BitVec.ofBool (decide (Inside g l)) :=
  inside_apply r _ (group_number _ _ _ _ r hx hc) l

theorem class_block (l : Fin 128) : out0_4 x0 x1 x2 x3 (ix2 r l) = BitVec.ofNat 32 (number g i k) := by
  unfold out0_4
  frame_out
  exact class_apply r hc _ _ _ _ _ hx bits_bot (inside_block x0 x1 x2 x3 r hx hc) (fun l => number_lane l) (group_number _ _ _ _ r hx hc) l

theorem weights_block (l : Fin 128) : out0_5 x0 x1 x2 x3 (ix2 r l) = laned l i k (weight (chance L g) (E g) i k) (weight' (chance L g) (E g) i k) := by
  unfold out0_5
  frame_out
  exact weights_apply r hc _ _ _ _ _ _ hx bits_bot (inside_block x0 x1 x2 x3 r hx hc) (fun l => number_lane l) (group_chance _ _ _ _ r hx hc) l

end Block

end Cert.RouterKernel

end
-- ==== Proof.RouterPre.lean ====
/- The router's precondition read: every element of its arguments is a number, and so is every logit. -/
module

public import proofs.«01_k».proof.Proof.BandPre
public import proofs.«01_k».proof.Proof.ProjSums
public import proofs.«01_k».proof.Proof.Softmax
public import proofs.«01_k».proof.Proof.Gen.Pre_numbers
public import Idealize.ShloMosaic.Lib.Pointwise
public import Idealize.ShloMosaic.Lib.ReduceAll

@[expose] public section

set_option maxRecDepth 16384

noncomputable section

namespace Cert.RouterPre

open Idealize.ShloMosaic Cert.Pre_numbers

/-- An extended real that is a number. -/
def Num (x : EReal) : Prop := ∃ r : ℝ, x = (r : EReal)

/-- The arguments of the router hold numbers. -/
structure Numbers (h : FVec Ideal S32768x1024 .f32) (g : FVec Ideal S1024 .f32) (wr : FVec Ideal S1024x4 .f32) (br : FVec Ideal S4 .f32)
    (we : FVec Ideal S1024x32 .f32) (be : FVec Ideal S32 .f32) : Prop where
  stream : ∀ r k, Num (h (ix2 r k))
  gains : ∀ k, Num (g (ix1 k))
  groups : ∀ k j, Num (wr (ix2 k j))
  groups' : ∀ j, Num (br (ix1 j))
  experts : ∀ k j, Num (we (ix2 k j))
  experts' : ∀ j, Num (be (ix1 j))

theorem numbers (h : FVec Ideal S32768x1024 .f32) (g : FVec Ideal S1024 .f32) (wr : FVec Ideal S1024x4 .f32) (br : FVec Ideal S4 .f32)
    (we : FVec Ideal S1024x32 .f32) (be : FVec Ideal S32 .f32)
    (e : (letI := Gen.facts; Cert.Pre_numbers.fn (F := Ideal) h g wr br we be) = fun _ => 1#1) : Numbers h g wr br we be := by
  letI := Gen.facts
  have : Subsingleton S_.Idx := ⟨fun a b => funext fun i => i.elim0⟩
  have e0 := congrFun e ix0
  obtain ⟨e1, h5⟩ := BandPre.both _ _ e0
  obtain ⟨e2, h4⟩ := BandPre.both _ _ e1
  obtain ⟨e3, h3⟩ := BandPre.both _ _ e2
  obtain ⟨e4, h2⟩ := BandPre.both _ _ e3
  obtain ⟨h0, h1⟩ := BandPre.both _ _ e4
  refine ⟨fun r k => ?_, fun k => ?_, fun k j => ?_, fun j => ?_, fun k j => ?_, fun j => ?_⟩
  · have q := Host.reduce_andi_all _ _ _ _ _ h0 (ix2 r k)
    pointwise at q
    rw [BandPre.ofBits_top] at q
    exact BandPre.number _ q
  · have q := Host.reduce_andi_all _ _ _ _ _ h1 (ix1 k)
    pointwise at q
    rw [BandPre.ofBits_top] at q
    exact BandPre.number _ q
  · have q := Host.reduce_andi_all _ _ _ _ _ h2 (ix2 k j)
    pointwise at q
    rw [BandPre.ofBits_top] at q
    exact BandPre.number _ q
  · have q := Host.reduce_andi_all _ _ _ _ _ h3 (ix1 j)
    pointwise at q
    rw [BandPre.ofBits_top] at q
    exact BandPre.number _ q
  · have q := Host.reduce_andi_all _ _ _ _ _ h4 (ix2 k j)
    pointwise at q
    rw [BandPre.ofBits_top] at q
    exact BandPre.number _ q
  · have q := Host.reduce_andi_all _ _ _ _ _ h5 (ix1 j)
    pointwise at q
    rw [BandPre.ofBits_top] at q
    exact BandPre.number _ q

/-! ## Logits -/

theorem Num.add {x y : EReal} (hx : Num x) (hy : Num y) : Num (x + y) := by
  obtain ⟨a, rfl⟩ := hx
  obtain ⟨b, rfl⟩ := hy
  exact ⟨a + b, (EReal.coe_add a b).symm⟩

theorem Num.mul {x y : EReal} (hx : Num x) (hy : Num y) : Num (x * y) := by
  obtain ⟨a, rfl⟩ := hx
  obtain ⟨b, rfl⟩ := hy
  exact ⟨a * b, (EReal.coe_mul a b).symm⟩

theorem Num.sum {n : Nat} {f : Fin n → EReal} (h : ∀ k, Num (f k)) : Num (∑ k, f k) := by
  choose r hr using h
  exact ⟨∑ k, r k, by rw [Softmax.coe_sum]; exact Finset.sum_congr rfl fun k _ => hr k⟩

theorem bits_features : Ideal.ofBits .f32 0x44800000#32 = ((1024 : ℝ) : EReal) := by
  simp [Ideal.ofBits, Ideal.ieee]
  rw [← EReal.coe_mul]
  norm_num
  try rfl

theorem bits_small : ∃ e : ℝ, 0 < e ∧ Ideal.ofBits .f32 0x358637BD#32 = (e : EReal) := by
  simp [Ideal.ofBits, Ideal.ieee]
  exact ⟨_, by positivity, (EReal.coe_mul _ _).symm⟩

/-- The reciprocal of a row's root mean square is a number. -/
theorem scale_num (x : Fin 1024 → EReal) (hx : ∀ k, Num (x k)) :
    Num (Ideal.rsqrt (Ideal.div (∑ i, x i * x i) (Ideal.ofBits .f32 0x44800000#32) + Ideal.ofBits .f32 0x358637BD#32)) := by
  choose r hr using hx
  obtain ⟨e, he, e'⟩ := bits_small
  have hs : ∑ i, x i * x i = ((∑ i, r i * r i : ℝ) : EReal) := by
    rw [Softmax.coe_sum]
    exact Finset.sum_congr rfl fun k _ => by rw [hr, EReal.coe_mul]
  have h0 : 0 ≤ ∑ i, r i * r i := Finset.sum_nonneg fun k _ => mul_self_nonneg _
  rw [hs, bits_features, Ideal.div_coe (by norm_num), e', ← EReal.coe_mul, ← EReal.coe_add]
  have hp : 0 < (∑ i, r i * r i) * (1 / 1024) + e := by positivity
  refine ⟨(Real.sqrt ((∑ i, r i * r i) * (1 / 1024) + e))⁻¹, ?_⟩
  show (if _ then _ else if _ then _ else _) = _
  rw [if_neg hp.le.not_gt, if_neg hp.ne']

theorem column_num (x g w : Fin 1024 → EReal) (hx : ∀ k, Num (x k)) (hg : ∀ k, Num (g k)) (hw : ∀ k, Num (w k)) : Num (Proj.column x g w) :=
  Num.sum fun k => (((hx k).mul (scale_num x hx)).mul (hg k)).mul (hw k)

end Cert.RouterPre

end
-- ==== Proof.RouterValue.lean ====
/- The router: the kernel's two result arrays are the class and the weights of every row's choices. -/
module

public import proofs.«01_k».proof.Proof.RouterKernel
public import proofs.«01_k».proof.Proof.RouterPre
public import Idealize.ShloMosaic.Lib.StableHlo.Run

@[expose] public section

set_option maxRecDepth 4096

noncomputable section

namespace Cert.RouterValue

open Idealize.ShloMosaic Idealize.ShloMosaic.TcCoe Cert.Choice

section Kernel

open Cert.RouterIdeal Cert.RouterIdeal.Gen

/-- Row `r`'s logits of the groups. -/
def groups (h : FVec Ideal S32768x1024 .f32) (g : FVec Ideal S1024 .f32) (w : FVec Ideal S1024x4 .f32) (b : FVec Ideal S4 .f32) (r : Fin 32768) (j : Fin 4) : EReal :=
  RouterKernel.logit (fun k => h (ix2 r k)) (fun k => g (ix1 k)) (fun k => w (ix2 k j)) (b (ix1 j))

/-- Expert `a` of group `j`. -/
def expert (j : Fin 4) (a : Fin 8) : Fin 32 := ⟨8 * j.val + a.val, by omega⟩

/-- Row `r`'s logits of the experts. -/
def experts (h : FVec Ideal S32768x1024 .f32) (g : FVec Ideal S1024 .f32) (w : FVec Ideal S1024x32 .f32) (b : FVec Ideal S32 .f32) (r : Fin 32768) (j : Fin 4) (a : Fin 8) : EReal :=
  RouterKernel.logit (fun k => h (ix2 r k)) (fun k => g (ix1 k)) (fun k => w (ix2 k (expert j a))) (b (ix1 (expert j a)))

section Numbers

variable {h : FVec Ideal S32768x1024 .f32} {g : FVec Ideal S1024 .f32} {wr : FVec Ideal S1024x4 .f32} {br : FVec Ideal S4 .f32}
variable {we : FVec Ideal S1024x32 .f32} {be : FVec Ideal S32 .f32} (hn : RouterPre.Numbers h g wr br we be)

include hn

theorem groups_num (r : Fin 32768) (j : Fin 4) : RouterPre.Num (groups h g wr br r j) :=
  (RouterPre.column_num _ _ _ (fun k => hn.stream r k) (fun k => hn.gains k) (fun k => hn.groups k j)).add (hn.groups' j)

theorem experts_num (r : Fin 32768) (j : Fin 4) (a : Fin 8) : RouterPre.Num (experts h g we be r j a) :=
  (RouterPre.column_num _ _ _ (fun k => hn.stream r k) (fun k => hn.gains k) (fun k => hn.experts k _)).add (hn.experts' _)

end Numbers

/-! ## The kernel -/

/-- The blocks that a grid point takes. -/
theorem index_maps : ∀ t : Fin cfg0.N,
    win0_0.index t = ![t.val, 0] ∧ win0_1.index t = ![0, 0] ∧ win0_2.index t = ![0, 0] ∧ win0_3.index t = ![0, 0] ∧ win0_4.index t = ![t.val, 0] ∧ win0_5.index t = ![t.val, 0] := by
  decide +kernel

theorem points (t : Fin cfg0.N) : t.val < 128 := t.isLt

section Reads

variable {F : FTy → Type} [FloatOps F]

/-- The row of the arrays that row `r` of the blocks of point `t` is. -/
def row (t : Fin cfg0.N) (r : Fin 256) : Fin 32768 := ⟨256 * t.val + r.val, by have := points t; omega⟩

theorem place_4 (t : Fin cfg0.N) (r : Fin 256) (l : Fin 128) : ((cfg0.win 4).blk t).view.emb (ix2 r l) = (ix2 (row t r) l : S32768x128.Idx) := by
  obtain ⟨-, -, -, -, i, -⟩ := index_maps t
  unfold row
  blk_ext [i]

theorem place_5 (t : Fin cfg0.N) (r : Fin 256) (l : Fin 128) : ((cfg0.win 5).blk t).view.emb (ix2 r l) = (ix2 (row t r) l : S32768x128.Idx) := by
  obtain ⟨-, -, -, -, -, i⟩ := index_maps t
  unfold row
  blk_ext [i]

theorem stream_block (A : S32768x1024.Idx → Elt F .f32) (t : Fin cfg0.N) (r : Fin 256) (k : Fin 1024) :
    ((cfg0.win 0).blk t).view.read (Elt F) A (ix2 r k) = A (ix2 (row t r) k) := by
  obtain ⟨i, -⟩ := index_maps t
  unfold row
  blk_ext [i]

theorem gains_block (A : S1x1024.Idx → Elt F .f32) (t : Fin cfg0.N) (k : Fin 1024) :
    ((cfg0.win 1).blk t).view.read (Elt F) A (ix2 0 k) = A (ix2 0 k) := by
  obtain ⟨-, i, -⟩ := index_maps t
  blk_ext [i]

theorem weights_block (A : S1024x128.Idx → Elt F .f32) (t : Fin cfg0.N) (k : Fin 1024) (l : Fin 128) :
    ((cfg0.win 2).blk t).view.read (Elt F) A (ix2 k l) = A (ix2 k l) := by
  obtain ⟨-, -, i, -⟩ := index_maps t
  blk_ext [i]

theorem offsets_block (A : S1x128.Idx → Elt F .f32) (t : Fin cfg0.N) (l : Fin 128) :
    ((cfg0.win 3).blk t).view.read (Elt F) A (ix2 0 l) = A (ix2 0 l) := by
  obtain ⟨-, -, -, i, -⟩ := index_maps t
  blk_ext [i]

/-- A block is written back whole. -/
theorem cut_4 (t : Fin cfg0.N) (x : S256x128.Idx → Elt F .i32) : (cfg0.win 4).cut (grid0.coords t) x = x := by
  funext y
  blk_simp

theorem cut_5 (t : Fin cfg0.N) (x : S256x128.Idx → Elt F .f32) : (cfg0.win 5).cut (grid0.coords t) x = x := by
  funext y
  blk_simp

/-- The weights that the kernel is given: the groups', the experts', then zeros. -/
def weights (wr : FVec F S1024x4 .f32) (we : FVec F S1024x32 .f32) : FVec F S1024x128 .f32 :=
  concatenate S1024x128 1 [⟨S1024x4, wr⟩, ⟨S1024x32, we⟩, ⟨S1024x92, broadcastInDim S1024x92 ![] bcast_S_S1024x92 (constant S_ .f32 0x00000000#32)⟩] concatenates_S1024x4_S1024x32_S1024x92_S1024x128_d1

/-- The offsets that the kernel is given, likewise. -/
def offsets (br : FVec F S4 .f32) (be : FVec F S32 .f32) : FVec F S1x128 .f32 :=
  shapeCast S1x128 (concatenate S128 0 [⟨S4, br⟩, ⟨S32, be⟩, ⟨S92, broadcastInDim S92 ![] bcast_S_S92 (constant S_ .f32 0x00000000#32)⟩] concatenates_S4_S32_S92_S128_d0) shapeCasts_S128_S1x128

/-- The gains that the kernel is given, as one row. -/
def gains (g : FVec F S1024 .f32) : FVec F S1x1024 .f32 := shapeCast S1x1024 g shapeCasts_S1024_S1x1024

variable (m : (ℓ : Loc nD τ sig) → Buf (Elt F) ℓ)

theorem weights_eq (c : Dev nD) : V m c main_v1 = weights (m ((c.tc : Thread nD τ).loc main_arg2)) (m ((c.tc : Thread nD τ).loc main_arg4)) := by
  unfold V
  after_results
  rfl

theorem offsets_eq (c : Dev nD) : V m c main_v4 = offsets (m ((c.tc : Thread nD τ).loc main_arg3)) (m ((c.tc : Thread nD τ).loc main_arg5)) := by
  unfold V
  after_results
  rfl

theorem gains_eq (c : Dev nD) : V m c main_v5 = gains (m ((c.tc : Thread nD τ).loc main_arg1)) := by
  unfold V
  after_results
  rfl

theorem stream_iblk (c : Dev nD) (t : Fin cfg0.N) : iblk m c 0 t = ((cfg0.win 0).blk t).view.read (Elt F) (m ((c.tc : Thread nD τ).loc main_arg0)) :=
  congrArg (((cfg0.win 0).blk t).view.read (Elt F)) (V_main_arg0 m c)

theorem gains_iblk (c : Dev nD) (t : Fin cfg0.N) : iblk m c 1 t = ((cfg0.win 1).blk t).view.read (Elt F) (gains (m ((c.tc : Thread nD τ).loc main_arg1))) :=
  congrArg (((cfg0.win 1).blk t).view.read (Elt F)) (gains_eq m c)

theorem weights_iblk (c : Dev nD) (t : Fin cfg0.N) :
    iblk m c 2 t = ((cfg0.win 2).blk t).view.read (Elt F) (weights (m ((c.tc : Thread nD τ).loc main_arg2)) (m ((c.tc : Thread nD τ).loc main_arg4))) :=
  congrArg (((cfg0.win 2).blk t).view.read (Elt F)) (weights_eq m c)

theorem offsets_iblk (c : Dev nD) (t : Fin cfg0.N) :
    iblk m c 3 t = ((cfg0.win 3).blk t).view.read (Elt F) (offsets (m ((c.tc : Thread nD τ).loc main_arg3)) (m ((c.tc : Thread nD τ).loc main_arg5))) :=
  congrArg (((cfg0.win 3).blk t).view.read (Elt F)) (offsets_eq m c)

end Reads

theorem gains_apply (g : FVec Ideal S1024 .f32) (k : Fin 1024) : gains g (ix2 0 k) = g (ix1 k) := by
  pointwise [gains]

theorem weights_low (wr : FVec Ideal S1024x4 .f32) (we : FVec Ideal S1024x32 .f32) (k : Fin 1024) (j : Fin 4) : weights wr we (ix2 k (RouterKernel.low j)) = wr (ix2 k j) := by
  pointwise [weights]
  rw [dif_pos (show (RouterKernel.low j).val < 4 from j.isLt)]
  rfl

theorem weights_lane (wr : FVec Ideal S1024x4 .f32) (we : FVec Ideal S1024x32 .f32) (k : Fin 1024) (j : Fin 4) (a : Fin 8) :
    weights wr we (ix2 k (lane j a)) = we (ix2 k (expert j a)) := by
  pointwise [weights]
  rw [dif_neg (show ¬(lane j a).val < 4 by show ¬4 + 8 * j.val + a.val < 4; omega), dif_pos (show (lane j a).val - 4 < 32 by show 4 + 8 * j.val + a.val - 4 < 32; omega)]
  exact congrArg (fun z => we (ix2 k z)) (Fin.ext (by show 4 + 8 * j.val + a.val - 4 = 8 * j.val + a.val; omega))

theorem offsets_low (br : FVec Ideal S4 .f32) (be : FVec Ideal S32 .f32) (j : Fin 4) : offsets br be (ix2 0 (RouterKernel.low j)) = br (ix1 j) := by
  pointwise [offsets]
  rw [dif_pos (show (RouterKernel.low j).val < 4 from j.isLt)]
  rfl

theorem offsets_lane (br : FVec Ideal S4 .f32) (be : FVec Ideal S32 .f32) (j : Fin 4) (a : Fin 8) : offsets br be (ix2 0 (lane j a)) = be (ix1 (expert j a)) := by
  pointwise [offsets]
  rw [dif_neg (show ¬(lane j a).val < 4 by show ¬4 + 8 * j.val + a.val < 4; omega), dif_pos (show (lane j a).val - 4 < 32 by show 4 + 8 * j.val + a.val - 4 < 32; omega)]
  exact congrArg (fun z => be (ix1 z)) (Fin.ext (by show 4 + 8 * j.val + a.val - 4 = 8 * j.val + a.val; omega))

variable (m : (ℓ : Loc nD τ sig) → Buf (Elt Ideal) ℓ)

/-- The launch's logits of the groups, and of the experts. -/
def launchGroups (c : Dev nD) : Fin 32768 → Fin 4 → EReal :=
  groups (m ((c.tc : Thread nD τ).loc main_arg0)) (m ((c.tc : Thread nD τ).loc main_arg1)) (m ((c.tc : Thread nD τ).loc main_arg2)) (m ((c.tc : Thread nD τ).loc main_arg3))
def launchExperts (c : Dev nD) : Fin 32768 → Fin 4 → Fin 8 → EReal :=
  experts (m ((c.tc : Thread nD τ).loc main_arg0)) (m ((c.tc : Thread nD τ).loc main_arg1)) (m ((c.tc : Thread nD τ).loc main_arg4)) (m ((c.tc : Thread nD τ).loc main_arg5))

/-- The classes and the weights of the launch's arguments, as arrays. -/
def classes (c : Dev nD) : IVec S32768x128 32 := fun j => classWord (launchGroups m c (j 0)) (launchExperts m c (j 0))
def shares (c : Dev nD) : FVec Ideal S32768x128 .f32 := fun j => laneWeight (launchGroups m c (j 0)) (launchExperts m c (j 0)) (j 1)

/-- The launch's arguments hold numbers. -/
def Ready (c : Dev nD) : Prop :=
  RouterPre.Numbers (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

variable (hn : ∀ c, Ready m c)

include hn

/-- The logits of a row of a block. -/
theorem row_logits (c : Dev nD) (t : Fin cfg0.N) (r : Fin 256) :
    RouterKernel.Row (fun l => k0_pay25 (iblk m c 0 t) (iblk m c 1 t) (iblk m c 2 t) (iblk m c 3 t) (ix2 r l)) (launchGroups m c (row t r)) (launchExperts m c (row t r)) := by
  refine ⟨fun j => ?_, fun j a => ?_, fun j => ?_, fun j a => ?_⟩
  · refine (RouterKernel.logits_apply _ _ _ _ r _).trans ?_
    rw [stream_iblk, gains_iblk, weights_iblk, offsets_iblk]
    refine congr (congr (congr (congrArg RouterKernel.logit (funext fun k => ?_)) (funext fun k => ?_)) (funext fun k => ?_)) ?_
    · exact stream_block _ t r k
    · exact (gains_block _ t k).trans (gains_apply _ k)
    · exact (weights_block _ t k _).trans (weights_low _ _ k j)
    · exact (offsets_block _ t _).trans (offsets_low _ _ j)
  · refine (RouterKernel.logits_apply _ _ _ _ r _).trans ?_
    rw [stream_iblk, gains_iblk, weights_iblk, offsets_iblk]
    refine congr (congr (congr (congrArg RouterKernel.logit (funext fun k => ?_)) (funext fun k => ?_)) (funext fun k => ?_)) ?_
    · exact stream_block _ t r k
    · exact (gains_block _ t k).trans (gains_apply _ k)
    · exact (weights_block _ t k _).trans (weights_lane _ _ k j a)
    · exact (offsets_block _ t _).trans (offsets_lane _ _ j a)
  · obtain ⟨x, hx⟩ := groups_num (hn c) (row t r) j
    exact fun e => EReal.coe_ne_bot x (hx.symm.trans e)
  · obtain ⟨x, hx⟩ := experts_num (hn c) (row t r) j a
    exact fun e => EReal.coe_ne_bot x (hx.symm.trans e)

theorem class_apply (c : Dev nD) (t : Fin cfg0.N) (r : Fin 256) (l : Fin 128) :
    out0_4 (iblk m c 0 t) (iblk m c 1 t) (iblk m c 2 t) (iblk m c 3 t) (ix2 r l) = classes m c (ix2 (row t r) l) :=
  RouterKernel.class_block _ _ _ _ r (row_logits m hn c t r) (chosen _ _) l

theorem share_apply (c : Dev nD) (t : Fin cfg0.N) (r : Fin 256) (l : Fin 128) :
    out0_5 (iblk m c 0 t) (iblk m c 1 t) (iblk m c 2 t) (iblk m c 3 t) (ix2 r l) = shares m c (ix2 (row t r) l) :=
  RouterKernel.weights_block _ _ _ _ r (row_logits m hn c t r) (chosen _ _) l

omit hn

/-- The blocks cover the result arrays. -/
theorem covered_4 (i : S32768x128.Idx) : ∃ t : Fin cfg0.N, (cfg0.win 4).flush t = true ∧ i ∈ ((cfg0.win 4).blk t).view.set := by
  have h : (cfg0.win 4).Covers := by decide +kernel
  exact Pipeline.Window.Covers.cover (cfg0.win 4) h (Memref.isWhole_whole _) i

theorem covered_5 (i : S32768x128.Idx) : ∃ t : Fin cfg0.N, (cfg0.win 5).flush t = true ∧ i ∈ ((cfg0.win 5).blk t).view.set := by
  have h : (cfg0.win 5).Covers := by decide +kernel
  exact Pipeline.Window.Covers.cover (cfg0.win 5) h (Memref.isWhole_whole _) i

include hn

/-- The kernel's result arrays. -/
theorem array_4 (c : Dev nD) : (dats m 0 c).arrAt 4 cfg0.N = classes m c := by
  refine (dats m 0 c).arrAt_eq_of_cover 4 _ (fun t _ => ?_) covered_4
  rw [Value.flushed4, cut_4]
  funext y
  obtain ⟨r, l, rfl⟩ : ∃ (r : Fin 256) (l : Fin 128), y = ix2 r l := ⟨y 0, y 1, by
    funext a
    fin_cases a <;> rfl⟩
  exact (class_apply m hn c t r l).trans (congrArg (classes m c) (place_4 t r l).symm)

theorem array_5 (c : Dev nD) : (dats m 0 c).arrAt 5 cfg0.N = shares m c := by
  refine (dats m 0 c).arrAt_eq_of_cover 5 _ (fun t _ => ?_) covered_5
  rw [Value.flushed5, cut_5]
  funext y
  obtain ⟨r, l, rfl⟩ : ∃ (r : Fin 256) (l : Fin 128), y = ix2 r l := ⟨y 0, y 1, by
    funext a
    fin_cases a <;> rfl⟩
  exact (share_apply m hn c t r l).trans (congrArg (shares m c) (place_5 t r l).symm)

end Kernel

end Cert.RouterValue

end
-- ==== Proof.RouterRef.lean ====
/- The router's reference: its two results are the class and the weights of every row's choices. -/
module

public import proofs.«01_k».proof.Proof.RouterChoice
public import proofs.«01_k».proof.Proof.RouterValue
public import proofs.«01_k».proof.Proof.Gen.RouterRefIdeal.Run

@[expose] public section

set_option maxRecDepth 4096

noncomputable section

namespace Cert.RouterRef

open Idealize.ShloMosaic Idealize.ShloMosaic.TcCoe Cert.Choice
open Cert.RouterRefIdeal Cert.RouterRefIdeal.Gen

/-! ## The reference's operations -/

/-- The reference's normed rows. -/
def normed (h : FVec Ideal S32768x1024 .f32) (g : FVec Ideal S1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- Its logits of the groups. -/
def groupLogits (wr : FVec Ideal S1024x4 .f32) (br : FVec Ideal S4 .f32) (x : FVec Ideal S32768x1024 .f32) : FVec Ideal S32768x4 .f32 :=
  addf (Host.dotGeneral dot_S32768x1024_S1024x4_S32768x4_1_0_0_1_n_n none x wr) (broadcastInDim S32768x4 ![0, 1] bcast_S1x4_S32768x4_0_1 (broadcastInDim S1x4 ![1] bcast_S4_S1x4_1 br))

/-- Their exponentials, below the greatest logit. -/
def groupExps (z : FVec Ideal S32768x4 .f32) : FVec Ideal S32768x4 .f32 :=
  Host.exp (subf z (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf z (constant S_ .f32 0xFF800000#32) reducesTo_S32768x4_S32768_d1 h_S_)))))

/-- The first group of the greatest logit. -/
def groupIndex (z : FVec Ideal S32768x4 .f32) : IVec S32768 32 :=
  Host.reduce IntOp.minsi (select (cmpf .oeq z (broadcastInDim S32768x4 ![0, 1] bcast_S32768x1_S32768x4_0_1 (broadcastInDim S32768x1 ![0] bcast_S32768_S32768x1_0 (Host.reduce FloatOps.maximumf z (constant S_ .f32 0xFF800000#32) reducesTo_S32768x4_S32768_d1 h_S_)))) (broadcastInDim S32768x4 ![1] bcast_S4_S32768x4_1 (iotaInDim S4 32 0)) (broadcastInDim S32768x4 ![] bcast_S_S32768x4 (id (constantI S_ 32 4#32)))) (constantI S_ 32 2147483647#32) reducesTo_S32768x4_S32768_d1 h_S_

/-- Where a group is the one of index `n`. -/
def inGroup (n : IVec S32768 32) : IVec S32768x4 1 :=
  cmpi .eq (broadcastInDim S32768x4 ![0, 1] bcast_S1x4_S32768x4_0_1 (broadcastInDim S1x4 ![1] bcast_S4_S1x4_1 (iotaInDim S4 32 0))) (broadcastInDim S32768x4 ![0, 1] bcast_S32768x1_S32768x4_0_1 (broadcastInDim S32768x1 ![0] bcast_S32768_S32768x1_0 n))

/-- The probability of that group. -/
def groupShare (s : IVec S32768x4 1) (e : FVec Ideal S32768x4 .f32) : FVec Ideal S32768 .f32 :=
  Host.reduceAdd (select s (Host.divf e (broadcastInDim S32768x4 ![0, 1] bcast_S32768x1_S32768x4_0_1 (broadcastInDim S32768x1 ![0] bcast_S32768_S32768x1_0 (Host.reduceAdd e (constant S_ .f32 0x00000000#32) reducesTo_S32768x4_S32768_d1 h_S_)))) (broadcastInDim S32768x4 ![] bcast_S_S32768x4 (id (constant S_ .f32 0x00000000#32)))) (constant S_ .f32 0x00000000#32) reducesTo_S32768x4_S32768_d1 h_S_

/-- The logits of that group's experts. -/
def expertLogits (we : FVec Ideal S1024x32 .f32) (be : FVec Ideal S32 .f32) (s : IVec S32768x4 1) (x : FVec Ideal S32768x1024 .f32) : FVec Ideal S32768x8 .f32 :=
  Host.reduceAdd (select (broadcastInDim S32768x4x8 ![0, 1, 2] bcast_S32768x4x1_S32768x4x8_0_1_2 (broadcastInDim S32768x4x1 ![0, 1] bcast_S32768x4_S32768x4x1_0_1 s)) (shapeCast _ (addf (Host.dotGeneral dot_S32768x1024_S1024x32_S32768x32_1_0_0_1_n_n none x we) (broadcastInDim S32768x32 ![0, 1] bcast_S1x32_S32768x32_0_1 (broadcastInDim S1x32 ![1] bcast_S32_S1x32_1 be))) shapeCasts_S32768x32_S32768x4x8) (broadcastInDim S32768x4x8 ![] bcast_S_S32768x4x8 (id (constant S_ .f32 0x00000000#32)))) (constant S_ .f32 0x00000000#32) reducesTo_S32768x4x8_S32768x8_d1 h_S_

/-- Their exponentials, below the greatest logit. -/
def expertExps (z : FVec Ideal S32768x8 .f32) : FVec Ideal S32768x8 .f32 :=
  Host.exp (subf z (broadcastInDim S32768x8 ![0, 1] bcast_S32768x1_S32768x8_0_1 (broadcastInDim S32768x1 ![0] bcast_S32768_S32768x1_0 (maximumf (broadcastInDim S32768 ![] bcast_S_S32768 (constant S_ .f32 0xFF800000#32)) (Host.reduce FloatOps.maximumf z (constant S_ .f32 0xFF800000#32) reducesTo_S32768x8_S32768_d1 h_S_)))))

/-- Their probabilities. -/
def expertShares (e : FVec Ideal S32768x8 .f32) : FVec Ideal S32768x8 .f32 :=
  Host.divf e (broadcastInDim S32768x8 ![0, 1] bcast_S32768x1_S32768x8_0_1 (broadcastInDim S32768x1 ![0] bcast_S32768_S32768x1_0 (Host.reduceAdd e (constant S_ .f32 0x00000000#32) reducesTo_S32768x8_S32768_d1 h_S_)))

/-- The first expert of the greatest probability. -/
def expertIndex (p : FVec Ideal S32768x8 .f32) : IVec S32768 32 :=
  Host.reduce IntOp.minsi (select (cmpf .oeq p (broadcastInDim S32768x8 ![0, 1] bcast_S32768x1_S32768x8_0_1 (broadcastInDim S32768x1 ![0] bcast_S32768_S32768x1_0 (Host.reduce FloatOps.maximumf p (constant S_ .f32 0xFF800000#32) reducesTo_S32768x8_S32768_d1 h_S_)))) (broadcastInDim S32768x8 ![1] bcast_S8_S32768x8_1 (iotaInDim S8 32 0)) (broadcastInDim S32768x8 ![] bcast_S_S32768x8 (id (constantI S_ 32 8#32)))) (constantI S_ 32 2147483647#32) reducesTo_S32768x8_S32768_d1 h_S_

/-- The probabilities without that of expert `n`. -/
def otherShares (n : IVec S32768 32) (p : FVec Ideal S32768x8 .f32) : FVec Ideal S32768x8 .f32 :=
  select (cmpi .eq (broadcastInDim S32768x8 ![0, 1] bcast_S1x8_S32768x8_0_1 (broadcastInDim S1x8 ![1] bcast_S8_S1x8_1 (iotaInDim S8 32 0))) (broadcastInDim S32768x8 ![0, 1] bcast_S32768x1_S32768x8_0_1 (broadcastInDim S32768x1 ![0] bcast_S32768_S32768x1_0 n))) (broadcastInDim S32768x8 ![] bcast_S_S32768x8 (id (constant S_ .f32 0xFF800000#32))) p

/-- The probability of expert `n`. -/
def share (n : IVec S32768 32) (p : FVec Ideal S32768x8 .f32) : FVec Ideal S32768 .f32 :=
  Host.reduceAdd (select (cmpi .eq (broadcastInDim S32768x8 ![0, 1] bcast_S1x8_S32768x8_0_1 (broadcastInDim S1x8 ![1] bcast_S8_S1x8_1 (iotaInDim S8 32 0))) (broadcastInDim S32768x8 ![0, 1] bcast_S32768x1_S32768x8_0_1 (broadcastInDim S32768x1 ![0] bcast_S32768_S32768x1_0 n))) p (broadcastInDim S32768x8 ![] bcast_S_S32768x8 (id (constant S_ .f32 0x00000000#32)))) (constant S_ .f32 0x00000000#32) reducesTo_S32768x8_S32768_d1 h_S_

/-- A weight: a probability over the sum of two, times that of the group. -/
def weighted (a b b' q : FVec Ideal S32768 .f32) : FVec Ideal S32768 .f32 :=
  mulf (Host.divf a (addf b b')) q

/-- The classes, from the indices of the group and of the two experts. -/
def classes (n i k : IVec S32768 32) : IVec S32768x128 32 :=
  broadcastInDim S32768x128 ![0, 1] bcast_S32768x1_S32768x128_0_1 (broadcastInDim S32768x1 ![0] bcast_S32768_S32768x1_0 (addi (muli n (broadcastInDim S32768 ![] bcast_S_S32768 (constantI S_ 32 28#32))) (addi (Host.divsi (muli (minsi i k) (subi (broadcastInDim S32768 ![] bcast_S_S32768 (constantI S_ 32 15#32)) (minsi i k))) (broadcastInDim S32768 ![] bcast_S_S32768 (constantI S_ 32 2#32))) (subi (subi (maxsi i k) (minsi i k)) (broadcastInDim S32768 ![] bcast_S_S32768 (constantI S_ 32 1#32))))))

/-- The weights, from those of the two experts. -/
def weights (i k : IVec S32768 32) (a b : FVec Ideal S32768 .f32) : FVec Ideal S32768x128 .f32 :=
  select (broadcastInDim S32768x128 ![0, 1] bcast_S1x128_S32768x128_0_1 (cmpi .eq (broadcastInDim S1x128 ![1] bcast_S128_S1x128_1 (iotaInDim S128 32 0)) (broadcastInDim S1x128 ![] bcast_S_S1x128 (constantI S_ 32 0#32)))) (broadcastInDim S32768x128 ![0, 1] bcast_S32768x1_S32768x128_0_1 (broadcastInDim S32768x1 ![0] bcast_S32768_S32768x1_0 (select (cmpi .slt i k) a b))) (broadcastInDim S32768x128 ![0, 1] bcast_S32768x1_S32768x128_0_1 (broadcastInDim S32768x1 ![0] bcast_S32768_S32768x1_0 (select (cmpi .slt i k) b a)))

/-! ## Their values on one row -/

theorem groupLogits_apply (h : FVec Ideal S32768x1024 .f32) (g : FVec Ideal S1024 .f32) (wr : FVec Ideal S1024x4 .f32) (br : FVec Ideal S4 .f32) (r : Fin 32768) (j : Fin 4) :
    groupLogits wr br (normed h g) (ix2 r j) = RouterValue.groups h g wr br r j := by
  pointwise [groupLogits, normed]
  rfl

theorem same_word (n : Nat) (hn : n < 2 ^ 31) (a b : Nat) (ha : a < n) (hb : b < n) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro e
    have := congrArg BitVec.toNat e
    rwa [BitVec.toNat_ofNat, BitVec.toNat_ofNat, Nat.mod_eq_of_lt (by omega), Nat.mod_eq_of_lt (by omega)] at this
  · exact fun e => by rw [e]

theorem bits_zero : Ideal.ofBits .f32 0x00000000#32 = 0 := by simp [Ideal.ofBits, Ideal.ieee]

section Group

variable (z : FVec Ideal S32768x4 .f32) (r : Fin 32768) {L : Fin 4 → EReal} {g : Fin 4} (hz : ∀ j, z (ix2 r j) = L j) (hg : IsFirst L g)

include hz hg

theorem group_first : IsFirst (fun j => z (ix2 r j)) g := by
  rw [funext hz]
  exact hg

theorem groupExps_apply (j : Fin 4) : groupExps z (ix2 r j) = Ideal.exp (L j - L g) := by
  pointwise [groupExps]
  rw [RouterKernel.bits_bot, fold_max (group_first z r hz hg), hz, hz, max_eq_right bot_le]

theorem groupIndex_apply : groupIndex z (ix1 r) = BitVec.ofNat 32 g.val := by
  pointwise [groupIndex]
  rw [RouterKernel.bits_bot, fold_max (group_first z r hz hg)]
  exact fold_minsi (group_first z r hz hg) (by norm_num) _ rfl

omit hz hg

theorem inGroup_apply (n : IVec S32768 32) (hn : n (ix1 r) = BitVec.ofNat 32 g.val) (j : Fin 4) : inGroup n (ix2 r j) = BitVec.ofBool (decide (j.val = g.val)) := by
  pointwise [inGroup]
  rw [hn]
  exact same_word 4 (by norm_num) _ _ j.isLt g.isLt

theorem groupShare_apply (s : IVec S32768x4 1) (e : FVec Ideal S32768x4 .f32) (hs : ∀ j, s (ix2 r j) = BitVec.ofBool (decide (j.val = g.val)))
    (he : ∀ j, e (ix2 r j) = Ideal.exp (L j - L g)) : groupShare s e (ix1 r) = soft L g g := by
  pointwise [groupShare]
  simp only [hs, he, RouterKernel.select_bit, Fin.val_inj]
  show (∑ x, if x = g then Ideal.div (Ideal.exp (L x - L g)) (∑ x, Ideal.exp (L x - L g)) else Ideal.ofBits .f32 0x00000000#32) = _
  rw [bits_zero, Finset.sum_ite_eq' Finset.univ g, if_pos (Finset.mem_univ g)]
  rfl

theorem expertLogits_apply (h : FVec Ideal S32768x1024 .f32) (gs : FVec Ideal S1024 .f32) (we : FVec Ideal S1024x32 .f32) (be : FVec Ideal S32 .f32)
    (s : IVec S32768x4 1) (hs : ∀ j, s (ix2 r j) = BitVec.ofBool (decide (j.val = g.val))) (a : Fin 8) :
    expertLogits we be s (normed h gs) (ix2 r a) = RouterValue.experts h gs we be r g a := by
  pointwise [expertLogits, normed]
  simp only [hs, RouterKernel.select_bit, Fin.val_inj]
  refine (Finset.sum_congr rfl fun x _ => ite_congr rfl (fun _ => rfl) fun _ => bits_zero).trans ?_
  rw [Finset.sum_ite_eq' Finset.univ g, if_pos (Finset.mem_univ g)]
  have hx : RouterValue.expert g a = (⟨g.val * 8 + a.val, by omega⟩ : Fin 32) := Fin.ext (by
    show 8 * g.val + a.val = g.val * 8 + a.val
    omega)
  unfold RouterValue.experts
  rw [hx]
  rfl

end Group

section Expert

variable (z : FVec Ideal S32768x8 .f32) (r : Fin 32768) {f : Fin 8 → EReal} {i k : Fin 8} (hz : ∀ j, z (ix2 r j) = f j)

include hz

theorem first_of (hi : IsFirst f i) : IsFirst (fun j => z (ix2 r j)) i := by
  rw [funext hz]
  exact hi

theorem expertExps_apply (hi : IsFirst f i) (j : Fin 8) : expertExps z (ix2 r j) = Ideal.exp (f j - f i) := by
  pointwise [expertExps]
  rw [RouterKernel.bits_bot, fold_max (first_of z r hz hi), hz, hz, max_eq_right bot_le]

theorem expertIndex_apply (hi : IsFirst f i) : expertIndex z (ix1 r) = BitVec.ofNat 32 i.val := by
  pointwise [expertIndex]
  rw [RouterKernel.bits_bot, fold_max (first_of z r hz hi)]
  exact fold_minsi (first_of z r hz hi) (by norm_num) _ rfl

theorem otherShares_apply (n : IVec S32768 32) (hn : n (ix1 r) = BitVec.ofNat 32 i.val) (j : Fin 8) : otherShares n z (ix2 r j) = without f i j := by
  pointwise [otherShares]
  rw [hn, same_word 8 (by norm_num) _ _ j.isLt i.isLt, RouterKernel.select_bit, hz]
  show (if _ then Ideal.ofBits .f32 0xFF800000#32 else _) = _
  rw [RouterKernel.bits_bot]
  unfold without
  simp only [Fin.val_inj]

theorem share_apply (n : IVec S32768 32) (hn : n (ix1 r) = BitVec.ofNat 32 i.val) : share n z (ix1 r) = f i := by
  pointwise [share]
  simp only [hn, hz, same_word 8 (by norm_num) _ _ (Fin.isLt _) i.isLt, RouterKernel.select_bit, Fin.val_inj]
  show (∑ x, if x = i then f x else Ideal.ofBits .f32 0x00000000#32) = _
  rw [bits_zero, Finset.sum_ite_eq' Finset.univ i, if_pos (Finset.mem_univ i)]

omit hz

theorem expertShares_apply (e : FVec Ideal S32768x8 .f32) (he : ∀ j, e (ix2 r j) = Ideal.exp (f j - f i)) (j : Fin 8) : expertShares e (ix2 r j) = soft f i j := by
  pointwise [expertShares]
  simp only [he]
  rfl

end Expert

theorem class_words : ∀ (g : Fin 4) (i k : Fin 8), k ≠ i →
    IntOp.addi (IntOp.muli (BitVec.ofNat 32 g.val) 28#32) (IntOp.addi (IntOp.divsi ArithUnit.host (IntOp.muli (IntOp.minsi (BitVec.ofNat 32 i.val) (BitVec.ofNat 32 k.val))
      (IntOp.subi 15#32 (IntOp.minsi (BitVec.ofNat 32 i.val) (BitVec.ofNat 32 k.val)))) 2#32)
      (IntOp.subi (IntOp.subi (IntOp.maxsi (BitVec.ofNat 32 i.val) (BitVec.ofNat 32 k.val)) (IntOp.minsi (BitVec.ofNat 32 i.val) (BitVec.ofNat 32 k.val))) 1#32))
    = BitVec.ofNat 32 (number g i k) := by
  decide +kernel

theorem less_word : ∀ i k : Fin 8, IntOp.cmpi CmpIPredicate.slt (BitVec.ofNat 32 i.val) (BitVec.ofNat 32 k.val) = BitVec.ofBool (decide (i < k)) := by decide

theorem weighted_apply (a b b' q : FVec Ideal S32768 .f32) (r : Fin 32768) : weighted a b b' q (ix1 r) = Ideal.div (a (ix1 r)) (b (ix1 r) + b' (ix1 r)) * q (ix1 r) := by
  pointwise [weighted]

section Row

variable (n i k : IVec S32768 32) (a b : FVec Ideal S32768 .f32) (r : Fin 32768) (l : Fin 128) {g' : Fin 4} {i' k' : Fin 8}
variable (hi : i (ix1 r) = BitVec.ofNat 32 i'.val) (hk : k (ix1 r) = BitVec.ofNat 32 k'.val)

include hi hk

theorem classes_apply (hn : n (ix1 r) = BitVec.ofNat 32 g'.val) (hne : k' ≠ i') : classes n i k (ix2 r l) = BitVec.ofNat 32 (number g' i' k') := by
  pointwise [classes]
  rw [hn, hi, hk]
  exact class_words g' i' k' hne

theorem weights_apply : weights i k a b (ix2 r l) = laned l i' k' (a (ix1 r)) (b (ix1 r)) := by
  pointwise [weights]
  rw [hi, hk, less_word, RouterKernel.is_zero]
  simp only [RouterKernel.select_bit]
  rfl

end Row

/-! ## The reference's two results -/

section Composed

variable (h : FVec Ideal S32768x1024 .f32) (g : FVec Ideal S1024 .f32) (wr : FVec Ideal S1024x4 .f32) (br : FVec Ideal S4 .f32)
variable (we : FVec Ideal S1024x32 .f32) (be : FVec Ideal S32 .f32)

/-- The group of every row. -/
def groupOf : IVec S32768 32 := groupIndex (groupLogits wr br (normed h g))

/-- Its probability. -/
def groupChance : FVec Ideal S32768 .f32 := groupShare (inGroup (groupOf h g wr br)) (groupExps (groupLogits wr br (normed h g)))

/-- The probabilities of the group's experts. -/
def sharesOf : FVec Ideal S32768x8 .f32 := expertShares (expertExps (expertLogits we be (inGroup (groupOf h g wr br)) (normed h g)))

/-- The first expert of every row. -/
def oneOf : IVec S32768 32 := expertIndex (sharesOf h g wr br we be)

/-- The second expert of every row. -/
def twoOf : IVec S32768 32 := expertIndex (otherShares (oneOf h g wr br we be) (sharesOf h g wr br we be))

/-- The reference's classes. -/
def composedClasses : IVec S32768x128 32 := classes (groupOf h g wr br) (oneOf h g wr br we be) (twoOf h g wr br we be)

/-- The weight of the expert of every row that `n` names. -/
def weightOf (n : IVec S32768 32) : FVec Ideal S32768 .f32 :=
  weighted (share n (sharesOf h g wr br we be)) (share (oneOf h g wr br we be) (sharesOf h g wr br we be)) (share (twoOf h g wr br we be) (sharesOf h g wr br we be))
    (groupChance h g wr br)

/-- The reference's weights. -/
def composedShares : FVec Ideal S32768x128 .f32 :=
  weights (oneOf h g wr br we be) (twoOf h g wr br we be) (weightOf h g wr br we be (oneOf h g wr br we be)) (weightOf h g wr br we be (twoOf h g wr br we be))

variable {h g wr br we be} (hn : RouterPre.Numbers h g wr br we be) (r : Fin 32768) {a : Fin 4} {i k : Fin 8}
variable (hc : Chosen (RouterValue.groups h g wr br r) (RouterValue.experts h g we be r) a i k)

include hc

theorem groupOf_apply : groupOf h g wr br (ix1 r) = BitVec.ofNat 32 a.val :=
  groupIndex_apply _ r (groupLogits_apply h g wr br r) hc.group

theorem groupChance_apply : groupChance h g wr br (ix1 r) = soft (RouterValue.groups h g wr br r) a a :=
  groupShare_apply r _ _ (inGroup_apply r _ (groupOf_apply r hc)) (groupExps_apply _ r (groupLogits_apply h g wr br r) hc.group)

theorem sharesOf_apply (j : Fin 8) : sharesOf h g wr br we be (ix2 r j) = soft (RouterValue.experts h g we be r a) i j :=
  expertShares_apply r _ (expertExps_apply _ r (expertLogits_apply r h g we be _ (inGroup_apply r _ (groupOf_apply r hc))) hc.one) j

include hn

theorem oneOf_apply : oneOf h g wr br we be (ix1 r) = BitVec.ofNat 32 i.val := by
  choose y hy using RouterValue.experts_num hn r a
  exact expertIndex_apply _ r (sharesOf_apply r hc) (soft_first y i hy hc.one)

theorem twoOf_apply : twoOf h g wr br we be (ix1 r) = BitVec.ofNat 32 k.val := by
  choose y hy using RouterValue.experts_num hn r a
  exact expertIndex_apply _ r (otherShares_apply _ r (sharesOf_apply r hc) _ (oneOf_apply hn r hc)) (soft_second y i hy hc.two)

theorem weightOf_apply (n : IVec S32768 32) (b : Fin 8) (hb : n (ix1 r) = BitVec.ofNat 32 b.val) :
    weightOf h g wr br we be n (ix1 r) = Ideal.div (soft (RouterValue.experts h g we be r a) i b)
      (soft (RouterValue.experts h g we be r a) i i + soft (RouterValue.experts h g we be r a) i k) * chance (RouterValue.groups h g wr br r) a := by
  choose x hx using RouterValue.groups_num hn r
  unfold weightOf
  rw [weighted_apply, share_apply _ r (sharesOf_apply r hc) n hb, share_apply _ r (sharesOf_apply r hc) _ (oneOf_apply hn r hc),
    share_apply _ r (sharesOf_apply r hc) _ (twoOf_apply hn r hc), groupChance_apply r hc, soft_self x hx]
  rfl

omit hc

theorem composedClasses_apply (l : Fin 128) :
    composedClasses h g wr br we be (ix2 r l) = classWord (RouterValue.groups h g wr br r) (RouterValue.experts h g we be r) := by
  have hc := chosen (RouterValue.groups h g wr br r) (RouterValue.experts h g we be r)
  choose y hy using RouterValue.experts_num hn r (group (RouterValue.groups h g wr br r))
  exact classes_apply _ _ _ r l (oneOf_apply hn r hc) (twoOf_apply hn r hc) (groupOf_apply r hc)
    (first_ne (fun j e => EReal.coe_ne_bot (y j) ((hy j).symm.trans e)) hc.two)

theorem composedShares_apply (l : Fin 128) :
    composedShares h g wr br we be (ix2 r l) = laneWeight (RouterValue.groups h g wr br r) (RouterValue.experts h g we be r) l := by
  have hc := chosen (RouterValue.groups h g wr br r) (RouterValue.experts h g we be r)
  choose x hx using RouterValue.groups_num hn r
  choose y hy using RouterValue.experts_num hn r (group (RouterValue.groups h g wr br r))
  obtain ⟨p, hp⟩ := chance_real x hx (group (RouterValue.groups h g wr br r))
  unfold composedShares
  rw [weights_apply _ _ _ _ r l (oneOf_apply hn r hc) (twoOf_apply hn r hc), weightOf_apply hn r hc _ _ (oneOf_apply hn r hc),
    weightOf_apply hn r hc _ _ (twoOf_apply hn r hc)]
  unfold laneWeight
  rw [hp, weight_eq y hy, weight'_eq y hy]

end Composed

end Cert.RouterRef

end
-- ==== Proof.lean ====
/- The proof of the certificate's claim. The band attention: the kernel's array after its run (`BandValue.array`) and the reference's composed term
   (`BandRef.composed_band`) are one function of the arguments, where these hold numbers (`BandPre.finite`). The experts: likewise `ExpertsValue.array` and
   `ExpertsRef.composed_apply`, where the tables name experts (`ExpertsPre.inRange`). The projections: likewise the `array` and `composed_apply` of each. The router:
   likewise `RouterValue.array_4`, `RouterValue.array_5`, `RouterRef.composedClasses_apply` and `RouterRef.composedShares_apply`, where the arguments hold numbers
   (`RouterPre.numbers`). -/
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.BandIdeal.Value
public import proofs.«01_k».proof.Proof.Gen.BandRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_experts_in_range
public import proofs.«01_k».proof.Proof.Gen.ProjC
public import proofs.«01_k».proof.Proof.Gen.ProjC.Frame
public import proofs.«01_k».proof.Proof.Gen.ProjCIdeal
public import proofs.«01_k».proof.Proof.Gen.ProjCIdeal.Frame
public import proofs.«01_k».proof.Proof.Gen.ProjCIdeal.Value
public import proofs.«01_k».proof.Proof.Gen.ProjCRefIdeal
public import proofs.«01_k».proof.Proof.Gen.ProjCRefIdeal.Run
public import proofs.«01_k».proof.Proof.Gen.ProjAB
public import proofs.«01_k».proof.Proof.Gen.ProjAB.Frame
public import proofs.«01_k».proof.Proof.Gen.ProjABIdeal
public import proofs.«01_k».proof.Proof.Gen.ProjABIdeal.Frame
public import proofs.«01_k».proof.Proof.Gen.ProjABIdeal.Value
public import proofs.«01_k».proof.Proof.Gen.ProjABRefIdeal
public import proofs.«01_k».proof.Proof.Gen.ProjABRefIdeal.Run
public import proofs.«01_k».proof.Proof.Gen.OutAB
public import proofs.«01_k».proof.Proof.Gen.OutAB.Frame
public import proofs.«01_k».proof.Proof.Gen.OutABIdeal
public import proofs.«01_k».proof.Proof.Gen.OutABIdeal.Frame
public import proofs.«01_k».proof.Proof.Gen.OutABIdeal.Value
public import proofs.«01_k».proof.Proof.Gen.OutABRefIdeal
public import proofs.«01_k».proof.Proof.Gen.OutABRefIdeal.Run
public import proofs.«01_k».proof.Proof.Gen.OutC
public import proofs.«01_k».proof.Proof.Gen.OutC.Frame
public import proofs.«01_k».proof.Proof.Gen.OutCIdeal
public import proofs.«01_k».proof.Proof.Gen.OutCIdeal.Frame
public import proofs.«01_k».proof.Proof.Gen.OutCIdeal.Value
public import proofs.«01_k».proof.Proof.Gen.OutCRefIdeal
public import proofs.«01_k».proof.Proof.Gen.OutCRefIdeal.Run
public import proofs.«01_k».proof.Proof.Gen.Pre_numbers
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.BandPre
public import proofs.«01_k».proof.Proof.BandRef
public import proofs.«01_k».proof.Proof.BandValue
public import proofs.«01_k».proof.Proof.ExpertsPost
public import proofs.«01_k».proof.Proof.ExpertsValue
public import proofs.«01_k».proof.Proof.OutABValue
public import proofs.«01_k».proof.Proof.OutCValue
public import proofs.«01_k».proof.Proof.ProjABValue
public import proofs.«01_k».proof.Proof.ProjCValue
public import proofs.«01_k».proof.Proof.RouterRef
public import Idealize.ShloMosaic.Adequacy
public import Idealize.ShloMosaic.Init

@[expose] public section

noncomputable section

namespace Cert.Proof

open Idealize.ShloMosaic Idealize.ShloMosaic.TcCoe Idealize.SL.Sem

/-- The reference's composed term is the band attention, as an array. -/
theorem reference_result (x : FVec Ideal BandRefIdeal.S8x4096x3072 .bf16) (t : FVec Ideal BandRefIdeal.S257x16 .f32)
    (hf : Band.Finite (fun b i k => x (ix3 b i k)) (fun n h => t (ix2 n h))) : BandRef.composed x t = BandValue.result x t := by
  funext j
  obtain ⟨b, i, l, rfl⟩ : ∃ (b : Fin 8) (i : Fin 4096) (l : Fin 1024), j = ix3 b i l := ⟨j 0, j 1, j 2, by
    funext a
    fin_cases a <;> rfl⟩
  have hl : l = ⟨(⟨l.val / 64, by omega⟩ : Fin 16).val * 64 + (⟨l.val % 64, by omega⟩ : Fin 64).val, by omega⟩ :=
    Fin.ext (by show l.val = l.val / 64 * 64 + l.val % 64; omega)
  exact (congrArg (fun z => BandRef.composed x t (ix3 b i z)) hl).trans (BandRef.composed_band x t hf b i ⟨l.val / 64, by omega⟩ ⟨l.val % 64, by omega⟩)

/-- The reference runs, keeps its arguments, and has no semaphore. -/
theorem reference_frame (m : (ℓ : Loc BandRefIdeal.nD BandRefIdeal.τ BandRefIdeal.sig) → Buf (Elt Ideal) ℓ) (g : Dev BandRefIdeal.nD → PrngReg) :
    θ_run (BandRefIdeal.defs (F := Ideal)) (onTc (τ := BandRefIdeal.τ) (BandRefIdeal.main (F := Ideal))) ⟨m, fun _ => 0, g⟩ (fun r => (∀ c : Dev BandRefIdeal.nD,
      r.2.mem ((c.tc : Thread BandRefIdeal.nD BandRefIdeal.τ).loc BandRefIdeal.main_arg0) = m ((c.tc : Thread BandRefIdeal.nD BandRefIdeal.τ).loc BandRefIdeal.main_arg0)
      ∧ r.2.mem ((c.tc : Thread BandRefIdeal.nD BandRefIdeal.τ).loc BandRefIdeal.main_arg1) = m ((c.tc : Thread BandRefIdeal.nD BandRefIdeal.τ).loc BandRefIdeal.main_arg1))
      ∧ r.2.sem = fun _ => 0) :=
  (θ_run _ _ _).mono (fun r h => ⟨fun c => (h c).2, Idealize.ShloMosaic.sem_eq_zero_of_no_sems (by decide) r.2⟩) (BandRefIdeal.Value.run (F := Ideal) m g)

/-- The two programs compute the same array. -/
theorem algebraic_band (hp : Cert.Pre_finite.Facts) : Cert.algebraic_BandIdeal_BandRefIdeal_pre_finite (hBandIdeal := BandIdeal.Gen.facts) (hBandRefIdeal := BandRefIdeal.Gen.facts)
    (hPre_finite := hp) := by
  intro m g m' g' hpre hargs
  have hf := fun c => BandPre.finite _ _ (hpre c)
  refine ⟨fun c => BandValue.result (m ((c.tc : Thread BandIdeal.nD BandIdeal.τ).loc BandIdeal.main_arg0)) (m ((c.tc : Thread BandIdeal.nD BandIdeal.τ).loc BandIdeal.main_arg1)), ?_, ?_⟩
  · exact (θ_run _ _ _).mono (fun r h c => ⟨(h c).1.trans (BandValue.array m hf c), (h c).2⟩) (BandIdeal.Value.run_blocks m g)
  · refine (θ_run _ _ _).mono (fun r h c => ⟨(h c).1.trans ?_, (h c).2⟩) (BandRefIdeal.Value.run (F := Ideal) m' g')
    rw [BandRef.composed_eq, (hargs c).1, (hargs c).2]
    exact reference_result _ _ (hf c)

/-- The experts' reference runs, keeps its arguments, and has no semaphore. -/
theorem experts_reference_frame (m : (ℓ : Loc ExpertsRefIdeal.nD ExpertsRefIdeal.τ ExpertsRefIdeal.sig) → Buf (Elt Ideal) ℓ) (g : Dev ExpertsRefIdeal.nD → PrngReg) :
    θ_run (ExpertsRefIdeal.defs (F := Ideal)) (onTc (τ := ExpertsRefIdeal.τ) (ExpertsRefIdeal.main (F := Ideal))) ⟨m, fun _ => 0, g⟩ (fun r => (∀ c : Dev ExpertsRefIdeal.nD,
      r.2.mem ((c.tc : Thread ExpertsRefIdeal.nD ExpertsRefIdeal.τ).loc ExpertsRefIdeal.main_arg0) = m ((c.tc : Thread ExpertsRefIdeal.nD ExpertsRefIdeal.τ).loc ExpertsRefIdeal.main_arg0)
      ∧ r.2.mem ((c.tc : Thread ExpertsRefIdeal.nD ExpertsRefIdeal.τ).loc ExpertsRefIdeal.main_arg1) = m ((c.tc : Thread ExpertsRefIdeal.nD ExpertsRefIdeal.τ).loc ExpertsRefIdeal.main_arg1)
      ∧ r.2.mem ((c.tc : Thread ExpertsRefIdeal.nD ExpertsRefIdeal.τ).loc ExpertsRefIdeal.main_arg2) = m ((c.tc : Thread ExpertsRefIdeal.nD ExpertsRefIdeal.τ).loc ExpertsRefIdeal.main_arg2)
      ∧ r.2.mem ((c.tc : Thread ExpertsRefIdeal.nD ExpertsRefIdeal.τ).loc ExpertsRefIdeal.main_arg3) = m ((c.tc : Thread ExpertsRefIdeal.nD ExpertsRefIdeal.τ).loc ExpertsRefIdeal.main_arg3)
      ∧ r.2.mem ((c.tc : Thread ExpertsRefIdeal.nD ExpertsRefIdeal.τ).loc ExpertsRefIdeal.main_arg4) = m ((c.tc : Thread ExpertsRefIdeal.nD ExpertsRefIdeal.τ).loc ExpertsRefIdeal.main_arg4)
      ∧ r.2.mem ((c.tc : Thread ExpertsRefIdeal.nD ExpertsRefIdeal.τ).loc ExpertsRefIdeal.main_arg5) = m ((c.tc : Thread ExpertsRefIdeal.nD ExpertsRefIdeal.τ).loc ExpertsRefIdeal.main_arg5)
      ∧ r.2.mem ((c.tc : Thread ExpertsRefIdeal.nD ExpertsRefIdeal.τ).loc ExpertsRefIdeal.main_arg6) = m ((c.tc : Thread ExpertsRefIdeal.nD ExpertsRefIdeal.τ).loc ExpertsRefIdeal.main_arg6))
      ∧ r.2.sem = fun _ => 0) :=
  (θ_run _ _ _).mono (fun r h => ⟨fun c => (h c).2, Idealize.ShloMosaic.sem_eq_zero_of_no_sems (by decide) r.2⟩) (ExpertsRefIdeal.Value.run (F := Ideal) m g)

/-- The two expert programs compute the same array. -/
theorem algebraic_experts : Cert.algebraic_ExpertsIdeal_ExpertsRefIdeal (hExpertsIdeal := ExpertsIdeal.Gen.facts) (hExpertsRefIdeal := ExpertsRefIdeal.Gen.facts)
    (hPre_experts_in_range := Pre_experts_in_range.Gen.facts) := by
  intro m g m' g' hpre hargs
  refine ⟨fun c => ExpertsValue.result m c, ?_, ?_⟩
  · exact (θ_run _ _ _).mono (fun r h c => ⟨((h.1 c).1 (7 : Fin 8)).trans (ExpertsValue.array m hpre c), ExpertsIdeal.Hand.kept m hpre r h.1 c⟩) (ExpertsIdeal.Hand.run_pre m g hpre)
  · refine (θ_run _ _ _).mono (fun r h c => ⟨(h c).1.trans ?_, (h c).2⟩) (ExpertsRefIdeal.Value.run (F := Ideal) m' g')
    have hr := ExpertsPre.inRange _ _ _ _ _ _ _ (hpre c)
    obtain ⟨a0, a1, a2, a3, a4, a5, a6⟩ := hargs c
    rw [ExpertsRef.composed_eq, a0, a1, a2, a3, a4, a5, a6]
    funext j
    obtain ⟨r, l, rfl⟩ : ∃ (r : Fin 983040) (l : Fin 128), j = ix2 r l := ⟨j 0, j 1, by
      funext a
      fin_cases a <;> rfl⟩
    exact ExpertsRef.composed_apply _ _ _ _ _ _ _ hr.lo_lt hr.hi_lt r l

/-- The reference of the projection into mixer C runs, keeps its arguments, and has no semaphore. -/
theorem projC_reference_frame (m : (ℓ : Loc ProjCRefIdeal.nD ProjCRefIdeal.τ ProjCRefIdeal.sig) → Buf (Elt Ideal) ℓ) (g : Dev ProjCRefIdeal.nD → PrngReg) :
    θ_run (ProjCRefIdeal.defs (F := Ideal)) (onTc (τ := ProjCRefIdeal.τ) (ProjCRefIdeal.main (F := Ideal))) ⟨m, fun _ => 0, g⟩ (fun r => (∀ c : Dev ProjCRefIdeal.nD,
      r.2.mem ((c.tc : Thread ProjCRefIdeal.nD ProjCRefIdeal.τ).loc ProjCRefIdeal.main_arg0) = m ((c.tc : Thread ProjCRefIdeal.nD ProjCRefIdeal.τ).loc ProjCRefIdeal.main_arg0)
      ∧ r.2.mem ((c.tc : Thread ProjCRefIdeal.nD ProjCRefIdeal.τ).loc ProjCRefIdeal.main_arg1) = m ((c.tc : Thread ProjCRefIdeal.nD ProjCRefIdeal.τ).loc ProjCRefIdeal.main_arg1)
      ∧ r.2.mem ((c.tc : Thread ProjCRefIdeal.nD ProjCRefIdeal.τ).loc ProjCRefIdeal.main_arg2) = m ((c.tc : Thread ProjCRefIdeal.nD ProjCRefIdeal.τ).loc ProjCRefIdeal.main_arg2))
      ∧ r.2.sem = fun _ => 0) :=
  (θ_run _ _ _).mono (fun r h => ⟨fun c => (h c).2, Idealize.ShloMosaic.sem_eq_zero_of_no_sems (by decide) r.2⟩) (ProjCRefIdeal.Value.run (F := Ideal) m g)

/-- The two programs of the projection into mixer C compute the same array. -/
theorem algebraic_projC : Cert.algebraic_ProjCIdeal_ProjCRefIdeal (hProjCIdeal := ProjCIdeal.Gen.facts) (hProjCRefIdeal := ProjCRefIdeal.Gen.facts) := by
  intro m g m' g' _ hargs
  refine ⟨fun c => ProjCValue.launched m c, ?_, ?_⟩
  · exact (θ_run _ _ _).mono (fun r h c => ⟨(h c).1.trans (ProjCValue.array m c), (h c).2⟩) (ProjCIdeal.Value.run_blocks m g)
  · refine (θ_run _ _ _).mono (fun r h c => ⟨(h c).1.trans ?_, (h c).2⟩) (ProjCRefIdeal.Value.run (F := Ideal) m' g')
    obtain ⟨a0, a1, a2⟩ := hargs c
    show ProjCValue.composed (m' ((c.tc : Thread ProjCRefIdeal.nD ProjCRefIdeal.τ).loc ProjCRefIdeal.main_arg0)) (m' ((c.tc : Thread ProjCRefIdeal.nD ProjCRefIdeal.τ).loc ProjCRefIdeal.main_arg1)) (m' ((c.tc : Thread ProjCRefIdeal.nD ProjCRefIdeal.τ).loc ProjCRefIdeal.main_arg2)) = _
    rw [a0, a1, a2]
    funext j
    obtain ⟨r, l, rfl⟩ : ∃ (r : Fin 32768) (l : Fin 3072), j = ix2 r l := ⟨j 0, j 1, by
      funext a
      fin_cases a <;> rfl⟩
    exact ProjCValue.composed_apply _ _ _ r l

/-- The reference of the projection into mixers A and B runs, keeps its arguments, and has no semaphore. -/
theorem projAB_reference_frame (m : (ℓ : Loc ProjABRefIdeal.nD ProjABRefIdeal.τ ProjABRefIdeal.sig) → Buf (Elt Ideal) ℓ) (g : Dev ProjABRefIdeal.nD → PrngReg) :
    θ_run (ProjABRefIdeal.defs (F := Ideal)) (onTc (τ := ProjABRefIdeal.τ) (ProjABRefIdeal.main (F := Ideal))) ⟨m, fun _ => 0, g⟩ (fun r => (∀ c : Dev ProjABRefIdeal.nD,
      r.2.mem ((c.tc : Thread ProjABRefIdeal.nD ProjABRefIdeal.τ).loc ProjABRefIdeal.main_arg0) = m ((c.tc : Thread ProjABRefIdeal.nD ProjABRefIdeal.τ).loc ProjABRefIdeal.main_arg0)
      ∧ r.2.mem ((c.tc : Thread ProjABRefIdeal.nD ProjABRefIdeal.τ).loc ProjABRefIdeal.main_arg1) = m ((c.tc : Thread ProjABRefIdeal.nD ProjABRefIdeal.τ).loc ProjABRefIdeal.main_arg1)
      ∧ r.2.mem ((c.tc : Thread ProjABRefIdeal.nD ProjABRefIdeal.τ).loc ProjABRefIdeal.main_arg2) = m ((c.tc : Thread ProjABRefIdeal.nD ProjABRefIdeal.τ).loc ProjABRefIdeal.main_arg2))
      ∧ r.2.sem = fun _ => 0) :=
  (θ_run _ _ _).mono (fun r h => ⟨fun c => (h c).2.2, Idealize.ShloMosaic.sem_eq_zero_of_no_sems (by decide) r.2⟩) (ProjABRefIdeal.Value.run (F := Ideal) m g)

/-- The two programs of the projection into mixers A and B compute the same arrays. -/
theorem algebraic_projAB : Cert.algebraic_ProjABIdeal_ProjABRefIdeal (hProjABIdeal := ProjABIdeal.Gen.facts) (hProjABRefIdeal := ProjABRefIdeal.Gen.facts) := by
  intro m g m' g' _ hargs
  refine ⟨fun c => ProjABValue.launched m c, fun c => ProjABValue.launchedLanes m c, ?_, ?_⟩
  · exact (θ_run _ _ _).mono (fun r h c => ⟨(h c).1.trans (ProjABValue.array m c), (h c).2.1.trans (ProjABValue.lanes_array m c), (h c).2.2⟩) (ProjABIdeal.Value.run_blocks m g)
  · refine (θ_run _ _ _).mono (fun r h c => ⟨(h c).1.trans ?_, (h c).2.1.trans ?_, (h c).2.2⟩) (ProjABRefIdeal.Value.run (F := Ideal) m' g')
    · obtain ⟨a0, a1, a2⟩ := hargs c
      show ProjABValue.composed (m' ((c.tc : Thread ProjABRefIdeal.nD ProjABRefIdeal.τ).loc ProjABRefIdeal.main_arg0)) (m' ((c.tc : Thread ProjABRefIdeal.nD ProjABRefIdeal.τ).loc ProjABRefIdeal.main_arg1)) (m' ((c.tc : Thread ProjABRefIdeal.nD ProjABRefIdeal.τ).loc ProjABRefIdeal.main_arg2)) = _
      rw [a0, a1, a2]
      funext j
      obtain ⟨r, l, rfl⟩ : ∃ (r : Fin 32768) (l : Fin 2688), j = ix2 r l := ⟨j 0, j 1, by
        funext a
        fin_cases a <;> rfl⟩
      exact ProjABValue.composed_apply _ _ _ r l
    · obtain ⟨a0, a1, a2⟩ := hargs c
      show ProjABValue.composedLanes (m' ((c.tc : Thread ProjABRefIdeal.nD ProjABRefIdeal.τ).loc ProjABRefIdeal.main_arg0)) (m' ((c.tc : Thread ProjABRefIdeal.nD ProjABRefIdeal.τ).loc ProjABRefIdeal.main_arg1)) (m' ((c.tc : Thread ProjABRefIdeal.nD ProjABRefIdeal.τ).loc ProjABRefIdeal.main_arg2)) = _
      rw [a0, a1, a2]
      funext j
      obtain ⟨r, l, rfl⟩ : ∃ (r : Fin 32768) (l : Fin 128), j = ix2 r l := ⟨j 0, j 1, by
        funext a
        fin_cases a <;> rfl⟩
      exact ProjABValue.composedLanes_apply _ _ _ r l

/-- The reference of the projection out of mixers A and B runs, keeps its arguments, and has no semaphore. -/
theorem outAB_reference_frame (m : (ℓ : Loc OutABRefIdeal.nD OutABRefIdeal.τ OutABRefIdeal.sig) → Buf (Elt Ideal) ℓ) (g : Dev OutABRefIdeal.nD → PrngReg) :
    θ_run (OutABRefIdeal.defs (F := Ideal)) (onTc (τ := OutABRefIdeal.τ) (OutABRefIdeal.main (F := Ideal))) ⟨m, fun _ => 0, g⟩ (fun r => (∀ c : Dev OutABRefIdeal.nD,
      r.2.mem ((c.tc : Thread OutABRefIdeal.nD OutABRefIdeal.τ).loc OutABRefIdeal.main_arg0) = m ((c.tc : Thread OutABRefIdeal.nD OutABRefIdeal.τ).loc OutABRefIdeal.main_arg0)
      ∧ r.2.mem ((c.tc : Thread OutABRefIdeal.nD OutABRefIdeal.τ).loc OutABRefIdeal.main_arg1) = m ((c.tc : Thread OutABRefIdeal.nD OutABRefIdeal.τ).loc OutABRefIdeal.main_arg1)
      ∧ r.2.mem ((c.tc : Thread OutABRefIdeal.nD OutABRefIdeal.τ).loc OutABRefIdeal.main_arg2) = m ((c.tc : Thread OutABRefIdeal.nD OutABRefIdeal.τ).loc OutABRefIdeal.main_arg2)
      ∧ r.2.mem ((c.tc : Thread OutABRefIdeal.nD OutABRefIdeal.τ).loc OutABRefIdeal.main_arg3) = m ((c.tc : Thread OutABRefIdeal.nD OutABRefIdeal.τ).loc OutABRefIdeal.main_arg3))
      ∧ r.2.sem = fun _ => 0) :=
  (θ_run _ _ _).mono (fun r h => ⟨fun c => (h c).2, Idealize.ShloMosaic.sem_eq_zero_of_no_sems (by decide) r.2⟩) (OutABRefIdeal.Value.run (F := Ideal) m g)

/-- The two programs of the projection out of mixers A and B compute the same array. -/
theorem algebraic_outAB : Cert.algebraic_OutABIdeal_OutABRefIdeal (hOutABIdeal := OutABIdeal.Gen.facts) (hOutABRefIdeal := OutABRefIdeal.Gen.facts) := by
  intro m g m' g' _ hargs
  refine ⟨fun c => OutABValue.launched m c, ?_, ?_⟩
  · exact (θ_run _ _ _).mono (fun r h c => ⟨(h c).1.trans (OutABValue.array m c), (h c).2⟩) (OutABIdeal.Value.run_blocks m g)
  · refine (θ_run _ _ _).mono (fun r h c => ⟨(h c).1.trans ?_, (h c).2⟩) (OutABRefIdeal.Value.run (F := Ideal) m' g')
    obtain ⟨a0, a1, a2, a3⟩ := hargs c
    show OutABValue.composed (m' ((c.tc : Thread OutABRefIdeal.nD OutABRefIdeal.τ).loc OutABRefIdeal.main_arg0)) (m' ((c.tc : Thread OutABRefIdeal.nD OutABRefIdeal.τ).loc OutABRefIdeal.main_arg1)) (m' ((c.tc : Thread OutABRefIdeal.nD OutABRefIdeal.τ).loc OutABRefIdeal.main_arg2)) (m' ((c.tc : Thread OutABRefIdeal.nD OutABRefIdeal.τ).loc OutABRefIdeal.main_arg3)) = _
    rw [a0, a1, a2, a3]
    funext j
    obtain ⟨r, l, rfl⟩ : ∃ (r : Fin 32768) (l : Fin 1024), j = ix2 r l := ⟨j 0, j 1, by
      funext a
      fin_cases a <;> rfl⟩
    exact OutABValue.composed_apply _ _ _ _ r l

/-- The reference of the projection out of mixer C runs, keeps its arguments, and has no semaphore. -/
theorem outC_reference_frame (m : (ℓ : Loc OutCRefIdeal.nD OutCRefIdeal.τ OutCRefIdeal.sig) → Buf (Elt Ideal) ℓ) (g : Dev OutCRefIdeal.nD → PrngReg) :
    θ_run (OutCRefIdeal.defs (F := Ideal)) (onTc (τ := OutCRefIdeal.τ) (OutCRefIdeal.main (F := Ideal))) ⟨m, fun _ => 0, g⟩ (fun r => (∀ c : Dev OutCRefIdeal.nD,
      r.2.mem ((c.tc : Thread OutCRefIdeal.nD OutCRefIdeal.τ).loc OutCRefIdeal.main_arg0) = m ((c.tc : Thread OutCRefIdeal.nD OutCRefIdeal.τ).loc OutCRefIdeal.main_arg0)
      ∧ r.2.mem ((c.tc : Thread OutCRefIdeal.nD OutCRefIdeal.τ).loc OutCRefIdeal.main_arg1) = m ((c.tc : Thread OutCRefIdeal.nD OutCRefIdeal.τ).loc OutCRefIdeal.main_arg1)
      ∧ r.2.mem ((c.tc : Thread OutCRefIdeal.nD OutCRefIdeal.τ).loc OutCRefIdeal.main_arg2) = m ((c.tc : Thread OutCRefIdeal.nD OutCRefIdeal.τ).loc OutCRefIdeal.main_arg2))
      ∧ r.2.sem = fun _ => 0) :=
  (θ_run _ _ _).mono (fun r h => ⟨fun c => (h c).2, Idealize.ShloMosaic.sem_eq_zero_of_no_sems (by decide) r.2⟩) (OutCRefIdeal.Value.run (F := Ideal) m g)

/-- The two programs of the projection out of mixer C compute the same array. -/
theorem algebraic_outC : Cert.algebraic_OutCIdeal_OutCRefIdeal (hOutCIdeal := OutCIdeal.Gen.facts) (hOutCRefIdeal := OutCRefIdeal.Gen.facts) := by
  intro m g m' g' _ hargs
  refine ⟨fun c => OutCValue.launched m c, ?_, ?_⟩
  · exact (θ_run _ _ _).mono (fun r h c => ⟨(h c).1.trans (OutCValue.array m c), (h c).2⟩) (OutCIdeal.Value.run_blocks m g)
  · refine (θ_run _ _ _).mono (fun r h c => ⟨(h c).1.trans ?_, (h c).2⟩) (OutCRefIdeal.Value.run (F := Ideal) m' g')
    obtain ⟨a0, a1, a2⟩ := hargs c
    show OutCValue.composed (m' ((c.tc : Thread OutCRefIdeal.nD OutCRefIdeal.τ).loc OutCRefIdeal.main_arg0)) (m' ((c.tc : Thread OutCRefIdeal.nD OutCRefIdeal.τ).loc OutCRefIdeal.main_arg1)) (m' ((c.tc : Thread OutCRefIdeal.nD OutCRefIdeal.τ).loc OutCRefIdeal.main_arg2)) = _
    rw [a0, a1, a2]
    funext j
    obtain ⟨r, l, rfl⟩ : ∃ (r : Fin 32768) (l : Fin 1024), j = ix2 r l := ⟨j 0, j 1, by
      funext a
      fin_cases a <;> rfl⟩
    exact OutCValue.composed_apply _ _ _ r l

/-- The router's reference runs, keeps its arguments, and has no semaphore. -/
theorem router_reference_frame (m : (ℓ : Loc RouterRefIdeal.nD RouterRefIdeal.τ RouterRefIdeal.sig) → Buf (Elt Ideal) ℓ) (g : Dev RouterRefIdeal.nD → PrngReg) :
    θ_run (RouterRefIdeal.defs (F := Ideal)) (onTc (τ := RouterRefIdeal.τ) (RouterRefIdeal.main (F := Ideal))) ⟨m, fun _ => 0, g⟩ (fun r => (∀ c : Dev RouterRefIdeal.nD,
      r.2.mem ((c.tc : Thread RouterRefIdeal.nD RouterRefIdeal.τ).loc RouterRefIdeal.main_arg0) = m ((c.tc : Thread RouterRefIdeal.nD RouterRefIdeal.τ).loc RouterRefIdeal.main_arg0)
      ∧ r.2.mem ((c.tc : Thread RouterRefIdeal.nD RouterRefIdeal.τ).loc RouterRefIdeal.main_arg1) = m ((c.tc : Thread RouterRefIdeal.nD RouterRefIdeal.τ).loc RouterRefIdeal.main_arg1)
      ∧ r.2.mem ((c.tc : Thread RouterRefIdeal.nD RouterRefIdeal.τ).loc RouterRefIdeal.main_arg2) = m ((c.tc : Thread RouterRefIdeal.nD RouterRefIdeal.τ).loc RouterRefIdeal.main_arg2)
      ∧ r.2.mem ((c.tc : Thread RouterRefIdeal.nD RouterRefIdeal.τ).loc RouterRefIdeal.main_arg3) = m ((c.tc : Thread RouterRefIdeal.nD RouterRefIdeal.τ).loc RouterRefIdeal.main_arg3)
      ∧ r.2.mem ((c.tc : Thread RouterRefIdeal.nD RouterRefIdeal.τ).loc RouterRefIdeal.main_arg4) = m ((c.tc : Thread RouterRefIdeal.nD RouterRefIdeal.τ).loc RouterRefIdeal.main_arg4)
      ∧ r.2.mem ((c.tc : Thread RouterRefIdeal.nD RouterRefIdeal.τ).loc RouterRefIdeal.main_arg5) = m ((c.tc : Thread RouterRefIdeal.nD RouterRefIdeal.τ).loc RouterRefIdeal.main_arg5))
      ∧ r.2.sem = fun _ => 0) :=
  (θ_run _ _ _).mono (fun r h => ⟨fun c => (h c).2.2, Idealize.ShloMosaic.sem_eq_zero_of_no_sems (by decide) r.2⟩) (RouterRefIdeal.Value.run (F := Ideal) m g)

/-- The two programs of the router compute the same classes and the same weights. -/
theorem algebraic_router (hp : Cert.Pre_numbers.Facts) : Cert.algebraic_RouterIdeal_RouterRefIdeal_pre_numbers (hRouterIdeal := RouterIdeal.Gen.facts)
    (hRouterRefIdeal := RouterRefIdeal.Gen.facts) (hPre_numbers := hp) := by
  intro m g m' g' hpre hargs
  have hf := fun c => RouterPre.numbers _ _ _ _ _ _ (hpre c)
  refine ⟨fun c => RouterValue.classes m c, fun c => RouterValue.shares m c, ?_, ?_⟩
  · exact (θ_run _ _ _).mono (fun r h c => ⟨(h c).1.trans (RouterValue.array_4 m hf c), (h c).2.1.trans (RouterValue.array_5 m hf c), (h c).2.2⟩) (RouterIdeal.Value.run_blocks m g)
  · refine (θ_run _ _ _).mono (fun r h c => ⟨(h c).1.trans ?_, (h c).2.1.trans ?_, (h c).2.2⟩) (RouterRefIdeal.Value.run (F := Ideal) m' g')
    · obtain ⟨a0, a1, a2, a3, a4, a5⟩ := hargs c
      show RouterRef.composedClasses (m' ((c.tc : Thread RouterRefIdeal.nD RouterRefIdeal.τ).loc RouterRefIdeal.main_arg0))
        (m' ((c.tc : Thread RouterRefIdeal.nD RouterRefIdeal.τ).loc RouterRefIdeal.main_arg1))
        (m' ((c.tc : Thread RouterRefIdeal.nD RouterRefIdeal.τ).loc RouterRefIdeal.main_arg2))
        (m' ((c.tc : Thread RouterRefIdeal.nD RouterRefIdeal.τ).loc RouterRefIdeal.main_arg3))
        (m' ((c.tc : Thread RouterRefIdeal.nD RouterRefIdeal.τ).loc RouterRefIdeal.main_arg4))
        (m' ((c.tc : Thread RouterRefIdeal.nD RouterRefIdeal.τ).loc RouterRefIdeal.main_arg5)) = _
      rw [a0, a1, a2, a3, a4, a5]
      funext j
      obtain ⟨r, l, rfl⟩ : ∃ (r : Fin 32768) (l : Fin 128), j = ix2 r l := ⟨j 0, j 1, by
        funext a
        fin_cases a <;> rfl⟩
      exact RouterRef.composedClasses_apply (hf c) r l
    · obtain ⟨a0, a1, a2, a3, a4, a5⟩ := hargs c
      show RouterRef.composedShares (m' ((c.tc : Thread RouterRefIdeal.nD RouterRefIdeal.τ).loc RouterRefIdeal.main_arg0))
        (m' ((c.tc : Thread RouterRefIdeal.nD RouterRefIdeal.τ).loc RouterRefIdeal.main_arg1))
        (m' ((c.tc : Thread RouterRefIdeal.nD RouterRefIdeal.τ).loc RouterRefIdeal.main_arg2))
        (m' ((c.tc : Thread RouterRefIdeal.nD RouterRefIdeal.τ).loc RouterRefIdeal.main_arg3))
        (m' ((c.tc : Thread RouterRefIdeal.nD RouterRefIdeal.τ).loc RouterRefIdeal.main_arg4))
        (m' ((c.tc : Thread RouterRefIdeal.nD RouterRefIdeal.τ).loc RouterRefIdeal.main_arg5)) = _
      rw [a0, a1, a2, a3, a4, a5]
      funext j
      obtain ⟨r, l, rfl⟩ : ∃ (r : Fin 32768) (l : Fin 128), j = ix2 r l := ⟨j 0, j 1, by
        funext a
        fin_cases a <;> rfl⟩
      exact RouterRef.composedShares_apply (hf c) r l

theorem claim : Cert.Claim :=
  ⟨Cert.Band.Gen.facts, Cert.BandIdeal.Gen.facts, Cert.BandRefIdeal.Gen.facts, Cert.Experts.Gen.facts, Cert.ExpertsIdeal.Gen.facts, Cert.ExpertsRefIdeal.Gen.facts,
    Cert.ProjC.Gen.facts, Cert.ProjCIdeal.Gen.facts, Cert.ProjCRefIdeal.Gen.facts,
    Cert.ProjAB.Gen.facts, Cert.ProjABIdeal.Gen.facts, Cert.ProjABRefIdeal.Gen.facts,
    Cert.OutAB.Gen.facts, Cert.OutABIdeal.Gen.facts, Cert.OutABRefIdeal.Gen.facts,
    Cert.OutC.Gen.facts, Cert.OutCIdeal.Gen.facts, Cert.OutCRefIdeal.Gen.facts,
    Cert.Router.Gen.facts, Cert.RouterIdeal.Gen.facts, Cert.RouterRefIdeal.Gen.facts,
    BandPre.facts,
    Cert.Pre_experts_in_range.Gen.facts, Cert.Pre_numbers.Gen.facts,
    fun m g _ => Cert.Band.Gen.frame m g, fun m g _ => Cert.BandIdeal.Gen.frame m g, fun m g _ => Cert.BandIdeal.Gen.frame m g,
    fun m g _ => reference_frame m g, fun m g _ => reference_frame m g,
    fun m g h => Cert.Experts.Hand.frame m g h, fun m g h => Cert.ExpertsIdeal.Hand.frame m g h,
    fun m g _ => experts_reference_frame m g, fun m g _ => experts_reference_frame m g,
    fun m g _ => Cert.ProjC.Gen.frame m g, fun m g _ => Cert.ProjCIdeal.Gen.frame m g, fun m g _ => projC_reference_frame m g,
    fun m g _ => Cert.ProjAB.Gen.frame m g, fun m g _ => Cert.ProjABIdeal.Gen.frame m g, fun m g _ => projAB_reference_frame m g,
    fun m g _ => Cert.OutAB.Gen.frame m g, fun m g _ => Cert.OutABIdeal.Gen.frame m g, fun m g _ => outAB_reference_frame m g,
    fun m g _ => Cert.OutC.Gen.frame m g, fun m g _ => Cert.OutCIdeal.Gen.frame m g, fun m g _ => outC_reference_frame m g,
    fun m g _ => Cert.Router.Gen.frame m g, fun m g _ => Cert.RouterIdeal.Gen.frame m g, fun m g _ => Cert.RouterIdeal.Gen.frame m g,
    fun m g _ => router_reference_frame m g, fun m g _ => router_reference_frame m g,
    trivial, algebraic_band _, trivial, algebraic_experts,
    trivial, algebraic_projC, trivial, algebraic_projAB, trivial, algebraic_outAB, trivial, algebraic_outC,
    trivial, algebraic_router _⟩

end Cert.Proof

end
